-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_p0 [hPre_finite_p0 : Cert.Pre_finite_p0.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_p0.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_p0 [hPre_finite_p0 : Cert.Pre_finite_p0.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_p0.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_p0 [hKernel5Ideal : Cert.Kernel5Ideal.Facts] [hPre_finite_p0 : Cert.Pre_finite_p0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_p0 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_p0 [hReference5Ideal : Cert.Reference5Ideal.Facts] [hPre_finite_p0 : Cert.Pre_finite_p0.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_p0 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v37)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_p0 [hKernel5Ideal : Cert.Kernel5Ideal.Facts] [hReference5Ideal : Cert.Reference5Ideal.Facts] [hPre_finite_p0 : Cert.Pre_finite_p0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_p0 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v58_0)) (v1 : (c : Dev Cert.Kernel6Ideal.nD) → Buf (Elt Ideal) ((c.tc : Thread Cert.Kernel6Ideal.nD Cert.Kernel6Ideal.τ).loc Cert.Kernel6Ideal.main_v58_1)) (v2 : (c : Dev Cert.Kernel6Ideal.nD) → Buf (Elt Ideal) ((c.tc : Thread Cert.Kernel6Ideal.nD Cert.Kernel6Ideal.τ).loc Cert.Kernel6Ideal.main_v58_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v58_0) = v0 c
          ∧ r.2.mem ((c.tc : Thread Cert.Kernel6Ideal.nD Cert.Kernel6Ideal.τ).loc Cert.Kernel6Ideal.main_v58_1) = v1 c
          ∧ r.2.mem ((c.tc : Thread Cert.Kernel6Ideal.nD Cert.Kernel6Ideal.τ).loc Cert.Kernel6Ideal.main_v58_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_v98) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v256) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_p0 : Cert.Pre_finite_p0.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_p0 (hKernel5Ideal := hKernel5Ideal) (hPre_finite_p0 := hPre_finite_p0)
    ∧ quiescent_Reference5Ideal (hReference5Ideal := hReference5Ideal)
    ∧ quiescent_Reference5Ideal_pre_finite_p0 (hReference5Ideal := hReference5Ideal) (hPre_finite_p0 := hPre_finite_p0)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_p0 (hKernel5Ideal := hKernel5Ideal) (hReference5Ideal := hReference5Ideal) (hPre_finite_p0 := hPre_finite_p0)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_p0.lean ====
abbrev S8x2048x2560 : Shape := ⟨3, ![8, 2048, 2560]⟩
abbrev S64 : Shape := ⟨1, ![64]⟩
abbrev S128 : Shape := ⟨1, ![128]⟩
abbrev S8x2048x1536 : Shape := ⟨3, ![8, 2048, 1536]⟩
abbrev S_ : Shape := ⟨0, ![]⟩

class Facts : Prop where
  slices_S8x2048x2560_S8x2048x1536_0_0_0 : S8x2048x2560.Slices ![0, 0, 0] S8x2048x1536
  bitsLt_bf16_f32 : FTy.bits .bf16 < FTy.bits .f32
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  main_v25

def fn {F : FTy → Type} [FloatOps F] (main_arg0 : FVec F S8x2048x2560 .bf16) (main_arg1 : FVec F S64 .f32) (main_arg2 : FVec F S64 .f32) (main_arg3 : FVec F S64 .f32) (main_arg4 : FVec F S64 .f32) (main_arg5 : FVec F S128 .f32) : IVec S_ 1 :=
  let main_v0 : FVec F S8x2048x1536 .bf16 := (extractStridedSlice S8x2048x1536 ![0, 0, 0] · slices_S8x2048x2560_S8x2048x1536_0_0_0) main_arg0
  let main_v1 : FVec F S8x2048x1536 .f32 := (extf .f32 · bitsLt_bf16_f32) main_v0
  let main_v2 : FVec F S8x2048x1536 .f32 := Host.absf main_v1
  let main_cst : FVec F S_ .f32 := constant S_ .f32 0x7F800000#32
  let main_v3 : FVec F S8x2048x1536 .f32 := broadcastInDim S8x2048x1536 ![] bcast_S_S8x2048x1536 main_cst
  let main_v4 : IVec S8x2048x1536 1 := cmpf .olt main_v2 main_v3
  let main_c : IVec S_ 1 := constantI S_ 1 1#1
  let main_v5 : IVec S_ 1 := (fun x v => Host.reduce IntOp.andi x v reducesTo_S8x2048x1536_S_d0_1_2 h_S_) main_v4 main_c
  let main_v6 : FVec F S64 .f32 := Host.absf main_arg1
  let main_cst_0 : FVec F S_ .f32 := constant S_ .f32 0x7F800000#32
  let main_v7 : FVec F S64 .f32 := broadcastInDim S64 ![] bcast_S_S64 main_cst_0
  let main_v8 : IVec S64 1 := cmpf .olt main_v6 main_v7
  let main_c_1 : IVec S_ 1 := constantI S_ 1 1#1
  let main_v9 : IVec S_ 1 := (fun x v => Host.reduce IntOp.andi x v reducesTo_S64_S_d0 h_S_) main_v8 main_c_1
  let main_v10 : IVec S_ 1 := andi main_v5 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_v15 main_v16 main_cst_4
-- ==== Pre_finite_qk.lean ====
abbrev S8x2048x1536 : Shape := ⟨3, ![8, 2048, 1536]⟩
abbrev S8x2048x768 : Shape := ⟨3, ![8, 2048, 768]⟩
abbrev S_ : Shape := ⟨0, ![]⟩

class Facts : Prop where
  bitsLt_bf16_f32 : FTy.bits .bf16 < FTy.bits .f32
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel

variable [Facts]

def fn {F : FTy → Type} [FloatOps F] (main_arg0 : FVec F S8x2048x1536 .bf16) (main_arg1 : FVec F S8x2048x1536 .bf16) (main_arg2 : FVec F S8x2048x768 .bf16) : IVec S_ 1 :=
  let main_v0 : FVec F S8x2048x1536 .f32 := (extf .f32 · bitsLt_bf16_f32) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  let main_c : IVec S_ 1 := constantI S_ 1 1#1
  let main_v4 : IVec S_ 1 := (fun x v => Host.reduce IntOp.andi x v reducesTo_S8x2048x1536_S_d0_1_2 h_S_) main_v3 main_c
  let main_v5 : FVec F S8x2048x1536 .f32 := (extf .f32 · bitsLt_bf16_f32) main_arg1
  let main_v6 : FVec F S8x2048x1536 .f32 := Host.absf main_v5
  let main_cst_0 : FVec F S_ .f32 := constant S_ .f32 0x7F800000#32
  let main_v7 : FVec F S8x2048x1536 .f32 := broadcastInDim S8x2048x1536 ![] bcast_S_S8x2048x1536 main_cst_0
  let main_v8 : IVec S8x2048x1536 1 := cmpf .olt main_v6 main_v7
  let main_c_1 : IVec S_ 1 := constantI S_ 1 1#1
  let main_v9 : IVec S_ 1 := (fun x v => Host.reduce IntOp.andi x v reducesTo_S8x2048x1536_S_d0_1_2 h_S_) main_v8 main_c_1
  let main_v10 : IVec S_ 1 := andi main_v4 main_v9
  main_v10
-- ==== Kernel.lean ====
abbrev S8x2048x1536 : Shape := ⟨3, ![8, 2048, 1536]⟩
abbrev S8x2048x768 : Shape := ⟨3, ![8, 2048, 768]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S1x256x1 : Shape := ⟨3, ![1, 256, 1]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x768, .bf16⟩
  | .hbm, ⟨3, _⟩ => ⟨S8x2048x768, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x1, .f32⟩
  | .local _ .vmem, ⟨9, _⟩ => ⟨S1x256x1, .f32⟩
  | .local _ .vmem, ⟨10, _⟩ => ⟨S1x256x128, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 8], ![false, false, false]⟩

@[reducible] def k0_t1_loop (i : grid0.Coords) : Scf.Loop 32 :=
  let c0_i32_13 : BitVec 32 := 0#32
  let arg2 : BitVec 32 := BitVec.ofNat 32 (i 2).val
  let v14 : BitVec 32 := Scalar.subi arg2 c0_i32_13
  let c1_i32 : BitVec 32 := 1#32
  let v16 : BitVec 32 := Scalar.divsi v14 c1_i32
  let v17 : BitVec 32 := Scalar.muli v16 c1_i32
  let v18 : BitVec 32 := Scalar.addi c0_i32_13 v17
  let c1_i32_14 : BitVec 32 := 1#32
  ⟨c0_i32_13, v18, c1_i32_14⟩
def k0_mult1 (i : grid0.Coords) (k0_t1 : Fin (k0_t1_loop i).trips) : BitVec 32 :=
  let c0_i32_13 : BitVec 32 := 0#32
  let c1_i32_14 : BitVec 32 := 1#32
  let arg10 : BitVec 32 := Scf.iv c0_i32_13 c1_i32_14 k0_t1
  let c256_i32_65 : BitVec 32 := 256#32
  let v123 : BitVec 32 := Scalar.muli arg10 c256_i32_65
  v123
def k0_off1 (i : grid0.Coords) (k0_t1 : Fin (k0_t1_loop i).trips) : Fin 3 → Nat :=
  let c0_66 : Index := 0#32
  let c0_i32_13 : BitVec 32 := 0#32
  let c1_i32_14 : BitVec 32 := 1#32
  let arg10 : BitVec 32 := Scf.iv c0_i32_13 c1_i32_14 k0_t1
  let c256_i32_65 : BitVec 32 := 256#32
  let v123 : BitVec 32 := Scalar.muli arg10 c256_i32_65
  let v124 : BitVec 32 := v123
  let v125 : Index := Scalar.indexCast v124
  let c0_67 : Index := 0#32
  ![0, v125.toNat, 0]
def k0_off2 (i : grid0.Coords) (k0_t1 : Fin (k0_t1_loop i).trips) : Fin 3 → Nat :=
  let c0_68 : Index := 0#32
  let c0_i32_13 : BitVec 32 := 0#32
  let c1_i32_14 : BitVec 32 := 1#32
  let arg10 : BitVec 32 := Scf.iv c0_i32_13 c1_i32_14 k0_t1
  let c256_i32_65 : BitVec 32 := 256#32
  let v123 : BitVec 32 := Scalar.muli arg10 c256_i32_65
  let v124 : BitVec 32 := v123
  let v128 : Index := Scalar.indexCast v124
  let c0_69 : Index := 0#32
  ![0, v128.toNat, 0]
@[reducible] def k0_t2_loop (i : grid0.Coords) : Scf.Loop 32 :=
  let c0_i32_13 : BitVec 32 := 0#32
  let arg2 : BitVec 32 := BitVec.ofNat 32 (i 2).val
  let v14 : BitVec 32 := Scalar.subi arg2 c0_i32_13
  let c1_i32 : BitVec 32 := 1#32
  let v16 : BitVec 32 := Scalar.divsi v14 c1_i32
  let v17 : BitVec 32 := Scalar.muli v16 c1_i32
  let v18 : BitVec 32 := Scalar.addi c0_i32_13 v17
  let v15 : BitVec 32 := Scalar.addi c0_i32_13 v14
  let c1_i32_15 : BitVec 32 := 1#32
  ⟨v18, v15, c1_i32_15⟩
def k0_mult2 (i : grid0.Coords) (k0_t2 : Fin (k0_t2_loop i).trips) : BitVec 32 :=
  let c0_i32_13 : BitVec 32 := 0#32
  let arg2 : BitVec 32 := BitVec.ofNat 32 (i 2).val
  let v14 : BitVec 32 := Scalar.subi arg2 c0_i32_13
  let c1_i32 : BitVec 32 := 1#32
  let v16 : BitVec 32 := Scalar.divsi v14 c1_i32
  let v17 : BitVec 32 := Scalar.muli v16 c1_i32
  let v18 : BitVec 32 := Scalar.addi c0_i32_13 v17
  let c1_i32_15 : BitVec 32 := 1#32
  let arg10 : BitVec 32 := Scf.iv v18 c1_i32_15 k0_t2
  let c256_i32_65 : BitVec 32 := 256#32
  let v123 : BitVec 32 := Scalar.muli arg10 c256_i32_65
  v123
def k0_off3 (i : grid0.Coords) (k0_t2 : Fin (k0_t2_loop i).trips) : Fin 3 → Nat :=
  let c0_66 : Index := 0#32
  let c0_i32_13 : BitVec 32 := 0#32
  let arg2 : BitVec 32 := BitVec.ofNat 32 (i 2).val
  let v14 : BitVec 32 := Scalar.subi arg2 c0_i32_13
  let c1_i32 : BitVec 32 := 1#32
  let v16 : BitVec 32 := Scalar.divsi v14 c1_i32
  let v17 : BitVec 32 := Scalar.muli v16 c1_i32
  let v18 : BitVec 32 := Scalar.addi c0_i32_13 v17
  let c1_i32_15 : BitVec 32 := 1#32
  let arg10 : BitVec 32 := Scf.iv v18 c1_i32_15 k0_t2
  let c256_i32_65 : BitVec 32 := 256#32
  let v123 : BitVec 32 := Scalar.muli arg10 c256_i32_65
  let v124 : BitVec 32 := v123
  let v125 : Index := Scalar.indexCast v124
  let c0_67 : Index := 0#32
  ![0, v125.toNat, 0]
def k0_off4 (i : grid0.Coords) (k0_t2 : Fin (k0_t2_loop i).trips) : Fin 3 → Nat :=
  let c0_68 : Index := 0#32
  let c0_i32_13 : BitVec 32 := 0#32
  let arg2 : BitVec 32 := BitVec.ofNat 32 (i 2).val
  let v14 : BitVec 32 := Scalar.subi arg2 c0_i32_13
  let c1_i32 : BitVec 32 := 1#32
  let v16 : BitVec 32 := Scalar.divsi v14 c1_i32
  let v17 : BitVec 32 := Scalar.muli v16 c1_i32
  let v18 : BitVec 32 := Scalar.addi c0_i32_13 v17
  let c1_i32_15 : BitVec 32 := 1#32
  let arg10 : BitVec 32 := Scf.iv v18 c1_i32_15 k0_t2
  let c256_i32_65 : BitVec 32 := 256#32
  let v123 : BitVec 32 := Scalar.muli arg10 c256_i32_65
  let v124 : BitVec 32 := v123
  let v128 : Index := Scalar.indexCast v124
  let c0_69 : Index := 0#32
  ![0, v128.toNat, 0]
def k0_mult3 (i : grid0.Coords) : BitVec 32 :=
  let arg2 : BitVec 32 := BitVec.ofNat 32 (i 2).val
  let c256_i32 : BitVec 32 := 256#32
  let v19 : BitVec 32 := Scalar.muli arg2 c256_i32
  v19
def k0_off5 (i : grid0.Coords) : Fin 3 → Nat :=
  let c0_16 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_17 : Index := 0#32
  ![0, v21.toNat, 0]
def k0_off6 (i : grid0.Coords) : Fin 3 → Nat :=
  let c0_18 : Index := 0#32
  let arg2 : BitVec 32 := BitVec.ofNat 32 (i 2).val
  let c256_i32 : BitVec 32 := 256#32
  let v19 : BitVec 32 := Scalar.muli arg2 c256_i32
  let v20 : BitVec 32 := v19
  let v24 : Index := Scalar.indexCast v20
  let c0_19 : Index := 0#32
  ![0, v24.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x2048x1536 : Shape := ⟨3, ![8, 2048, 1536]⟩
abbrev S8x2048x768 : Shape := ⟨3, ![8, 2048, 768]⟩
abbrev S8x2048x6x256 : Shape := ⟨4, ![8, 2048, 6, 256]⟩
abbrev S8x2048x6x128 : Shape := ⟨4, ![8, 2048, 6, 128]⟩
abbrev S8x6x2048x2048 : Shape := ⟨4, ![8, 6, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x6x2048 : Shape := ⟨3, ![8, 6, 2048]⟩
abbrev S8x6x2048x1 : Shape := ⟨4, ![8, 6, 2048, 1]⟩
abbrev S8x6x128x2048 : Shape := ⟨4, ![8, 6, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x768, .bf16⟩
  | .hbm, ⟨3, _⟩ => ⟨S8x2048x1536, .f32⟩
  | .hbm, ⟨4, _⟩ => ⟨S8x2048x6x256, .f32⟩
  | .hbm, ⟨5, _⟩ => ⟨S8x2048x1536, .f32⟩
  | .hbm, ⟨6, _⟩ => ⟨S8x2048x6x256, .f32⟩
  | .hbm, ⟨7, _⟩ => ⟨S8x2048x768, .f32⟩
  | .hbm, ⟨8, _⟩ => ⟨S8x2048x6x128, .f32⟩
  | .hbm, ⟨9, _⟩ => ⟨S8x6x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x2048, .i32⟩
  | .hbm, ⟨50, _⟩ => ⟨S2048x2048, .i32⟩
  | .hbm, ⟨51, _⟩ => ⟨S2048x2048, .i1⟩
  | .hbm, ⟨52, _⟩ => ⟨S_, .f32⟩
  | .hbm, ⟨53, _⟩ => ⟨S_, .f32⟩
  | .hbm, ⟨54, _⟩ => ⟨S8x6x2048x2048, .i1⟩
  | .hbm, ⟨55, _⟩ => ⟨S8x6x2048x2048, .f32⟩
  | .hbm, ⟨56, _⟩ => ⟨S8x6x2048x2048, .f32⟩
  | .hbm, ⟨57, _⟩ => ⟨S_, .f32⟩
  | .hbm, ⟨58, _⟩ => ⟨S8x6x2048, .f32⟩
  | .hbm, ⟨59, _⟩ => ⟨S_, .f32⟩
  | .hbm, ⟨60, _⟩ => ⟨S8x6x2048, .f32⟩
  | .hbm, ⟨61, _⟩ => ⟨S8x6x2048, .f32⟩
  | .hbm, ⟨62, _⟩ => ⟨S8x6x2048x1, .f32⟩
  | .hbm, ⟨63, _⟩ => ⟨S8x6x2048x2048, .f32⟩
  | .hbm, ⟨64, _⟩ => ⟨S8x6x2048x2048, .f32⟩
  | .hbm, ⟨65, _⟩ => ⟨S8x6x2048x2048, .f32⟩
  | .hbm, ⟨66, _⟩ => ⟨S_, .f32⟩
  | .hbm, ⟨67, _⟩ => ⟨S8x6x2048, .f32⟩
  | .hbm, ⟨68, _⟩ => ⟨S8x6x2048x1, .f32⟩
  | .hbm, ⟨69, _⟩ => ⟨S8x6x2048x2048, .f32⟩
  | .hbm, ⟨70, _⟩ => ⟨S8x6x2048x2048, .f32⟩
  | .hbm, ⟨71, _⟩ => ⟨S8x6x128x2048, .f32⟩
  | .hbm, ⟨72, _⟩ => ⟨S8x2048x6x128, .f32⟩
  | .hbm, ⟨73, _⟩ => ⟨S8x2048x768, .f32⟩
  | .hbm, ⟨74, _⟩ => ⟨S8x2048x768, .bf16⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x704 : Shape := ⟨2, ![1024, 704]⟩
abbrev S16384x1024 : Shape := ⟨2, ![16384, 1024]⟩
abbrev S_ : Shape := ⟨0, ![]⟩
abbrev S1024x768 : Shape := ⟨2, ![1024, 768]⟩
abbrev S16384x512 : Shape := ⟨2, ![16384, 512]⟩
abbrev S1x1024 : Shape := ⟨2, ![1, 1024]⟩
abbrev S16384x768 : Shape := ⟨2, ![16384, 768]⟩
abbrev S512x1024 : Shape := ⟨2, ![512, 1024]⟩
abbrev S512x512 : Shape := ⟨2, ![512, 512]⟩
abbrev S512x768 : Shape := ⟨2, ![512, 768]⟩
abbrev S512x2816 : Shape := ⟨2, ![512, 2816]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 29
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x704, .f32⟩
  | .hbm, ⟨12, _⟩ => ⟨S16384x1024, .f32⟩
  | .hbm, ⟨13, _⟩ => ⟨S_, .i32⟩
  | .hbm, ⟨14, _⟩ => ⟨S_, .f32⟩
  | .hbm, ⟨15, _⟩ => ⟨S1024x768, .f32⟩
  | .hbm, ⟨16, _⟩ => ⟨S1024x768, .bf16⟩
  | .hbm, ⟨17, _⟩ => ⟨S16384x512, .bf16⟩
  | .hbm, ⟨18, _⟩ => ⟨S16384x512, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1024x2816, .bf16⟩
  | .hbm, ⟨23, _⟩ => ⟨S1024x2816, .bf16⟩
  | .hbm, ⟨24, _⟩ => ⟨S2816x1024, .bf16⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S1024x768, .bf16⟩
  | .local _ .vmem, ⟨15, _⟩ => ⟨S512x1024, .f32⟩
  | .local _ .vmem, ⟨16, _⟩ => ⟨S512x1024, .f32⟩
  | .local _ .vmem, ⟨17, _⟩ => ⟨S512x768, .f32⟩
  | .local _ .vmem, ⟨18, _⟩ => ⟨S512x768, .f32⟩
  | .local _ .vmem, ⟨19, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x704 : Shape := ⟨2, ![1024, 704]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x704 : Shape := ⟨2, ![16384, 704]⟩
abbrev S16384x768 : Shape := ⟨2, ![16384, 768]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x704, .f32⟩
  | .hbm, ⟨12, _⟩ => ⟨S16384x1024, .f32⟩
  | .hbm, ⟨13, _⟩ => ⟨S8x2048x1024, .bf16⟩
  | .hbm, ⟨14, _⟩ => ⟨S8x2048x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S1x1024, .f32⟩
  | .hbm, ⟨94, _⟩ => ⟨S16384x1024, .f32⟩
  | .hbm, ⟨95, _⟩ => ⟨S16384x1024, .f32⟩
  | .hbm, ⟨96, _⟩ => ⟨S16384x704, .f32⟩
  | .hbm, ⟨97, _⟩ => ⟨S_, .i32⟩
  | .hbm, ⟨98, _⟩ => ⟨S_, .f32⟩
  | .hbm, ⟨99, _⟩ => ⟨S16384x768, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c : Ref sig .tc := ⟨.hbm, 97, rfl⟩
abbrev main_call1_v0 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Kernel3.lean ====
abbrev S16384x1024 : Shape := ⟨2, ![16384, 1024]⟩
abbrev S8x2048x256 : Shape := ⟨3, ![8, 2048, 256]⟩
abbrev S8x2048x768 : Shape := ⟨3, ![8, 2048, 768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x256 : Shape := ⟨2, ![16384, 256]⟩
abbrev S16384x768 : Shape := ⟨2, ![16384, 768]⟩
abbrev S1x1024 : Shape := ⟨2, ![1, 1024]⟩
abbrev S512x1024 : Shape := ⟨2, ![512, 1024]⟩
abbrev S512x256 : Shape := ⟨2, ![512, 256]⟩
abbrev S512x768 : Shape := ⟨2, ![512, 768]⟩
abbrev S512x2816 : Shape := ⟨2, ![512, 2816]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .bf16⟩
  | .hbm, ⟨2, _⟩ => ⟨S8x2048x768, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S16384x256, .bf16⟩
  | .hbm, ⟨11, _⟩ => ⟨S16384x768, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x768, .bf16⟩
  | .local _ .vmem, ⟨5, _⟩ => ⟨S512x768, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S8x2048x256 : Shape := ⟨3, ![8, 2048, 256]⟩
abbrev S8x2048x768 : Shape := ⟨3, ![8, 2048, 768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x1024 : Shape := ⟨3, ![8, 2048, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .bf16⟩
  | .hbm, ⟨2, _⟩ => ⟨S8x2048x768, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S8x2048x1024, .bf16⟩
  | .hbm, ⟨11, _⟩ => ⟨S8x2048x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x2560 : Shape := ⟨2, ![1024, 2560]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1x1024 : Shape := ⟨2, ![1, 1024]⟩
abbrev S16384x2560 : Shape := ⟨2, ![16384, 2560]⟩
abbrev S512x1024 : Shape := ⟨2, ![512, 1024]⟩
abbrev S512x128 : Shape := ⟨2, ![512, 128]⟩
abbrev S512x2560 : Shape := ⟨2, ![512, 2560]⟩
abbrev S512 : Shape := ⟨1, ![512]⟩
abbrev S512x1 : Shape := ⟨2, ![512, 1]⟩
abbrev S512x1536 : Shape := ⟨2, ![512, 1536]⟩

abbrev nBuf : Space → Nat
  | .hbm => 48
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2560, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2048, .f32⟩
  | .hbm, ⟨18, _⟩ => ⟨S2048x1, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x48, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x8, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S2048x8, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S2048x64, .f32⟩
  | .hbm, ⟨41, _⟩ => ⟨S1x2048x1x64, .f32⟩
  | .hbm, ⟨42, _⟩ => ⟨S1x2048x2x64, .f32⟩
  | .hbm, ⟨43, _⟩ => ⟨S2048x128, .f32⟩
  | .hbm, ⟨44, _⟩ => ⟨S16384x1024, .f32⟩
  | .hbm, ⟨45, _⟩ => ⟨S1x1024, .f32⟩
  | .hbm, ⟨46, _⟩ => ⟨S1024x2560, .bf16⟩
  | .hbm, ⟨47, _⟩ => ⟨S16384x2560, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2560, .bf16⟩
  | .local _ .vmem, ⟨11, _⟩ => ⟨S512x2560, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x2048x1024 : Shape := ⟨3, ![8, 2048, 1024]⟩
abbrev S1024 : Shape := ⟨1, ![1024]⟩
abbrev S1024x2560 : Shape := ⟨2, ![1024, 2560]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2560 : Shape := ⟨3, ![8, 2048, 2560]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S8x2048x512 : Shape := ⟨3, ![8, 2048, 512]⟩
abbrev S8x2048x4x2x64 : Shape := ⟨5, ![8, 2048, 4, 2, 64]⟩
abbrev S1x2048x1x1x8 : Shape := ⟨5, ![1, 2048, 1, 1, 8]⟩
abbrev S8x2048x4x2x8 : Shape := ⟨5, ![8, 2048, 4, 2, 8]⟩
abbrev S8x2048x4x2x48 : Shape := ⟨5, ![8, 2048, 4, 2, 48]⟩
abbrev S8x2048x1536 : Shape := ⟨3, ![8, 2048, 1536]⟩
abbrev S16384x2560 : Shape := ⟨2, ![16384, 2560]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2560, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2560, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S2048, .f32⟩
  | .hbm, ⟨35, _⟩ => ⟨S2048x1, .f32⟩
  | .hbm, ⟨36, _⟩ => ⟨S1x8, .f32⟩
  | .hbm, ⟨37, _⟩ => ⟨S2048x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S8x2048x512, .f32⟩
  | .hbm, ⟨43, _⟩ => ⟨S8x2048x4x2x64, .f32⟩
  | .hbm, ⟨44, _⟩ => ⟨S1x2048x1x1x8, .f32⟩
  | .hbm, ⟨45, _⟩ => ⟨S1x2048x1x1x8, .f32⟩
  | .hbm, ⟨46, _⟩ => ⟨S8x2048x4x2x8, .f32⟩
  | .hbm, ⟨47, _⟩ => ⟨S8x2048x4x2x8, .f32⟩
  | .hbm, ⟨48, _⟩ => ⟨S8x2048x4x2x8, .f32⟩
  | .hbm, ⟨49, _⟩ => ⟨S8x2048x4x2x8, .f32⟩
  | .hbm, ⟨50, _⟩ => ⟨S8x2048x4x2x8, .f32⟩
  | .hbm, ⟨51, _⟩ => ⟨S8x2048x4x2x8, .f32⟩
  | .hbm, ⟨52, _⟩ => ⟨S8x2048x4x2x8, .f32⟩
  | .hbm, ⟨53, _⟩ => ⟨S8x2048x4x2x8, .f32⟩
  | .hbm, ⟨54, _⟩ => ⟨S8x2048x4x2x8, .f32⟩
  | .hbm, ⟨55, _⟩ => ⟨S8x2048x4x2x8, .f32⟩
  | .hbm, ⟨56, _⟩ => ⟨S8x2048x4x2x8, .f32⟩
  | .hbm, ⟨57, _⟩ => ⟨S8x2048x4x2x8, .f32⟩
  | .hbm, ⟨58, _⟩ => ⟨S8x2048x4x2x48, .f32⟩
  | .hbm, ⟨59, _⟩ => ⟨S8x2048x4x2x64, .f32⟩
  | .hbm, ⟨60, _⟩ => ⟨S_, .f32⟩
  | .hbm, ⟨61, _⟩ => ⟨S8x2048x4x2x64, .f32⟩
  | .hbm, ⟨62, _⟩ => ⟨S8x2048x4x2x64, .f32⟩
  | .hbm, ⟨63, _⟩ => ⟨S8x2048x512, .f32⟩
  | .hbm, ⟨64, _⟩ => ⟨S8x2048x4x2x64, .f32⟩
  | .hbm, ⟨65, _⟩ => ⟨S1x2048x1x1x8, .f32⟩
  | .hbm, ⟨66, _⟩ => ⟨S1x2048x1x1x8, .f32⟩
  | .hbm, ⟨67, _⟩ => ⟨S8x2048x4x2x8, .f32⟩
  | .hbm, ⟨68, _⟩ => ⟨S8x2048x4x2x8, .f32⟩
  | .hbm, ⟨69, _⟩ => ⟨S8x2048x4x2x8, .f32⟩
  | .hbm, ⟨70, _⟩ => ⟨S8x2048x4x2x8, .f32⟩
  | .hbm, ⟨71, _⟩ => ⟨S8x2048x4x2x8, .f32⟩
  | .hbm, ⟨72, _⟩ => ⟨S8x2048x4x2x8, .f32⟩
  | .hbm, ⟨73, _⟩ => ⟨S8x2048x4x2x8, .f32⟩
  | .hbm, ⟨74, _⟩ => ⟨S8x2048x4x2x8, .f32⟩
  | .hbm, ⟨75, _⟩ => ⟨S8x2048x4x2x8, .f32⟩
  | .hbm, ⟨76, _⟩ => ⟨S8x2048x4x2x8, .f32⟩
  | .hbm, ⟨77, _⟩ => ⟨S8x2048x4x2x8, .f32⟩
  | .hbm, ⟨78, _⟩ => ⟨S8x2048x4x2x8, .f32⟩
  | .hbm, ⟨79, _⟩ => ⟨S8x2048x4x2x48, .f32⟩
  | .hbm, ⟨80, _⟩ => ⟨S8x2048x4x2x64, .f32⟩
  | .hbm, ⟨81, _⟩ => ⟨S8x2048x512, .f32⟩
  | .hbm, ⟨82, _⟩ => ⟨S8x2048x512, .f32⟩
  | .hbm, ⟨83, _⟩ => ⟨S8x2048x1536, .f32⟩
  | .hbm, ⟨84, _⟩ => ⟨S8x2048x2560, .f32⟩
  | .hbm, ⟨85, _⟩ => ⟨S8x2048x2560, .bf16⟩
  | .hbm, ⟨86, _⟩ => ⟨S16384x2560, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== Kernel5.lean ====
abbrev S8x2048x2560 : Shape := ⟨3, ![8, 2048, 2560]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S8x2048x512 : Shape := ⟨3, ![8, 2048, 512]⟩
abbrev S1x256x128 : Shape := ⟨3, ![1, 256, 128]⟩
abbrev S1x2048x128 : Shape := ⟨3, ![1, 2048, 128]⟩
abbrev S2x256x1 : Shape := ⟨3, ![2, 256, 1]⟩
abbrev S2x256x128 : Shape := ⟨3, ![2, 256, 128]⟩
abbrev S256x128 : Shape := ⟨2, ![256, 128]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1 : Shape := ⟨1, ![1]⟩
abbrev S1x1 : Shape := ⟨2, ![1, 1]⟩

abbrev nBuf : Space → Nat
  | .hbm => 13
  | .vmem => 13
  | .smem => 0
  | _ => 0

abbrev bufTy : (tb : Table) → Fin (tcTables nBuf tb) → BufTy
  | .hbm, ⟨0, _⟩ => ⟨S8x2048x2560, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S4x64, .f32⟩
  | .hbm, ⟨11, _⟩ => ⟨S1x128, .f32⟩
  | .hbm, ⟨12, _⟩ => ⟨S8x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S4x64, .f32⟩
  | .local _ .vmem, ⟨7, _⟩ => ⟨S1x128, .f32⟩
  | .local _ .vmem, ⟨8, _⟩ => ⟨S1x256x128, .bf16⟩
  | .local _ .vmem, ⟨9, _⟩ => ⟨S1x256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | _, _ => ⟨S8x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_17 : BitVec 32 := 0#32
  let arg2 : BitVec 32 := BitVec.ofNat 32 (i 2).val
  let v29 : BitVec 32 := Scalar.subi arg2 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_18 : BitVec 32 := 1#32
  ⟨c0_i32_17, v33, c1_i32_18⟩
def k0_mult1 (i : grid0.Coords) (k0_t1 : Fin (k0_t1_loop i).trips) : BitVec 32 :=
  let c0_i32_17 : BitVec 32 := 0#32
  let c1_i32_18 : BitVec 32 := 1#32
  let arg12 : BitVec 32 := Scf.iv c0_i32_17 c1_i32_18 k0_t1
  let c256_i32_109 : BitVec 32 := 256#32
  let v215 : BitVec 32 := Scalar.muli arg12 c256_i32_109
  v215
def k0_off1 (i : grid0.Coords) (k0_t1 : Fin (k0_t1_loop i).trips) : Fin 3 → Nat :=
  let c0_110 : Index := 0#32
  let c0_i32_17 : BitVec 32 := 0#32
  let c1_i32_18 : BitVec 32 := 1#32
  let arg12 : BitVec 32 := Scf.iv c0_i32_17 c1_i32_18 k0_t1
  let c256_i32_109 : BitVec 32 := 256#32
  let v215 : BitVec 32 := Scalar.muli arg12 c256_i32_109
  let v216 : BitVec 32 := v215
  let v217 : Index := Scalar.indexCast v216
  let c0_111 : Index := 0#32
  ![0, v217.toNat, 0]
@[reducible] def k0_t2_loop (i : grid0.Coords) : Scf.Loop 32 :=
  let c0_i32_17 : BitVec 32 := 0#32
  let arg2 : BitVec 32 := BitVec.ofNat 32 (i 2).val
  let v29 : BitVec 32 := Scalar.subi arg2 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let v30 : BitVec 32 := Scalar.addi c0_i32_17 v29
  let c1_i32_19 : BitVec 32 := 1#32
  ⟨v33, v30, c1_i32_19⟩
def k0_mult2 (i : grid0.Coords) (k0_t2 : Fin (k0_t2_loop i).trips) : BitVec 32 :=
  let c0_i32_17 : BitVec 32 := 0#32
  let arg2 : BitVec 32 := BitVec.ofNat 32 (i 2).val
  let v29 : BitVec 32 := Scalar.subi arg2 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg12 : BitVec 32 := Scf.iv v33 c1_i32_19 k0_t2
  let c256_i32_109 : BitVec 32 := 256#32
  let v215 : BitVec 32 := Scalar.muli arg12 c256_i32_109
  v215
def k0_off2 (i : grid0.Coords) (k0_t2 : Fin (k0_t2_loop i).trips) : Fin 3 → Nat :=
  let c0_110 : Index := 0#32
  let c0_i32_17 : BitVec 32 := 0#32
  let arg2 : BitVec 32 := BitVec.ofNat 32 (i 2).val
  let v29 : BitVec 32 := Scalar.subi arg2 c0_i32_17
  let c1_i32 : BitVec 32 := 1#32
  let v31 : BitVec 32 := Scalar.divsi v29 c1_i32
  let v32 : BitVec 32 := Scalar.muli v31 c1_i32
  let v33 : BitVec 32 := Scalar.addi c0_i32_17 v32
  let c1_i32_19 : BitVec 32 := 1#32
  let arg12 : BitVec 32 := Scf.iv v33 c1_i32_19 k0_t2
  let c256_i32_109 : BitVec 32 := 256#32
  let v215 : BitVec 32 := Scalar.muli arg12 c256_i32_109
  let v216 : BitVec 32 := v215
  let v217 : Index := Scalar.indexCast v216
  let c0_111 : Index := 0#32
  ![0, v217.toNat, 0]
def k0_mult3 (i : grid0.Coords) : BitVec 32 :=
  let arg2 : BitVec 32 := BitVec.ofNat 32 (i 2).val
  let c256_i32 : BitVec 32 := 256#32
  let v34 : BitVec 32 := Scalar.muli arg2 c256_i32
  v34
def k0_off3 (i : grid0.Coords) : Fin 3 → Nat :=
  let c0_20 : Index := 0#32
  let arg2 : BitVec 32 := BitVec.ofNat 32 (i 2).val
  let c256_i32 : BitVec 32 := 256#32
  let v34 : BitVec 32 := Scalar.muli arg2 c256_i32
  let v35 : BitVec 32 := v34
  let v36 : Index := Scalar.indexCast v35
  let c0_21 : Index := 0#32
  ![0, v36.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8x2048x2560 : Shape := ⟨3, ![8, 2048, 2560]⟩
abbrev S64 : Shape := ⟨1, ![64]⟩
abbrev S128 : Shape := ⟨1, ![128]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048x2048 : Shape := ⟨5, ![8, 4, 2, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 116
  | .vmem => 0
  | .smem => 0
  | _ => 0

abbrev bufTy : (tb : Table) → Fin (tcTables nBuf tb) → BufTy
  | .hbm, ⟨0, _⟩ => ⟨S8x2048x2560, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8x2048x2560, .f32⟩
  | .hbm, ⟨7, _⟩ => ⟨S8x2048x512, .f32⟩
  | .hbm, ⟨8, _⟩ => ⟨S8x2048x4x2x64, .f32⟩
  | .hbm, ⟨9, _⟩ => ⟨S8x2048x512, .f32⟩
  | .hbm, ⟨10, _⟩ => ⟨S8x2048x4x2x64, .f32⟩
  | .hbm, ⟨11, _⟩ => ⟨S8x2048x512, .f32⟩
  | .hbm, ⟨12, _⟩ => ⟨S8x2048x4x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .i32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S1x2048, .i32⟩
  | .hbm, ⟨44, _⟩ => ⟨S_, .i32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S8x4x2x2048x2048, .f32⟩
  | .hbm, ⟨67, _⟩ => ⟨S_, .f32⟩
  | .hbm, ⟨68, _⟩ => ⟨S_, .f32⟩
  | .hbm, ⟨69, _⟩ => ⟨S8x4x2x2048x2048, .i1⟩
  | .hbm, ⟨70, _⟩ => ⟨S8x4x2x2048x2048, .f32⟩
  | .hbm, ⟨71, _⟩ => ⟨S8x4x2x2048x2048, .f32⟩
  | .hbm, ⟨72, _⟩ => ⟨S_, .f32⟩
  | .hbm, ⟨73, _⟩ => ⟨S8x4x2x2048, .f32⟩
  | .hbm, ⟨74, _⟩ => ⟨S_, .f32⟩
  | .hbm, ⟨75, _⟩ => ⟨S8x4x2x2048, .f32⟩
  | .hbm, ⟨76, _⟩ => ⟨S8x4x2x2048, .f32⟩
  | .hbm, ⟨77, _⟩ => ⟨S8x4x2x2048x1, .f32⟩
  | .hbm, ⟨78, _⟩ => ⟨S8x4x2x2048x2048, .f32⟩
  | .hbm, ⟨79, _⟩ => ⟨S8x4x2x2048x2048, .f32⟩
  | .hbm, ⟨80, _⟩ => ⟨S8x4x2x2048x2048, .f32⟩
  | .hbm, ⟨81, _⟩ => ⟨S_, .f32⟩
  | .hbm, ⟨82, _⟩ => ⟨S8x4x2x2048, .f32⟩
  | .hbm, ⟨83, _⟩ => ⟨S8x4x2x2048x1, .f32⟩
  | .hbm, ⟨84, _⟩ => ⟨S8x4x2x2048x2048, .f32⟩
  | .hbm, ⟨85, _⟩ => ⟨S8x4x2x2048x2048, .f32⟩
  | .hbm, ⟨86, _⟩ => ⟨S8x4x1x2048x2048, .f32⟩
  | .hbm, ⟨87, _⟩ => ⟨S8x4x2048x2048, .f32⟩
  | .hbm, ⟨88, _⟩ => ⟨S8x4x1x2048x2048, .f32⟩
  | .hbm, ⟨89, _⟩ => ⟨S8x4x2048x2048, .f32⟩
  | .hbm, ⟨90, _⟩ => ⟨S8x4x2048x2048, .f32⟩
  | .hbm, ⟨91, _⟩ => ⟨S8x4x2048x2048, .f32⟩
  | .hbm, ⟨92, _⟩ => ⟨S8x4x2048x2048, .f32⟩
  | .hbm, ⟨93, _⟩ => ⟨S8x4x128x2048, .f32⟩
  | .hbm, ⟨94, _⟩ => ⟨S8x2048x4x128, .f32⟩
  | .hbm, ⟨95, _⟩ => ⟨S8x2048x4x128, .f32⟩
  | .hbm, ⟨96, _⟩ => ⟨S_, .f32⟩
  | .hbm, ⟨97, _⟩ => ⟨S8x2048x4, .f32⟩
  | .hbm, ⟨98, _⟩ => ⟨S8x2048x4x1, .f32⟩
  | .hbm, ⟨99, _⟩ => ⟨S_, .f32⟩
  | .hbm, ⟨100, _⟩ => ⟨S8x2048x4x1, .f32⟩
  | .hbm, ⟨101, _⟩ => ⟨S8x2048x4x1, .f32⟩
  | .hbm, ⟨102, _⟩ => ⟨S_, .f32⟩
  | .hbm, ⟨103, _⟩ => ⟨S8x2048x4x1, .f32⟩
  | .hbm, ⟨104, _⟩ => ⟨S8x2048x4x1, .f32⟩
  | .hbm, ⟨105, _⟩ => ⟨S8x2048x4x1, .f32⟩
  | .hbm, ⟨106, _⟩ => ⟨S8x2048x4x128, .f32⟩
  | .hbm, ⟨107, _⟩ => ⟨S8x2048x4x128, .f32⟩
  | .hbm, ⟨108, _⟩ => ⟨S1x1x1x128, .f32⟩
  | .hbm, ⟨109, _⟩ => ⟨S8x2048x4x128, .f32⟩
  | .hbm, ⟨110, _⟩ => ⟨S8x2048x4x128, .f32⟩
  | .hbm, ⟨111, _⟩ => ⟨S_, .f32⟩
  | .hbm, ⟨112, _⟩ => ⟨S8x2048x4x128, .f32⟩
  | .hbm, ⟨113, _⟩ => ⟨S8x2048x4x128, .f32⟩
  | .hbm, ⟨114, _⟩ => ⟨S8x2048x512, .f32⟩
  | .hbm, ⟨115, _⟩ => ⟨S8x2048x512, .bf16⟩
  | _, _ => ⟨S8x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v24 : Ref sig .tc := ⟨.hbm, 71, rfl⟩
abbrev main_cst_4 : Ref sig .tc := ⟨.hbm, 72, rfl⟩
abbrev main_v25 : Ref sig .tc := ⟨.hbm, 73, rfl⟩
abbrev main_cst_5 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_cst_8 : Ref sig .tc := ⟨.hbm, 99, rfl⟩
abbrev main_v48 : Ref sig .tc := ⟨.hbm, 100, rfl⟩
abbrev main_v49 : Ref sig .tc := ⟨.hbm, 101, rfl⟩
abbrev main_cst_9 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_10 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩

abbrev nD : Nat := 1
abbrev τ : Topo := Topo.v7x

variable {F : FTy → Type} [FloatOps F]
-- ==== Kernel6.lean ====
abbrev S16384x768 : Shape := ⟨2, ![16384, 768]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S256x6x192 : Shape := ⟨3, ![256, 6, 192]⟩
abbrev S_ : Shape := ⟨0, ![]⟩
abbrev S256x6x256 : Shape := ⟨3, ![256, 6, 256]⟩
abbrev S256x1536 : Shape := ⟨2, ![256, 1536]⟩
abbrev S128x6x256 : Shape := ⟨3, ![128, 6, 256]⟩
abbrev S128x6x128 : Shape := ⟨3, ![128, 6, 128]⟩
abbrev S64x64 : Shape := ⟨2, ![64, 64]⟩
abbrev S128x256 : Shape := ⟨2, ![128, 256]⟩
abbrev S128x1x256 : Shape := ⟨3, ![128, 1, 256]⟩
abbrev S128x768 : Shape := ⟨2, ![128, 768]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S1x2048x1x128 : Shape := ⟨4, ![1, 2048, 1, 128]⟩
abbrev S1x256 : Shape := ⟨2, ![1, 256]⟩
abbrev S1x128 : Shape := ⟨2, ![1, 128]⟩
abbrev S16384x1536 : Shape := ⟨2, ![16384, 1536]⟩
abbrev S512x256 : Shape := ⟨2, ![512, 256]⟩
abbrev S512x128 : Shape := ⟨2, ![512, 128]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩

abbrev nBuf : Space → Nat
  | .hbm => 80
  | .vmem => 23
  | .smem => 0
  | _ => 0

abbrev bufTy : (tb : Table) → Fin (tcTables nBuf tb) → BufTy
  | .hbm, ⟨0, _⟩ => ⟨S16384x768, .f32⟩
  | .hbm, ⟨1, _⟩ => ⟨S256, .f32⟩
  | .hbm, ⟨2, _⟩ => ⟨S256x1152, .f32⟩
  | .hbm, ⟨3, _⟩ => ⟨S128, .f32⟩
  | .hbm, ⟨4, _⟩ => ⟨S128x1536, .f32⟩
  | .hbm, ⟨5, _⟩ => ⟨S256x6x192, .f32⟩
  | .hbm, ⟨6, _⟩ => ⟨S_, .i32⟩
  | .hbm, ⟨7, _⟩ => ⟨S_, .f32⟩
  | .hbm, ⟨8, _⟩ => ⟨S256x6x256, .f32⟩
  | .hbm, ⟨9, _⟩ => ⟨S256x1536, .f32⟩
  | .hbm, ⟨10, _⟩ => ⟨S128x6x256, .f32⟩
  | .hbm, ⟨11, _⟩ => ⟨S128x6x128, .f32⟩
  | .hbm, ⟨12, _⟩ => ⟨S_, .i32⟩
  | .hbm, ⟨13, _⟩ => ⟨S_, .f32⟩
  | .hbm, ⟨14, _⟩ => ⟨S128x6x256, .f32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S64x64, .f32⟩
  | .hbm, ⟨22, _⟩ => ⟨S_, .i32⟩
  | .hbm, ⟨23, _⟩ => ⟨S_, .f32⟩
  | .hbm, ⟨24, _⟩ => ⟨S128x256, .f32⟩
  | .hbm, ⟨25, _⟩ => ⟨S128x1x256, .f32⟩
  | .hbm, ⟨26, _⟩ => ⟨S128x6x256, .f32⟩
  | .hbm, ⟨27, _⟩ => ⟨S256x6x256, .f32⟩
  | .hbm, ⟨28, _⟩ => ⟨S256x1536, .f32⟩
  | .hbm, ⟨29, _⟩ => ⟨S128x6x128, .f32⟩
  | .hbm, ⟨30, _⟩ => ⟨S128x768, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S2048, .f32⟩
  | .hbm, ⟨46, _⟩ => ⟨S2048x1, .f32⟩
  | .hbm, ⟨47, _⟩ => ⟨S1x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S_, .f32⟩
  | .hbm, ⟨54, _⟩ => ⟨S2048x64, .f32⟩
  | .hbm, ⟨55, _⟩ => ⟨S_, .f32⟩
  | .hbm, ⟨56, _⟩ => ⟨S2048x64, .f32⟩
  | .hbm, ⟨57, _⟩ => ⟨S_, .f32⟩
  | .hbm, ⟨58, _⟩ => ⟨S2048x32, .f32⟩
  | .hbm, ⟨59, _⟩ => ⟨S2048x128, .f32⟩
  | .hbm, ⟨60, _⟩ => ⟨S1x2048x1x128, .f32⟩
  | .hbm, ⟨61, _⟩ => ⟨S1x2048x1x128, .f32⟩
  | .hbm, ⟨62, _⟩ => ⟨S2048x128, .f32⟩
  | .hbm, ⟨63, _⟩ => ⟨S2048x32, .f32⟩
  | .hbm, ⟨64, _⟩ => ⟨S2048x128, .f32⟩
  | .hbm, ⟨65, _⟩ => ⟨S1x2048x1x128, .f32⟩
  | .hbm, ⟨66, _⟩ => ⟨S1x2048x1x128, .f32⟩
  | .hbm, ⟨67, _⟩ => ⟨S2048x128, .f32⟩
  | .hbm, ⟨68, _⟩ => ⟨S2048x128, .f32⟩
  | .hbm, ⟨69, _⟩ => ⟨S1x2048x1x128, .f32⟩
  | .hbm, ⟨70, _⟩ => ⟨S1x2048x1x128, .f32⟩
  | .hbm, ⟨71, _⟩ => ⟨S2048x128, .f32⟩
  | .hbm, ⟨72, _⟩ => ⟨S1x256, .f32⟩
  | .hbm, ⟨73, _⟩ => ⟨S1x128, .f32⟩
  | .hbm, ⟨74, _⟩ => ⟨S256x1536, .bf16⟩
  | .hbm, ⟨75, _⟩ => ⟨S256x1536, .bf16⟩
  | .hbm, ⟨76, _⟩ => ⟨S128x768, .bf16⟩
  | .hbm, ⟨77, _⟩ => ⟨S16384x1536, .bf16⟩
  | .hbm, ⟨78, _⟩ => ⟨S16384x1536, .bf16⟩
  | .hbm, ⟨79, _⟩ => ⟨S16384x768, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x128, .f32⟩
  | .local _ .vmem, ⟨8, _⟩ => ⟨S256x1536, .bf16⟩
  | .local _ .vmem, ⟨9, _⟩ => ⟨S256x1536, .bf16⟩
  | .local _ .vmem, ⟨10, _⟩ => ⟨S128x768, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1536, .bf16⟩
  | .local _ .vmem, ⟨18, _⟩ => ⟨S512x1536, .bf16⟩
  | .local _ .vmem, ⟨19, _⟩ => ⟨S512x1536, .bf16⟩
  | .local _ .vmem, ⟨20, _⟩ => ⟨S512x1536, .bf16⟩
  | .local _ .vmem, ⟨21, _⟩ => ⟨S512x768, .bf16⟩
  | .local _ .vmem, ⟨22, _⟩ => ⟨S512x768, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S16384x768 : Shape := ⟨2, ![16384, 768]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S8x2048x768 : Shape := ⟨3, ![8, 2048, 768]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048x256 : Shape := ⟨3, ![8, 2048, 256]⟩
abbrev S8x2048 : Shape := ⟨2, ![8, 2048]⟩
abbrev S8x2048x1 : Shape := ⟨3, ![8, 2048, 1]⟩
abbrev S1x1x256 : Shape := ⟨3, ![1, 1, 256]⟩
abbrev S8x2048x1152 : Shape := ⟨3, ![8, 2048, 1152]⟩
abbrev S8x2048x6x192 : Shape := ⟨4, ![8, 2048, 6, 192]⟩
abbrev S8x2048x6x128 : Shape := ⟨4, ![8, 2048, 6, 128]⟩
abbrev S8x2048x6x64 : Shape := ⟨4, ![8, 2048, 6, 64]⟩
abbrev S1x2048x1x32 : Shape := ⟨4, ![1, 2048, 1, 32]⟩
abbrev S8x2048x6x32 : Shape := ⟨4, ![8, 2048, 6, 32]⟩
abbrev S8x2048x6x0 : Shape := ⟨4, ![8, 2048, 6, 0]⟩
abbrev S8x2048x128 : Shape := ⟨3, ![8, 2048, 128]⟩
abbrev S1x1x128 : Shape := ⟨3, ![1, 1, 128]⟩
abbrev S8x2048x1536 : Shape := ⟨3, ![8, 2048, 1536]⟩
abbrev S8x2048x6x256 : Shape := ⟨4, ![8, 2048, 6, 256]⟩
abbrev S8x2048x64 : Shape := ⟨3, ![8, 2048, 64]⟩
abbrev S1x2048x32 : Shape := ⟨3, ![1, 2048, 32]⟩
abbrev S8x2048x32 : Shape := ⟨3, ![8, 2048, 32]⟩
abbrev S8x2048x0 : Shape := ⟨3, ![8, 2048, 0]⟩
abbrev S8x2048x1x64 : Shape := ⟨4, ![8, 2048, 1, 64]⟩
abbrev S16384x1536 : Shape := ⟨2, ![16384, 1536]⟩

abbrev nBuf : Space → Nat
  | .hbm => 122
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S256, .f32⟩
  | .hbm, ⟨2, _⟩ => ⟨S256x1152, .f32⟩
  | .hbm, ⟨3, _⟩ => ⟨S128, .f32⟩
  | .hbm, ⟨4, _⟩ => ⟨S128x1536, .f32⟩
  | .hbm, ⟨5, _⟩ => ⟨S8x2048x768, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S8x2048x256, .f32⟩
  | .hbm, ⟨29, _⟩ => ⟨S8x2048x256, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x256, .f32⟩
  | .hbm, ⟨41, _⟩ => ⟨S8x2048x256, .f32⟩
  | .hbm, ⟨42, _⟩ => ⟨S1x1x256, .f32⟩
  | .hbm, ⟨43, _⟩ => ⟨S8x2048x256, .f32⟩
  | .hbm, ⟨44, _⟩ => ⟨S8x2048x256, .f32⟩
  | .hbm, ⟨45, _⟩ => ⟨S8x2048x1152, .f32⟩
  | .hbm, ⟨46, _⟩ => ⟨S8x2048x6x192, .f32⟩
  | .hbm, ⟨47, _⟩ => ⟨S8x2048x6x128, .f32⟩
  | .hbm, ⟨48, _⟩ => ⟨S8x2048x6x64, .f32⟩
  | .hbm, ⟨49, _⟩ => ⟨S1x2048x1x32, .f32⟩
  | .hbm, ⟨50, _⟩ => ⟨S1x2048x1x32, .f32⟩
  | .hbm, ⟨51, _⟩ => ⟨S8x2048x6x32, .f32⟩
  | .hbm, ⟨52, _⟩ => ⟨S8x2048x6x32, .f32⟩
  | .hbm, ⟨53, _⟩ => ⟨S8x2048x6x32, .f32⟩
  | .hbm, ⟨54, _⟩ => ⟨S8x2048x6x32, .f32⟩
  | .hbm, ⟨55, _⟩ => ⟨S8x2048x6x32, .f32⟩
  | .hbm, ⟨56, _⟩ => ⟨S8x2048x6x32, .f32⟩
  | .hbm, ⟨57, _⟩ => ⟨S8x2048x6x32, .f32⟩
  | .hbm, ⟨58, _⟩ => ⟨S8x2048x6x32, .f32⟩
  | .hbm, ⟨59, _⟩ => ⟨S8x2048x6x32, .f32⟩
  | .hbm, ⟨60, _⟩ => ⟨S8x2048x6x32, .f32⟩
  | .hbm, ⟨61, _⟩ => ⟨S8x2048x6x32, .f32⟩
  | .hbm, ⟨62, _⟩ => ⟨S8x2048x6x32, .f32⟩
  | .hbm, ⟨63, _⟩ => ⟨S8x2048x6x0, .f32⟩
  | .hbm, ⟨64, _⟩ => ⟨S8x2048x6x64, .f32⟩
  | .hbm, ⟨65, _⟩ => ⟨S8x2048x6x192, .f32⟩
  | .hbm, ⟨66, _⟩ => ⟨S_, .f32⟩
  | .hbm, ⟨67, _⟩ => ⟨S8x2048x6x192, .f32⟩
  | .hbm, ⟨68, _⟩ => ⟨S8x2048x6x192, .f32⟩
  | .hbm, ⟨69, _⟩ => ⟨S8x2048x128, .f32⟩
  | .hbm, ⟨70, _⟩ => ⟨S8x2048x128, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x128, .f32⟩
  | .hbm, ⟨82, _⟩ => ⟨S8x2048x128, .f32⟩
  | .hbm, ⟨83, _⟩ => ⟨S1x1x128, .f32⟩
  | .hbm, ⟨84, _⟩ => ⟨S8x2048x128, .f32⟩
  | .hbm, ⟨85, _⟩ => ⟨S8x2048x128, .f32⟩
  | .hbm, ⟨86, _⟩ => ⟨S8x2048x1536, .f32⟩
  | .hbm, ⟨87, _⟩ => ⟨S8x2048x6x256, .f32⟩
  | .hbm, ⟨88, _⟩ => ⟨S8x2048x64, .f32⟩
  | .hbm, ⟨89, _⟩ => ⟨S1x2048x32, .f32⟩
  | .hbm, ⟨90, _⟩ => ⟨S1x2048x32, .f32⟩
  | .hbm, ⟨91, _⟩ => ⟨S8x2048x32, .f32⟩
  | .hbm, ⟨92, _⟩ => ⟨S8x2048x32, .f32⟩
  | .hbm, ⟨93, _⟩ => ⟨S8x2048x32, .f32⟩
  | .hbm, ⟨94, _⟩ => ⟨S8x2048x32, .f32⟩
  | .hbm, ⟨95, _⟩ => ⟨S8x2048x32, .f32⟩
  | .hbm, ⟨96, _⟩ => ⟨S8x2048x32, .f32⟩
  | .hbm, ⟨97, _⟩ => ⟨S8x2048x32, .f32⟩
  | .hbm, ⟨98, _⟩ => ⟨S8x2048x32, .f32⟩
  | .hbm, ⟨99, _⟩ => ⟨S8x2048x32, .f32⟩
  | .hbm, ⟨100, _⟩ => ⟨S8x2048x32, .f32⟩
  | .hbm, ⟨101, _⟩ => ⟨S8x2048x32, .f32⟩
  | .hbm, ⟨102, _⟩ => ⟨S8x2048x32, .f32⟩
  | .hbm, ⟨103, _⟩ => ⟨S8x2048x0, .f32⟩
  | .hbm, ⟨104, _⟩ => ⟨S8x2048x64, .f32⟩
  | .hbm, ⟨105, _⟩ => ⟨S8x2048x1x64, .f32⟩
  | .hbm, ⟨106, _⟩ => ⟨S8x2048x6x64, .f32⟩
  | .hbm, ⟨107, _⟩ => ⟨S8x2048x6x128, .f32⟩
  | .hbm, ⟨108, _⟩ => ⟨S8x2048x6x192, .f32⟩
  | .hbm, ⟨109, _⟩ => ⟨S_, .i32⟩
  | .hbm, ⟨110, _⟩ => ⟨S_, .f32⟩
  | .hbm, ⟨111, _⟩ => ⟨S8x2048x6x256, .f32⟩
  | .hbm, ⟨112, _⟩ => ⟨S16384x1536, .f32⟩
  | .hbm, ⟨113, _⟩ => ⟨S16384x1536, .bf16⟩
  | .hbm, ⟨114, _⟩ => ⟨S_, .i32⟩
  | .hbm, ⟨115, _⟩ => ⟨S_, .f32⟩
  | .hbm, ⟨116, _⟩ => ⟨S8x2048x6x256, .f32⟩
  | .hbm, ⟨117, _⟩ => ⟨S16384x1536, .f32⟩
  | .hbm, ⟨118, _⟩ => ⟨S16384x1536, .bf16⟩
  | .hbm, ⟨119, _⟩ => ⟨S8x2048x6x128, .f32⟩
  | .hbm, ⟨120, _⟩ => ⟨S16384x768, .f32⟩
  | .hbm, ⟨121, _⟩ => ⟨S16384x768, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_c : Ref sig .tc := ⟨.hbm, 109, rfl⟩
abbrev main_call0_v0 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_10 : Ref sig .tc := ⟨.hbm, 114, rfl⟩
abbrev main_call1_v0 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Kernel7.lean ====
abbrev S8x2048x2560 : Shape := ⟨3, ![8, 2048, 2560]⟩
abbrev S31x512 : Shape := ⟨2, ![31, 512]⟩
abbrev S512 : Shape := ⟨1, ![512]⟩
abbrev S1x512 : Shape := ⟨2, ![1, 512]⟩
abbrev S8x2048x512 : Shape := ⟨3, ![8, 2048, 512]⟩
abbrev S1x256x512 : Shape := ⟨3, ![1, 256, 512]⟩
abbrev S1x32x512 : Shape := ⟨3, ![1, 32, 512]⟩
abbrev S288x512 : Shape := ⟨2, ![288, 512]⟩
abbrev S256x512 : Shape := ⟨2, ![256, 512]⟩
abbrev S32x512 : Shape := ⟨2, ![32, 512]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x2560, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S8x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x32x512, .bf16⟩
  | .local _ .vmem, ⟨5, _⟩ => ⟨S1x32x512, .bf16⟩
  | .local _ .vmem, ⟨6, _⟩ => ⟨S1x32x512, .bf16⟩
  | .local _ .vmem, ⟨7, _⟩ => ⟨S1x32x512, .bf16⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x256x512, .bf16⟩
  | .local _ .vmem, ⟨13, _⟩ => ⟨S1x256x512, .bf16⟩
  | .local _ .vmem, ⟨14, _⟩ => ⟨S288x512, .f32⟩
  | _, _ => ⟨S8x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x2048x2560 : Shape := ⟨3, ![8, 2048, 2560]⟩
abbrev S31x512 : Shape := ⟨2, ![31, 512]⟩
abbrev S512 : Shape := ⟨1, ![512]⟩
abbrev S8x2048x1024 : Shape := ⟨3, ![8, 2048, 1024]⟩
abbrev S8x2048x512 : Shape := ⟨3, ![8, 2048, 512]⟩
abbrev S_ : Shape := ⟨0, ![]⟩
abbrev S8x2078x512 : Shape := ⟨3, ![8, 2078, 512]⟩
abbrev S1x512 : Shape := ⟨2, ![1, 512]⟩
abbrev S1x1x512 : Shape := ⟨3, ![1, 1, 512]⟩
abbrev S8x2048 : Shape := ⟨2, ![8, 2048]⟩
abbrev S8x2048x1 : Shape := ⟨3, ![8, 2048, 1]⟩

abbrev nBuf : Space → Nat
  | .hbm => 280
  | .vmem => 0
  | .smem => 0
  | _ => 0

abbrev hbmTy0_0 (i : Nat) : BufTy := match i % 128 with
  | 0 => ⟨S8x2048x2560, .bf16⟩
  | 1 => ⟨S31x512, .f32⟩
  | 2 => ⟨S512, .f32⟩
  | 3 => ⟨S512, .f32⟩
  | 4 => ⟨S512, .f32⟩
  | 5 => ⟨S8x2048x1024, .bf16⟩
  | 6 => ⟨S8x2048x1024, .f32⟩
  | 7 => ⟨S8x2048x512, .f32⟩
  | 8 => ⟨S8x2048x512, .f32⟩
  | 9 => ⟨S8x2048x512, .f32⟩
  | 10 => ⟨S8x2048x512, .f32⟩
  | 11 => ⟨S_, .f32⟩
  | 12 => ⟨S8x2048x512, .f32⟩
  | 13 => ⟨S8x2048x512, .f32⟩
  | 14 => ⟨S_, .f32⟩
  | 15 => ⟨S8x2048x512, .f32⟩
  | 16 => ⟨S8x2048x512, .f32⟩
  | 17 => ⟨S8x2048x512, .f32⟩
  | 18 => ⟨S_, .i32⟩
  | 19 => ⟨S_, .f32⟩
  | 20 => ⟨S8x2078x512, .f32⟩
  | 21 => ⟨S8x2048x512, .f32⟩
  | 22 => ⟨S1x512, .f32⟩
  | 23 => ⟨S512, .f32⟩
  | 24 => ⟨S1x1x512, .f32⟩
  | 25 => ⟨S8x2048x512, .f32⟩
  | 26 => ⟨S8x2048x512, .f32⟩
  | 27 => ⟨S_, .f32⟩
  | 28 => ⟨S8x2048x512, .f32⟩
  | 29 => ⟨S8x2048x512, .f32⟩
  | 30 => ⟨S8x2048x512, .f32⟩
  | 31 => ⟨S1x512, .f32⟩
  | 32 => ⟨S512, .f32⟩
  | 33 => ⟨S1x1x512, .f32⟩
  | 34 => ⟨S8x2048x512, .f32⟩
  | 35 => ⟨S8x2048x512, .f32⟩
  | 36 => ⟨S8x2048x512, .f32⟩
  | 37 => ⟨S8x2048x512, .f32⟩
  | 38 => ⟨S1x512, .f32⟩
  | 39 => ⟨S512, .f32⟩
  | 40 => ⟨S1x1x512, .f32⟩
  | 41 => ⟨S8x2048x512, .f32⟩
  | 42 => ⟨S8x2048x512, .f32⟩
  | 43 => ⟨S8x2048x512, .f32⟩
  | 44 => ⟨S8x2048x512, .f32⟩
  | 45 => ⟨S1x512, .f32⟩
  | 46 => ⟨S512, .f32⟩
  | 47 => ⟨S1x1x512, .f32⟩
  | 48 => ⟨S8x2048x512, .f32⟩
  | 49 => ⟨S8x2048x512, .f32⟩
  | 50 => ⟨S8x2048x512, .f32⟩
  | 51 => ⟨S8x2048x512, .f32⟩
  | 52 => ⟨S1x512, .f32⟩
  | 53 => ⟨S512, .f32⟩
  | 54 => ⟨S1x1x512, .f32⟩
  | 55 => ⟨S8x2048x512, .f32⟩
  | 56 => ⟨S8x2048x512, .f32⟩
  | 57 => ⟨S8x2048x512, .f32⟩
  | 58 => ⟨S8x2048x512, .f32⟩
  | 59 => ⟨S1x512, .f32⟩
  | 60 => ⟨S512, .f32⟩
  | 61 => ⟨S1x1x512, .f32⟩
  | 62 => ⟨S8x2048x512, .f32⟩
  | 63 => ⟨S8x2048x512, .f32⟩
  | 64 => ⟨S8x2048x512, .f32⟩
  | 65 => ⟨S8x2048x512, .f32⟩
  | 66 => ⟨S1x512, .f32⟩
  | 67 => ⟨S512, .f32⟩
  | 68 => ⟨S1x1x512, .f32⟩
  | 69 => ⟨S8x2048x512, .f32⟩
  | 70 => ⟨S8x2048x512, .f32⟩
  | 71 => ⟨S8x2048x512, .f32⟩
  | 72 => ⟨S8x2048x512, .f32⟩
  | 73 => ⟨S1x512, .f32⟩
  | 74 => ⟨S512, .f32⟩
  | 75 => ⟨S1x1x512, .f32⟩
  | 76 => ⟨S8x2048x512, .f32⟩
  | 77 => ⟨S8x2048x512, .f32⟩
  | 78 => ⟨S8x2048x512, .f32⟩
  | 79 => ⟨S8x2048x512, .f32⟩
  | 80 => ⟨S1x512, .f32⟩
  | 81 => ⟨S512, .f32⟩
  | 82 => ⟨S1x1x512, .f32⟩
  | 83 => ⟨S8x2048x512, .f32⟩
  | 84 => ⟨S8x2048x512, .f32⟩
  | 85 => ⟨S8x2048x512, .f32⟩
  | 86 => ⟨S8x2048x512, .f32⟩
  | 87 => ⟨S1x512, .f32⟩
  | 88 => ⟨S512, .f32⟩
  | 89 => ⟨S1x1x512, .f32⟩
  | 90 => ⟨S8x2048x512, .f32⟩
  | 91 => ⟨S8x2048x512, .f32⟩
  | 92 => ⟨S8x2048x512, .f32⟩
  | 93 => ⟨S8x2048x512, .f32⟩
  | 94 => ⟨S1x512, .f32⟩
  | 95 => ⟨S512, .f32⟩
  | 96 => ⟨S1x1x512, .f32⟩
  | 97 => ⟨S8x2048x512, .f32⟩
  | 98 => ⟨S8x2048x512, .f32⟩
  | 99 => ⟨S8x2048x512, .f32⟩
  | 100 => ⟨S8x2048x512, .f32⟩
  | 101 => ⟨S1x512, .f32⟩
  | 102 => ⟨S512, .f32⟩
  | 103 => ⟨S1x1x512, .f32⟩
  | 104 => ⟨S8x2048x512, .f32⟩
  | 105 => ⟨S8x2048x512, .f32⟩
  | 106 => ⟨S8x2048x512, .f32⟩
  | 107 => ⟨S8x2048x512, .f32⟩
  | 108 => ⟨S1x512, .f32⟩
  | 109 => ⟨S512, .f32⟩
  | 110 => ⟨S1x1x512, .f32⟩
  | 111 => ⟨S8x2048x512, .f32⟩
  | 112 => ⟨S8x2048x512, .f32⟩
  | 113 => ⟨S8x2048x512, .f32⟩
  | 114 => ⟨S8x2048x512, .f32⟩
  | 115 => ⟨S1x512, .f32⟩
  | 116 => ⟨S512, .f32⟩
  | 117 => ⟨S1x1x512, .f32⟩
  | 118 => ⟨S8x2048x512, .f32⟩
  | 119 => ⟨S8x2048x512, .f32⟩
  | 120 => ⟨S8x2048x512, .f32⟩
  | 121 => ⟨S8x2048x512, .f32⟩
  | 122 => ⟨S1x512, .f32⟩
  | 123 => ⟨S512, .f32⟩
  | 124 => ⟨S1x1x512, .f32⟩
  | 125 => ⟨S8x2048x512, .f32⟩
  | 126 => ⟨S8x2048x512, .f32⟩
  | 127 => ⟨S8x2048x512, .f32⟩
  | _ => ⟨S8x2048x2560, .bf16⟩

abbrev hbmTy0_1 (i : Nat) : BufTy := match i % 128 with
  | 0 => ⟨S8x2048x512, .f32⟩
  | 1 => ⟨S1x512, .f32⟩
  | 2 => ⟨S512, .f32⟩
  | 3 => ⟨S1x1x512, .f32⟩
  | 4 => ⟨S8x2048x512, .f32⟩
  | 5 => ⟨S8x2048x512, .f32⟩
  | 6 => ⟨S8x2048x512, .f32⟩
  | 7 => ⟨S8x2048x512, .f32⟩
  | 8 => ⟨S1x512, .f32⟩
  | 9 => ⟨S512, .f32⟩
  | 10 => ⟨S1x1x512, .f32⟩
  | 11 => ⟨S8x2048x512, .f32⟩
  | 12 => ⟨S8x2048x512, .f32⟩
  | 13 => ⟨S8x2048x512, .f32⟩
  | 14 => ⟨S8x2048x512, .f32⟩
  | 15 => ⟨S1x512, .f32⟩
  | 16 => ⟨S512, .f32⟩
  | 17 => ⟨S1x1x512, .f32⟩
  | 18 => ⟨S8x2048x512, .f32⟩
  | 19 => ⟨S8x2048x512, .f32⟩
  | 20 => ⟨S8x2048x512, .f32⟩
  | 21 => ⟨S8x2048x512, .f32⟩
  | 22 => ⟨S1x512, .f32⟩
  | 23 => ⟨S512, .f32⟩
  | 24 => ⟨S1x1x512, .f32⟩
  | 25 => ⟨S8x2048x512, .f32⟩
  | 26 => ⟨S8x2048x512, .f32⟩
  | 27 => ⟨S8x2048x512, .f32⟩
  | 28 => ⟨S8x2048x512, .f32⟩
  | 29 => ⟨S1x512, .f32⟩
  | 30 => ⟨S512, .f32⟩
  | 31 => ⟨S1x1x512, .f32⟩
  | 32 => ⟨S8x2048x512, .f32⟩
  | 33 => ⟨S8x2048x512, .f32⟩
  | 34 => ⟨S8x2048x512, .f32⟩
  | 35 => ⟨S8x2048x512, .f32⟩
  | 36 => ⟨S1x512, .f32⟩
  | 37 => ⟨S512, .f32⟩
  | 38 => ⟨S1x1x512, .f32⟩
  | 39 => ⟨S8x2048x512, .f32⟩
  | 40 => ⟨S8x2048x512, .f32⟩
  | 41 => ⟨S8x2048x512, .f32⟩
  | 42 => ⟨S8x2048x512, .f32⟩
  | 43 => ⟨S1x512, .f32⟩
  | 44 => ⟨S512, .f32⟩
  | 45 => ⟨S1x1x512, .f32⟩
  | 46 => ⟨S8x2048x512, .f32⟩
  | 47 => ⟨S8x2048x512, .f32⟩
  | 48 => ⟨S8x2048x512, .f32⟩
  | 49 => ⟨S8x2048x512, .f32⟩
  | 50 => ⟨S1x512, .f32⟩
  | 51 => ⟨S512, .f32⟩
  | 52 => ⟨S1x1x512, .f32⟩
  | 53 => ⟨S8x2048x512, .f32⟩
  | 54 => ⟨S8x2048x512, .f32⟩
  | 55 => ⟨S8x2048x512, .f32⟩
  | 56 => ⟨S8x2048x512, .f32⟩
  | 57 => ⟨S1x512, .f32⟩
  | 58 => ⟨S512, .f32⟩
  | 59 => ⟨S1x1x512, .f32⟩
  | 60 => ⟨S8x2048x512, .f32⟩
  | 61 => ⟨S8x2048x512, .f32⟩
  | 62 => ⟨S8x2048x512, .f32⟩
  | 63 => ⟨S8x2048x512, .f32⟩
  | 64 => ⟨S1x512, .f32⟩
  | 65 => ⟨S512, .f32⟩
  | 66 => ⟨S1x1x512, .f32⟩
  | 67 => ⟨S8x2048x512, .f32⟩
  | 68 => ⟨S8x2048x512, .f32⟩
  | 69 => ⟨S8x2048x512, .f32⟩
  | 70 => ⟨S8x2048x512, .f32⟩
  | 71 => ⟨S1x512, .f32⟩
  | 72 => ⟨S512, .f32⟩
  | 73 => ⟨S1x1x512, .f32⟩
  | 74 => ⟨S8x2048x512, .f32⟩
  | 75 => ⟨S8x2048x512, .f32⟩
  | 76 => ⟨S8x2048x512, .f32⟩
  | 77 => ⟨S8x2048x512, .f32⟩
  | 78 => ⟨S1x512, .f32⟩
  | 79 => ⟨S512, .f32⟩
  | 80 => ⟨S1x1x512, .f32⟩
  | 81 => ⟨S8x2048x512, .f32⟩
  | 82 => ⟨S8x2048x512, .f32⟩
  | 83 => ⟨S8x2048x512, .f32⟩
  | 84 => ⟨S8x2048x512, .f32⟩
  | 85 => ⟨S1x512, .f32⟩
  | 86 => ⟨S512, .f32⟩
  | 87 => ⟨S1x1x512, .f32⟩
  | 88 => ⟨S8x2048x512, .f32⟩
  | 89 => ⟨S8x2048x512, .f32⟩
  | 90 => ⟨S8x2048x512, .f32⟩
  | 91 => ⟨S8x2048x512, .f32⟩
  | 92 => ⟨S1x512, .f32⟩
  | 93 => ⟨S512, .f32⟩
  | 94 => ⟨S1x1x512, .f32⟩
  | 95 => ⟨S8x2048x512, .f32⟩
  | 96 => ⟨S8x2048x512, .f32⟩
  | 97 => ⟨S8x2048x512, .f32⟩
  | 98 => ⟨S8x2048x512, .f32⟩
  | 99 => ⟨S1x512, .f32⟩
  | 100 => ⟨S512, .f32⟩
  | 101 => ⟨S1x1x512, .f32⟩
  | 102 => ⟨S8x2048x512, .f32⟩
  | 103 => ⟨S8x2048x512, .f32⟩
  | 104 => ⟨S8x2048x512, .f32⟩
  | 105 => ⟨S8x2048x512, .f32⟩
  | 106 => ⟨S1x512, .f32⟩
  | 107 => ⟨S512, .f32⟩
  | 108 => ⟨S1x1x512, .f32⟩
  | 109 => ⟨S8x2048x512, .f32⟩
  | 110 => ⟨S8x2048x512, .f32⟩
  | 111 => ⟨S8x2048x512, .f32⟩
  | 112 => ⟨S1x1x512, .f32⟩
  | 113 => ⟨S8x2048x512, .f32⟩
  | 114 => ⟨S8x2048x512, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S8x2048x512, .f32⟩
  | 122 => ⟨S8x2048x512, .f32⟩
  | 123 => ⟨S8x2048x512, .f32⟩
  | 124 => ⟨S_, .f32⟩
  | 125 => ⟨S8x2048, .f32⟩
  | 126 => ⟨S8x2048x1, .f32⟩
  | 127 => ⟨S_, .f32⟩
  | _ => ⟨S8x2048x2560, .bf16⟩

abbrev hbmTy0_2 (i : Nat) : BufTy := match i % 128 with
  | 0 => ⟨S8x2048x1, .f32⟩
  | 1 => ⟨S8x2048x1, .f32⟩
  | 2 => ⟨S_, .f32⟩
  | 3 => ⟨S8x2048x1, .f32⟩
  | 4 => ⟨S8x2048x1, .f32⟩
  | 5 => ⟨S8x2048x1, .f32⟩
  | 6 => ⟨S8x2048x512, .f32⟩
  | 7 => ⟨S8x2048x512, .f32⟩
  | 8 => ⟨S1x1x512, .f32⟩
  | 9 => ⟨S8x2048x512, .f32⟩
  | 10 => ⟨S8x2048x512, .f32⟩
  | 11 => ⟨S1x1x512, .f32⟩
  | 12 => ⟨S8x2048x512, .f32⟩
  | 13 => ⟨S8x2048x512, .f32⟩
  | 14 => ⟨S8x2048x512, .f32⟩
  | 15 => ⟨S8x2048x512, .f32⟩
  | 16 => ⟨S_, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S8x2048x512, .bf16⟩
  | _ => ⟨S8x2048x2560, .bf16⟩

abbrev hbmTy (i : Nat) : BufTy := match i / 128 with
  | 0 => hbmTy0_0 i
  | 1 => hbmTy0_1 i
  | 2 => hbmTy0_2 i
  | _ => ⟨S8x2048x2560, .bf16⟩

abbrev bufTy : (tb : Table) → Fin (tcTables nBuf tb) → BufTy
  | .hbm, ⟨i, _⟩ => hbmTy i
  | _, _ => ⟨S8x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩

abbrev nD : Nat := 1
abbrev τ : Topo := Topo.v7x

variable {F : FTy → Type} [FloatOps F]
-- ==== Proof.AttnTrip.lean ====
module

public import proofs.«01_k».proof.Proof.Gen.KernelIdeal.Value
public import Idealize.ShloMosaic.Lib.Pipeline.ValueKit
public import Idealize.ShloMosaic.Lib.LoopRemainder
public import Idealize.ShloMosaic.Lib.VecWindow

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]
variable (𝒱 : Variants) (c : Dev nD) (bd : Option 𝒱.V) (i : grid0.Coords)
  (arg3 : Memref sig .tc .vmem S1x256x256 .bf16) (harg3 : arg3.IsWhole) (arg4 : Memref sig .tc .vmem S1x2048x256 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x128 .f32) (harg9 : arg9.IsWhole) (v0 : Vec F S1x256x256 .bf16)

theorem hz : (![0, 0, 0] : Fin 3 → Nat) = fun _ => 0 := funext fun a => by fin_cases a <;> rfl

/-- The running maximum, the running sum of weights and the running weighted sum of values. -/
abbrev St (F : FTy → Type) : Type := Vec F S1x256x1 .f32 × Vec F S1x256x1 .f32 × Vec F S1x256x128 .f32

/-- One unmasked key block folded into the state. -/
def stepU (q : FVec F S256x256 .bf16) (k : Vec F S1x256x256 .bf16) (v : Vec F S1x256x128 .bf16) (s : St F) : St F :=
  (k0_pay22 (k0_pay5 q k s.1), k0_pay8 q k s.1 s.2.1, k0_pay21 (k0_pay9 q k v s.1 s.2.2))

/-- The diagonal key block, masked, folded into the state. -/
def stepM (q : FVec F S256x256 .bf16) (k : Vec F S1x256x256 .bf16) (v : Vec F S1x256x128 .bf16) (s : St F) : St F :=
  (k0_pay1 (k0_pay32 q (k0_pay25 k) k0_pay27 k0_pay28 k0_pay29 s.1),
   k0_pay35 q (k0_pay25 k) k0_pay27 k0_pay28 k0_pay29 s.1 s.2.1,
   k0_pay36 q (k0_pay25 k) (k0_pay26 v) k0_pay27 k0_pay28 k0_pay29 s.1 s.2.2)

/-- The state before the first key block. -/
def st0 : St F := (k0_pay18, k0_pay19, k0_pay20)

theorem lt2048 (n : ℕ) : n % 2048 < 2048 := Nat.mod_lt _ (by decide)

/-- Key block `j` of the head's keys: rows `256 j` to `256 j + 255`. -/
def kb (X : Vec F S1x2048x256 .bf16) (j : ℕ) : Vec F S1x256x256 .bf16 :=
  fun y => X (ix3 0 ⟨(256 * j + (y 1).val) % 2048, lt2048 _⟩ (y 2))

/-- Value block `j`. -/
def vb (X : Vec F S1x2048x128 .bf16) (j : ℕ) : Vec F S1x256x128 .bf16 :=
  fun y => X (ix3 0 ⟨(256 * j + (y 1).val) % 2048, lt2048 _⟩ (y 2))

/-- The state after the first `n` key blocks, unmasked. -/
def iter (q : FVec F S256x256 .bf16) (x1 : Vec F S1x2048x256 .bf16) (x2 : Vec F S1x2048x128 .bf16) : ℕ → St F
  | 0 => st0
  | n + 1 => stepU q (kb x1 n) (vb x2 n) (iter q x1 x2 n)

theorem ld_kb (X : Vec F S1x2048x256 .bf16) (off : Fin 3 → ℕ) (j : ℕ) (hj : j < 8) (h : off = ![0, 256 * j, 0]) (inb) :
    View.ld X (Rect.unit (s := S1x2048x256) off S1x256x256.size inb) = kb X j := by
  subst h
  funext y
  refine View.ld_unit_apply_of X _ _ inb y _ fun a => ?_
  have hy : (y 1).val < 256 := (y 1).isLt
  match a with
  | ⟨0, _⟩ => have : (y 0).val < 1 := (y 0).isLt; show (0 : ℕ) = 0 + (y 0).val; omega
  | ⟨1, _⟩ => show (256 * j + (y 1).val) % 2048 = 256 * j + (y 1).val; omega
  | ⟨2, _⟩ => show (y 2).val = 0 + (y 2).val; omega

theorem ld_vb (X : Vec F S1x2048x128 .bf16) (off : Fin 3 → ℕ) (j : ℕ) (hj : j < 8) (h : off = ![0, 256 * j, 0]) (inb) :
    View.ld X (Rect.unit (s := S1x2048x128) off S1x256x128.size inb) = vb X j := by
  subst h
  funext y
  refine View.ld_unit_apply_of X _ _ inb y _ fun a => ?_
  have hy : (y 1).val < 256 := (y 1).isLt
  match a with
  | ⟨0, _⟩ => have : (y 0).val < 1 := (y 0).isLt; show (0 : ℕ) = 0 + (y 0).val; omega
  | ⟨1, _⟩ => show (256 * j + (y 1).val) % 2048 = 256 * j + (y 1).val; omega
  | ⟨2, _⟩ => show (y 2).val = 0 + (y 2).val; omega

/-- The loop over the unmasked blocks makes `i 2` trips. -/
theorem trips_eq (i : grid0.Coords) : (k0_t1_loop i).trips = (i 2).val :=
  (by decide +kernel : ∀ n : Fin 8, Scf.trips (0#32 : BitVec 32) (Scalar.addi 0#32 (Scalar.muli (Scalar.divsi (Scalar.subi (BitVec.ofNat 32 n.val) 0#32) 1#32) 1#32)) 1#32 = n.val) (i 2)

theorem trips2_eq (i : grid0.Coords) : (k0_t2_loop i).trips = 0 := Idealize.ShloMosaic.Scf.rem_trips _ _

theorem trip_lt (i : grid0.Coords) (k : Fin (k0_t1_loop i).trips) : k.val < 8 :=
  lt_of_lt_of_le k.isLt ((trips_eq i).le.trans (Nat.le_of_lt (i 2).isLt))

theorem off1_eq (i : grid0.Coords) (k : Fin (k0_t1_loop i).trips) : k0_off1 i k = ![0, 256 * k.val, 0] := by
  have h : k.val < 8 := by exact trip_lt i k
  have := (by decide +kernel : ∀ n : Fin 8, (Scalar.indexCast (Scalar.muli (Scf.iv (0#32 : BitVec 32) 1#32 n.val) 256#32)).toNat = 256 * n.val) ⟨k.val, h⟩
  unfold k0_off1; dsimp only; rw [this]

theorem off2_eq (i : grid0.Coords) (k : Fin (k0_t1_loop i).trips) : k0_off2 i k = ![0, 256 * k.val, 0] := by
  have h : k.val < 8 := by exact trip_lt i k
  have := (by decide +kernel : ∀ n : Fin 8, (Scalar.indexCast (Scalar.muli (Scf.iv (0#32 : BitVec 32) 1#32 n.val) 256#32)).toNat = 256 * n.val) ⟨k.val, h⟩
  unfold k0_off2; dsimp only; rw [this]

theorem off5_eq (i : grid0.Coords) : k0_off5 i = ![0, 256 * (i 2).val, 0] := by
  have := (by decide +kernel : ∀ n : Fin 8, (Scalar.indexCast (Scalar.muli (BitVec.ofNat 32 n.val) 256#32)).toNat = 256 * n.val) (i 2)
  unfold k0_off5; dsimp only; rw [this]

theorem off6_eq (i : grid0.Coords) : k0_off6 i = ![0, 256 * (i 2).val, 0] := by
  have := (by decide +kernel : ∀ n : Fin 8, (Scalar.indexCast (Scalar.muli (BitVec.ofNat 32 n.val) 256#32)).toNat = 256 * n.val) (i 2)
  unfold k0_off6; dsimp only; rw [this]

/-- What one trip of the loop leaves in the three scratch buffers, as a function of what it finds there. -/
theorem trip_eq (X4 : BufTy.Contents (Elt F) arg4.view.ty) (X5 : BufTy.Contents (Elt F) arg5.view.ty) (k : Fin (k0_t1_loop i).trips)
    (f7 : BufTy.Contents (Elt F) arg7.view.ty) (f8 : BufTy.Contents (Elt F) arg8.view.ty) (f9 : BufTy.Contents (Elt F) arg9.view.ty) :
    (arg7.view.read (Elt F) (arg7.view.writes (Elt F) f7 (tripL_k0_t1 𝒱 c bd i arg3 harg3 arg4 harg4 arg5 harg5 arg6 harg6 arg7 harg7 arg8 harg8 arg9 harg9 v0 X4 X5 k f7 f8 f9).1),
     arg8.view.read (Elt F) (arg8.view.writes (Elt F) f8 (tripL_k0_t1 𝒱 c bd i arg3 harg3 arg4 harg4 arg5 harg5 arg6 harg6 arg7 harg7 arg8 harg8 arg9 harg9 v0 X4 X5 k f7 f8 f9).2.1),
     arg9.view.read (Elt F) (arg9.view.writes (Elt F) f9 (tripL_k0_t1 𝒱 c bd i arg3 harg3 arg4 harg4 arg5 harg5 arg6 harg6 arg7 harg7 arg8 harg8 arg9 harg9 v0 X4 X5 k f7 f8 f9).2.2))
     = stepU (k0_pay17 v0) (kb (arg4.view.read (Elt F) X4) k.val) (vb (arg5.view.read (Elt F) X5) k.val)
        (arg7.view.read (Elt F) f7, arg8.view.read (Elt F) f8, arg9.view.read (Elt F) f9) := by
  have hk : k.val < 8 := by exact trip_lt i k
  rw [← ld_kb (arg4.view.read (Elt F) X4) (k0_off1 i k) k.val hk (off1_eq i k) (k0_off1_inb i k),
    ← ld_vb (arg5.view.read (Elt F) X5) (k0_off2 i k) k.val hk (off2_eq i k) (k0_off2_inb i k)]
  unfold tripL_k0_t1
  unfold trip_k0_t1
  dsimp only
  sl_unfold_words
  unfold stepU
  refine Prod.ext ?_ (Prod.ext ?_ ?_)
  · refine (View.read_writes_full (s := S1x256x1) arg7.view _ _ _ _).trans ?_
    dsimp only
    rw [View.readAt_full (s := S1x256x1)]
    rfl
  · refine (View.read_writes_full (s := S1x256x1) arg8.view _ _ _ _).trans ?_
    dsimp only
    rw [View.readAt_full (s := S1x256x1), View.readAt_full (s := S1x256x1)]
    rfl
  · refine (View.read_writes_full (s := S1x256x128) arg9.view _ _ _ _).trans ?_
    dsimp only
    rw [View.readAt_full (s := S1x256x1), View.readAt_full (s := S1x256x128)]
    rfl

/-- What the first `n` trips leave in the three scratch buffers: `n` steps from what the buffers held. -/
theorem loop_eq (X4 : BufTy.Contents (Elt F) arg4.view.ty) (X5 : BufTy.Contents (Elt F) arg5.view.ty)
    (G7 : BufTy.Contents (Elt F) arg7.view.ty) (G8 : BufTy.Contents (Elt F) arg8.view.ty) (G9 : BufTy.Contents (Elt F) arg9.view.ty)
    (h0 : (arg7.view.read (Elt F) G7, arg8.view.read (Elt F) G8, arg9.view.read (Elt F) G9) = (st0 : St F)) (n : ℕ)
    (hn : n ≤ (k0_t1_loop i).trips) :
    (arg7.view.read (Elt F) (arg7.view.writes (Elt F) G7 (pb_k0_t1 𝒱 c bd i arg3 harg3 arg4 harg4 arg5 harg5 arg6 harg6 arg7 harg7 arg8 harg8 arg9 harg9 v0 X4 X5 G7 G8 G9 n).1),
     arg8.view.read (Elt F) (arg8.view.writes (Elt F) G8 (pb_k0_t1 𝒱 c bd i arg3 harg3 arg4 harg4 arg5 harg5 arg6 harg6 arg7 harg7 arg8 harg8 arg9 harg9 v0 X4 X5 G7 G8 G9 n).2.1),
     arg9.view.read (Elt F) (arg9.view.writes (Elt F) G9 (pb_k0_t1 𝒱 c bd i arg3 harg3 arg4 harg4 arg5 harg5 arg6 harg6 arg7 harg7 arg8 harg8 arg9 harg9 v0 X4 X5 G7 G8 G9 n).2.2))
     = iter (k0_pay17 v0) (arg4.view.read (Elt F) X4) (arg5.view.read (Elt F) X5) n := by
  induction n with
  | zero => exact h0
  | succ n ih =>
    have e := pb_k0_t1_succ (F := F) 𝒱 c bd i arg3 harg3 arg4 harg4 arg5 harg5 arg6 harg6 arg7 harg7 arg8 harg8 arg9 harg9 v0 X4 X5 G7 G8 G9 ⟨n, hn⟩
    dsimp only at e
    rw [e]
    simp only [View.writes_append]
    rw [trip_eq 𝒱 c bd i arg3 harg3 arg4 harg4 arg5 harg5 arg6 harg6 arg7 harg7 arg8 harg8 arg9 harg9 v0 X4 X5 ⟨n, hn⟩, ih (Nat.le_of_succ_le hn)]
    rfl

/-- What the body leaves in the output block: the quotient of the state after the unmasked blocks and the diagonal one. -/
theorem out_eq (x0 : Vec F S1x256x256 .bf16) (x1 : Vec F S1x2048x256 .bf16) (x2 : Vec F S1x2048x128 .bf16) :
    out0_A_3 c i arg3 harg3 arg4 harg4 arg5 harg5 arg6 harg6 arg7 harg7 arg8 harg8 arg9 harg9 x0 x1 x2
      = (fun s : St F => k0_pay2 s.2.2 s.2.1) (stepM (k0_pay17 x0) (kb x1 (i 2).val) (vb x2 (i 2).val) (iter (k0_pay17 x0) x1 x2 (i 2).val)) := by
  have hi : (i 2).val < 8 := (i 2).isLt
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  sl_unfold_words
  refine (View.canon_cons_unit_zero (S := S1x256x128) hz _ _ _).trans ?_
  have e2 : Scf.trips (k0_t2_loop i).lb (k0_t2_loop i).ub (k0_t2_loop i).st = 0 := trips2_eq i
  have e1 : Scf.trips (k0_t1_loop i).lb (k0_t1_loop i).ub (k0_t1_loop i).st = (i 2).val := trips_eq i
  have z2 : ∀ (v0 : Vec F S1x256x256 .bf16) (w : BitVec 32) X4 X5 G7 G8 G9, pb_k0_t2 (F := F) Variants.none c none i arg3 harg3 arg4 harg4 arg5 harg5 arg6 harg6 arg7 harg7 arg8 harg8 arg9 harg9 v0 w X4 X5 G7 G8 G9 0 = ([], [], []) :=
    fun _ _ _ _ _ _ _ => rfl
  have r3 : View.readAt (Elt F) arg3.view (Rect.unit ![0, 0, 0] ![1, 256, 256] inb_S1x256x256_S1x256x256_0_0_0).toLoadRect (harg3.unread x0) = x0 :=
    (View.readAt_full (s := S1x256x256) arg3.view _ _).trans (harg3.read_unread x0)
  have r7 : ∀ L, arg7.view.readCov L (Rect.unit (s := S1x256x1) ![0, 0, 0] ![1, 256, 1] inb_S1x256x1_S1x256x1_0_0_0).toLoadRect = arg7.view.read (Elt F) (arg7.view.writes (Elt F) arg7.view.junk L) :=
    fun L => View.readAt_full (s := S1x256x1) arg7.view _ _
  have r8 : ∀ L, arg8.view.readCov L (Rect.unit (s := S1x256x1) ![0, 0, 0] ![1, 256, 1] inb_S1x256x1_S1x256x1_0_0_0).toLoadRect = arg8.view.read (Elt F) (arg8.view.writes (Elt F) arg8.view.junk L) :=
    fun L => View.readAt_full (s := S1x256x1) arg8.view _ _
  have r9 : ∀ L, arg9.view.readCov L (Rect.unit (s := S1x256x128) ![0, 0, 0] ![1, 256, 128] inb_S1x256x128_S1x256x128_0_0_0).toLoadRect = arg9.view.read (Elt F) (arg9.view.writes (Elt F) arg9.view.junk L) :=
    fun L => View.readAt_full (s := S1x256x128) arg9.view _ _
  have w8 : ∀ f w L, arg8.view.read (Elt F) (arg8.view.writes (Elt F) f (⟨Rect.unit (s := S1x256x1) ![0, 0, 0] ![1, 256, 1] inb_S1x256x1_S1x256x1_0_0_0, w⟩ :: L)) = w :=
    fun f w L => View.read_writes_full (s := S1x256x1) arg8.view f _ w L
  have w9 : ∀ f w L, arg9.view.read (Elt F) (arg9.view.writes (Elt F) f (⟨Rect.unit (s := S1x256x128) ![0, 0, 0] ![1, 256, 128] inb_S1x256x128_S1x256x128_0_0_0, w⟩ :: L)) = w :=
    fun f w L => View.read_writes_full (s := S1x256x128) arg9.view f _ w L
  have e4 : View.readAt (Elt F) arg4.view (Rect.unit (k0_off5 i) ![1, 256, 256] (k0_off5_inb i)).toLoadRect (harg4.unread x1) = kb x1 (i 2).val := by
    have := ld_kb x1 (k0_off5 i) (i 2).val hi (off5_eq i) (k0_off5_inb i)
    rw [View.readAt_eq_ld, harg4.read_unread]; exact this
  have e5 : View.readAt (Elt F) arg5.view (Rect.unit (k0_off6 i) ![1, 256, 128] (k0_off6_inb i)).toLoadRect (harg5.unread x2) = vb x2 (i 2).val := by
    have := ld_vb x2 (k0_off6 i) (i 2).val hi (off6_eq i) (k0_off6_inb i)
    rw [View.readAt_eq_ld, harg5.read_unread]; exact this
  have h := loop_eq Variants.none c none i arg3 harg3 arg4 harg4 arg5 harg5 arg6 harg6 arg7 harg7 arg8 harg8 arg9 harg9 x0 (harg4.unread x1) (harg5.unread x2)
    (arg7.view.writes (Elt F) arg7.view.junk [⟨Rect.unit (s := S1x256x1) ![0, 0, 0] ![1, 256, 1] inb_S1x256x1_S1x256x1_0_0_0, k0_pay18⟩])
    (arg8.view.writes (Elt F) arg8.view.junk [⟨Rect.unit (s := S1x256x1) ![0, 0, 0] ![1, 256, 1] inb_S1x256x1_S1x256x1_0_0_0, k0_pay19⟩])
    (arg9.view.writes (Elt F) arg9.view.junk [⟨Rect.unit (s := S1x256x128) ![0, 0, 0] ![1, 256, 128] inb_S1x256x128_S1x256x128_0_0_0, k0_pay20⟩])
    (Prod.ext (View.read_writes_full (s := S1x256x1) arg7.view _ _ _ _) (Prod.ext (View.read_writes_full (s := S1x256x1) arg8.view _ _ _ _) (View.read_writes_full (s := S1x256x128) arg9.view _ _ _ _)))
    (i 2).val (trips_eq i).ge
  rw [harg4.read_unread, harg5.read_unread] at h
  have h7 := congrArg Prod.fst h
  have h8 := congrArg (fun s : St F => s.2.1) h
  have h9 := congrArg (fun s : St F => s.2.2) h
  dsimp only at h7 h8 h9
  simp only [e1, e2, z2, r3, r7, r8, r9, w8, w9, List.nil_append, View.writes_append, h7, h8, h9]
  unfold stepM
  dsimp only
  rw [← e4, ← e5]
  rfl

end Cert.KernelIdeal.Attn

end
-- ==== Proof.Online.lean ====
/-
  The running softmax over the extended reals, free of any program: keys are numbered, `s j` is the score of key
  `j` (`⊥` where it is masked), `v j` one coordinate of its value. After the keys of a finite set `T` the running
  row holds the greatest score, the sum of `exp (s j - max)` and the same sum weighted by `v j`; absorbing a
  further set of keys rescales the two sums by `exp (old max - new max)` and adds the new terms.
-/
module

public import Idealize.ShloMosaic.PureOps.Ideal
public import Mathlib.Data.EReal.Inv

@[expose] public section

noncomputable section

open Idealize.ShloMosaic

namespace Cert.Online

/-- A real, non-negative factor goes through a finite sum of extended reals, whatever the terms. -/
theorem mul_sum {ι : Type} (c : ℝ) (hc : 0 ≤ c) (T : Finset ι) (f : ι → EReal) :
    (c : EReal) * ∑ j ∈ T, f j = ∑ j ∈ T, (c : EReal) * f j := by
  classical
  induction T using Finset.induction_on with
  | empty => simp
  | insert a T ha ih =>
    rw [Finset.sum_insert ha, Finset.sum_insert ha, ← ih]
    exact EReal.left_distrib_of_nonneg_of_ne_top (by exact_mod_cast hc) (EReal.coe_ne_top _) _ _

/-- A finite sum of real numbers, read among the extended reals. -/
theorem coe_sum {ι : Type} (T : Finset ι) (f : ι → ℝ) : ∑ i ∈ T, (f i : EReal) = ((∑ i ∈ T, f i : ℝ) : EReal) := by
  classical
  induction T using Finset.induction_on with
  | empty => simp
  | insert a T ha ih => rw [Finset.sum_insert ha, Finset.sum_insert ha, ih, EReal.coe_add]

/-- The weight of a score against a bound it does not exceed is a real number, at least zero. -/
theorem weight_real {a M : EReal} (h : a ≤ M) (hM : M ≠ ⊤) : ∃ r : ℝ, 0 ≤ r ∧ Ideal.exp (a - M) = r := by
  induction M with
  | top => exact absurd rfl hM
  | bot => rw [le_bot_iff.mp h]; exact ⟨0, le_rfl, rfl⟩
  | coe m =>
    induction a with
    | top => exact absurd (top_le_iff.mp h) hM
    | bot => exact ⟨0, le_rfl, rfl⟩
    | coe r => exact ⟨Real.exp (r - m), (Real.exp_pos _).le, by rw [← EReal.coe_sub]; rfl⟩

/-- A weight against an old bound, rescaled to a greater bound, is the weight against that bound. -/
theorem weight_mul {a M N : EReal} (h : a ≤ M) (h' : M ≤ N) (hN : N ≠ ⊤) :
    Ideal.exp (M - N) * Ideal.exp (a - M) = Ideal.exp (a - N) := by
  induction a with
  | bot => simp
  | top => exact absurd (top_le_iff.mp (h.trans h')) hN
  | coe r =>
    induction M with
    | bot => exact absurd (le_bot_iff.mp h) (EReal.coe_ne_bot _)
    | top => exact absurd (top_le_iff.mp h') hN
    | coe m =>
      induction N with
      | bot => exact absurd (le_bot_iff.mp h') (EReal.coe_ne_bot _)
      | top => exact absurd rfl hN
      | coe n =>
        rw [← EReal.coe_sub, ← EReal.coe_sub, ← EReal.coe_sub]
        show ((Real.exp (m - n) : ℝ) : EReal) * ((Real.exp (r - m) : ℝ) : EReal) = ((Real.exp (r - n) : ℝ) : EReal)
        rw [← EReal.coe_mul, ← Real.exp_add]
        congr 2; ring

/-- The greatest score among the keys of `T`. -/
def mx (s : ℕ → EReal) (T : Finset ℕ) : EReal := T.sup s
/-- The sum of the weights of the keys of `T` against the bound `M`. -/
def den (s : ℕ → EReal) (M : EReal) (T : Finset ℕ) : EReal := ∑ j ∈ T, Ideal.exp (s j - M)
/-- The sum of the values of the keys of `T` by their weights. -/
def num (s v : ℕ → EReal) (M : EReal) (T : Finset ℕ) : EReal := ∑ j ∈ T, Ideal.exp (s j - M) * v j

variable (s v : ℕ → EReal)

theorem mx_ne_top (hs : ∀ j, s j ≠ ⊤) (T : Finset ℕ) : mx s T ≠ ⊤ := by
  classical
  unfold mx
  induction T using Finset.induction_on with
  | empty => simp
  | insert a T ha ih => rw [Finset.sup_insert]; exact ne_of_lt (max_lt (lt_top_iff_ne_top.mpr (hs a)) (lt_top_iff_ne_top.mpr ih))

theorem le_mx {T : Finset ℕ} {j : ℕ} (h : j ∈ T) : s j ≤ mx s T := Finset.le_sup h

/-- Rescaling the sum of weights to a greater bound. -/
theorem den_rescale {T : Finset ℕ} {N : EReal} (hN : N ≠ ⊤) (h : mx s T ≤ N) :
    Ideal.exp (mx s T - N) * den s (mx s T) T = den s N T := by
  obtain ⟨c, hc, e⟩ := weight_real h hN
  unfold den
  rw [e, mul_sum c hc]
  refine Finset.sum_congr rfl fun j hj => ?_
  rw [← e]; exact weight_mul (le_mx s hj) h hN

/-- Rescaling the weighted sum of values to a greater bound. -/
theorem num_rescale {T : Finset ℕ} {N : EReal} (hN : N ≠ ⊤) (h : mx s T ≤ N) :
    Ideal.exp (mx s T - N) * num s v (mx s T) T = num s v N T := by
  obtain ⟨c, hc, e⟩ := weight_real h hN
  unfold num
  rw [e, mul_sum c hc]
  refine Finset.sum_congr rfl fun j hj => ?_
  rw [← e, ← mul_assoc]
  exact congrArg (· * v j) (weight_mul (le_mx s hj) h hN)

/-- A running maximum from minus infinity is the supremum. -/
theorem fold_max {ι : Type} (T : Finset ι) (f : ι → EReal) : T.fold max ⊥ f = T.sup f := rfl

/-- The keys up to the end of block `n` are those before it and the block's own 256. -/
theorem mx_block (n : ℕ) : mx s (Finset.range (256 * (n + 1)))
    = max (mx s (Finset.range (256 * n))) (Finset.univ.fold max ⊥ fun k : Fin 256 => s (256 * n + k.val)) := by
  rw [fold_max]
  unfold mx
  refine le_antisymm (Finset.sup_le fun j hj => ?_) (max_le (Finset.sup_mono fun j hj => ?_) (Finset.sup_le fun k _ => ?_))
  · rw [Finset.mem_range] at hj
    by_cases h : j < 256 * n
    · exact le_max_of_le_left (Finset.le_sup (Finset.mem_range.mpr h))
    · refine le_max_of_le_right ?_
      have hk : j - 256 * n < 256 := by omega
      have := Finset.le_sup (f := fun k : Fin 256 => s (256 * n + k.val)) (Finset.mem_univ (⟨j - 256 * n, hk⟩ : Fin 256))
      have e : 256 * n + (j - 256 * n) = j := by omega
      simpa only [e] using this
  · rw [Finset.mem_range] at hj ⊢; omega
  · exact Finset.le_sup (Finset.mem_range.mpr (by have := k.isLt; omega))

/-- A running maximum over the first `n` keys. -/
theorem mx_range (n : ℕ) : (Finset.univ.fold max ⊥ fun k : Fin n => s k.val) = mx s (Finset.range n) := by
  rw [fold_max]
  unfold mx
  refine le_antisymm (Finset.sup_le fun k _ => Finset.le_sup (Finset.mem_range.mpr k.isLt)) (Finset.sup_le fun j hj => ?_)
  exact Finset.le_sup (f := fun k : Fin n => s k.val) (Finset.mem_univ (⟨j, Finset.mem_range.mp hj⟩ : Fin n))

theorem sum_block (f : ℕ → EReal) (n : ℕ) : ∑ j ∈ Finset.range (256 * (n + 1)), f j
    = (∑ j ∈ Finset.range (256 * n), f j) + ∑ k : Fin 256, f (256 * n + k.val) := by
  rw [show 256 * (n + 1) = 256 * n + 256 from by ring, Finset.sum_range_add, Fin.sum_univ_eq_sum_range (fun k => f (256 * n + k))]

/-- One block absorbed: the sum of weights. -/
theorem den_block (hs : ∀ j, s j ≠ ⊤) (n : ℕ) (N : EReal) (hN : N = mx s (Finset.range (256 * (n + 1)))) :
    Ideal.exp (mx s (Finset.range (256 * n)) - N) * den s (mx s (Finset.range (256 * n))) (Finset.range (256 * n))
        + ∑ k : Fin 256, Ideal.exp (s (256 * n + k.val) - N) = den s N (Finset.range (256 * (n + 1))) := by
  rw [den_rescale s (hN ▸ mx_ne_top s hs _) (hN ▸ (mx_block s n ▸ le_max_left _ _))]
  unfold den
  rw [sum_block (fun j => Ideal.exp (s j - N)) n]

/-- One block absorbed: the weighted sum of values. -/
theorem num_block (hs : ∀ j, s j ≠ ⊤) (n : ℕ) (N : EReal) (hN : N = mx s (Finset.range (256 * (n + 1)))) :
    Ideal.exp (mx s (Finset.range (256 * n)) - N) * num s v (mx s (Finset.range (256 * n))) (Finset.range (256 * n))
        + ∑ k : Fin 256, Ideal.exp (s (256 * n + k.val) - N) * v (256 * n + k.val) = num s v N (Finset.range (256 * (n + 1))) := by
  rw [num_rescale s v (hN ▸ mx_ne_top s hs _) (hN ▸ (mx_block s n ▸ le_max_left _ _))]
  unfold num
  rw [sum_block (fun j => Ideal.exp (s j - N) * v j) n]

/-- Keys that are masked out neither raise the maximum … -/
theorem mx_masked {T U : Finset ℕ} (hTU : T ⊆ U) (h : ∀ j ∈ U, j ∉ T → s j = ⊥) : mx s U = mx s T := by
  refine le_antisymm (Finset.sup_le fun j hj => ?_) (Finset.sup_mono hTU)
  by_cases hT : j ∈ T
  · exact le_mx s hT
  · rw [h j hj hT]; exact bot_le

/-- … nor add to the sum of weights … -/
theorem den_masked {T U : Finset ℕ} (M : EReal) (hTU : T ⊆ U) (h : ∀ j ∈ U, j ∉ T → s j = ⊥) : den s M U = den s M T := by
  refine (Finset.sum_subset hTU fun j hj hT => ?_).symm
  rw [h j hj hT]; simp

/-- … nor to the weighted sum of values. -/
theorem num_masked {T U : Finset ℕ} (M : EReal) (hTU : T ⊆ U) (h : ∀ j ∈ U, j ∉ T → s j = ⊥) : num s v M U = num s v M T := by
  refine (Finset.sum_subset hTU fun j hj hT => ?_).symm
  rw [h j hj hT]; simp

/-- The sum of weights over a set with a real score is a positive real. -/
theorem den_pos (hs : ∀ j, s j ≠ ⊤) {T : Finset ℕ} {j : ℕ} (hj : j ∈ T) (h : s j ≠ ⊥) :
    ∃ r : ℝ, 0 < r ∧ den s (mx s T) T = r := by
  classical
  have hw : ∀ i, i ∈ T → ∃ r : ℝ, 0 ≤ r ∧ Ideal.exp (s i - mx s T) = r := fun i hi => weight_real (le_mx s hi) (mx_ne_top s hs T)
  choose! w hw0 hw using hw
  have hd : den s (mx s T) T = ((∑ i ∈ T, w i : ℝ) : EReal) := by
    unfold den
    rw [Finset.sum_congr rfl hw, coe_sum]
  refine ⟨∑ i ∈ T, w i, Finset.sum_pos' hw0 ⟨j, hj, ?_⟩, hd⟩
  have e := hw j hj
  have h1 : s j ≤ mx s T := le_mx s hj
  have h2 := mx_ne_top s hs T
  generalize hM : mx s T = M at e h1 h2
  generalize hS : s j = a at e h1 h
  induction a with
  | bot => exact absurd rfl h
  | top => exact absurd (top_le_iff.mp h1) h2
  | coe r =>
    induction M with
    | bot => exact absurd (le_bot_iff.mp h1) (EReal.coe_ne_bot _)
    | top => exact absurd rfl h2
    | coe m =>
      rw [← EReal.coe_sub] at e
      have e' : ((Real.exp (r - m) : ℝ) : EReal) = (w j : EReal) := e
      have : Real.exp (r - m) = w j := by exact_mod_cast e'
      rw [← this]; exact Real.exp_pos _

/-- Dividing the weighted sum once, or every weight before it meets its value, is the same. -/
theorem num_div (hs : ∀ j, s j ≠ ⊤) {T : Finset ℕ} {j : ℕ} (hj : j ∈ T) (h : s j ≠ ⊥) :
    Ideal.div (num s v (mx s T) T) (den s (mx s T) T)
      = ∑ i ∈ T, v i * Ideal.div (Ideal.exp (s i - mx s T)) (den s (mx s T) T) := by
  obtain ⟨r, hr, e⟩ := den_pos s hs hj h
  have hne : (r : EReal) ≠ 0 := by exact_mod_cast hr.ne'
  rw [e]
  unfold num Ideal.div
  simp only [if_neg hne]
  rw [mul_comm, ← EReal.coe_inv, mul_sum _ (inv_nonneg.mpr hr.le)]
  refine Finset.sum_congr rfl fun i _ => ?_
  rw [mul_comm (v i), mul_comm (Ideal.exp _) ((r⁻¹ : ℝ) : EReal), mul_assoc]

end Cert.Online

end
-- ==== Proof.AttnStep.lean ====
/-
  The attention kernel's running state at one row, over the extended reals: what one key block does to the greatest
  score, the sum of weights and one coordinate of the weighted sum of values (`step_row`, `stepM_row`), the state
  after `n` key blocks by induction (`iter_row`), and the written row of the output (`out_row`).
-/
module

public import proofs.«01_k».proof.Proof.AttnTrip
public import proofs.«01_k».proof.Proof.Online

@[expose] public section

set_option maxRecDepth 16384

noncomputable section

open Idealize.ShloMosaic Idealize.ShloMosaic.TcCoe Idealize.SL.Sem
open Cert.Online

namespace Cert.KernelIdeal.Attn
open Cert.KernelIdeal Cert.KernelIdeal.Gen

/-- The word the kernel masks with and starts its maximum from is minus infinity. -/
theorem ofBits_ninf : Ideal.ofBits FTy.f32 4286578688#32 = ⊥ := by
  simp [Ideal.ofBits, Ideal.ieee]

/-- A position's chunk, as the kernel computes it: division towards minus infinity by 64. -/
def chunkW (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem chunkW_eq : ∀ c : Fin 256, chunkW (BitVec.ofNat 32 c.val) = BitVec.ofNat 32 (c.val / 64) := by decide +kernel

theorem sle_eq : ∀ a b : Fin 4, IntOp.cmpi CmpIPredicate.sle (BitVec.ofNat 32 a.val) (BitVec.ofNat 32 b.val)
    = BitVec.ofBool (decide (a.val ≤ b.val)) := by decide +kernel

/-- The mask of the diagonal block: a key is seen by a query of its own chunk or a later one. -/
theorem mask_eq (r c : Fin 256) : IntOp.cmpi CmpIPredicate.sle (chunkW (BitVec.ofNat 32 c.val)) (chunkW (BitVec.ofNat 32 r.val))
    = BitVec.ofBool (decide (c.val / 64 ≤ r.val / 64)) := by
  rw [chunkW_eq, chunkW_eq]
  exact sle_eq ⟨c.val / 64, by have := c.isLt; omega⟩ ⟨r.val / 64, by have := r.isLt; omega⟩

/-- The score of key `j` against row `r` of the query block. -/
def score (q : FVec Ideal S256x256 .bf16) (x1 : Vec Ideal S1x2048x256 .bf16) (r : Fin 256) (j : ℕ) : EReal :=
  ∑ x : Fin 256, q (ix2 r x) * x1 (ix3 0 ⟨j % 2048, lt2048 _⟩ x)

/-- Coordinate `d` of the value of key `j`. -/
def value (x2 : Vec Ideal S1x2048x128 .bf16) (d : Fin 128) (j : ℕ) : EReal := x2 (ix3 0 ⟨j % 2048, lt2048 _⟩ d)

/-- The score with the keys of later chunks masked out; `i` numbers the query block. -/
def mscore (q : FVec Ideal S256x256 .bf16) (x1 : Vec Ideal S1x2048x256 .bf16) (i : ℕ) (r : Fin 256) (j : ℕ) : EReal :=
  if j / 64 ≤ (256 * i + r.val) / 64 then score q x1 r j else ⊥

section Row
variable (q : FVec Ideal S256x256 .bf16) (x1 : Vec Ideal S1x2048x256 .bf16) (x2 : Vec Ideal S1x2048x128 .bf16) (s : St Ideal)
  (r : Fin 256) (d : Fin 128)

theorem step_m (n : ℕ) : (stepU q (kb x1 n) (vb x2 n) s).1 (ix3 0 r 0)
    = max (s.1 (ix3 0 r 0)) (Finset.univ.fold max ⊥ fun k : Fin 256 => score q x1 r (256 * n + k.val)) := by
  pointwise [stepU, k0_pay22, k0_pay5, k0_pay4, k0_pay3]
  rw [ofBits_ninf]; rfl

theorem step_l (n : ℕ) : (stepU q (kb x1 n) (vb x2 n) s).2.1 (ix3 0 r 0)
    = Ideal.exp (s.1 (ix3 0 r 0) - (stepU q (kb x1 n) (vb x2 n) s).1 (ix3 0 r 0)) * s.2.1 (ix3 0 r 0)
      + ∑ k : Fin 256, Ideal.exp (score q x1 r (256 * n + k.val) - (stepU q (kb x1 n) (vb x2 n) s).1 (ix3 0 r 0)) := by
  pointwise [stepU, k0_pay22, k0_pay8, k0_pay7, k0_pay6, k0_pay5, k0_pay4, k0_pay3]
  rfl

theorem step_a (n : ℕ) : (stepU q (kb x1 n) (vb x2 n) s).2.2 (ix3 0 r d)
    = Ideal.exp (s.1 (ix3 0 r 0) - (stepU q (kb x1 n) (vb x2 n) s).1 (ix3 0 r 0)) * s.2.2 (ix3 0 r d)
      + ∑ k : Fin 256, Ideal.exp (score q x1 r (256 * n + k.val) - (stepU q (kb x1 n) (vb x2 n) s).1 (ix3 0 r 0))
          * value x2 d (256 * n + k.val) := by
  pointwise [stepU, k0_pay22, k0_pay21, k0_pay9, k0_pay7, k0_pay6, k0_pay5, k0_pay4, k0_pay3]
  rfl

/-- The masked scores of the diagonal block, as the kernel selects them. -/
theorem mscore_block (n : ℕ) (k : Fin 256) : mscore q x1 n r (256 * n + k.val)
    = Scalar.select (IntOp.cmpi CmpIPredicate.sle (chunkW (BitVec.ofNat 32 k.val)) (chunkW (BitVec.ofNat 32 r.val)))
        (score q x1 r (256 * n + k.val)) ⊥ := by
  rw [mask_eq]
  have e : ((256 * n + k.val) / 64 ≤ (256 * n + r.val) / 64) ↔ (k.val / 64 ≤ r.val / 64) := by omega
  unfold mscore
  by_cases h : k.val / 64 ≤ r.val / 64
  · rw [if_pos (e.mpr h), decide_eq_true h]; rfl
  · rw [if_neg (fun h' => h (e.mp h')), decide_eq_false h]; rfl

theorem stepM_m (n : ℕ) : (stepM q (kb x1 n) (vb x2 n) s).1 (ix3 0 r 0)
    = max (s.1 (ix3 0 r 0)) (Finset.univ.fold max ⊥ fun k : Fin 256 => mscore q x1 n r (256 * n + k.val)) := by
  simp only [mscore_block]
  pointwise [stepM, k0_pay1, k0_pay32, k0_pay31, k0_pay30, k0_pay29, k0_pay28, k0_pay27, k0_pay26, k0_pay25]
  rw [ofBits_ninf]; rfl

theorem stepM_l (n : ℕ) : (stepM q (kb x1 n) (vb x2 n) s).2.1 (ix3 0 r 0)
    = Ideal.exp (s.1 (ix3 0 r 0) - (stepM q (kb x1 n) (vb x2 n) s).1 (ix3 0 r 0)) * s.2.1 (ix3 0 r 0)
      + ∑ k : Fin 256, Ideal.exp (mscore q x1 n r (256 * n + k.val) - (stepM q (kb x1 n) (vb x2 n) s).1 (ix3 0 r 0)) := by
  simp only [mscore_block]
  pointwise [stepM, k0_pay1, k0_pay35, k0_pay34, k0_pay33, k0_pay32, k0_pay31, k0_pay30, k0_pay29, k0_pay28, k0_pay27, k0_pay26, k0_pay25]
  rw [ofBits_ninf]; rfl

theorem stepM_a (n : ℕ) : (stepM q (kb x1 n) (vb x2 n) s).2.2 (ix3 0 r d)
    = Ideal.exp (s.1 (ix3 0 r 0) - (stepM q (kb x1 n) (vb x2 n) s).1 (ix3 0 r 0)) * s.2.2 (ix3 0 r d)
      + ∑ k : Fin 256, Ideal.exp (mscore q x1 n r (256 * n + k.val) - (stepM q (kb x1 n) (vb x2 n) s).1 (ix3 0 r 0))
          * value x2 d (256 * n + k.val) := by
  simp only [mscore_block]
  pointwise [stepM, k0_pay1, k0_pay36, k0_pay34, k0_pay33, k0_pay32, k0_pay31, k0_pay30, k0_pay29, k0_pay28, k0_pay27, k0_pay26, k0_pay25]
  rw [ofBits_ninf]; rfl

theorem st0_m : (st0 (F := Ideal)).1 (ix3 0 r 0) = ⊥ := by
  pointwise [st0, k0_pay18]
  exact ofBits_ninf
theorem st0_l : (st0 (F := Ideal)).2.1 (ix3 0 r 0) = 0 := by pointwise [st0, k0_pay19]
theorem st0_a : (st0 (F := Ideal)).2.2 (ix3 0 r d) = 0 := by pointwise [st0, k0_pay20]

theorem mscore_ne_top (hs : ∀ j, score q x1 r j ≠ ⊤) (i j : ℕ) : mscore q x1 i r j ≠ ⊤ := by
  unfold mscore; split
  · exact hs j
  · exact bot_ne_top

theorem mscore_before (i n : ℕ) (h : n < i) (k : Fin 256) :
    score q x1 r (256 * n + k.val) = mscore q x1 i r (256 * n + k.val) := by
  unfold mscore
  rw [if_pos (by have := k.isLt; omega)]

/-- The state after the first `n` key blocks, all of them before the query block `i`. -/
theorem iter_row (hs : ∀ j, score q x1 r j ≠ ⊤) (i : ℕ) : ∀ n, n ≤ i →
    (iter q x1 x2 n).1 (ix3 0 r 0) = mx (mscore q x1 i r) (Finset.range (256 * n))
    ∧ (iter q x1 x2 n).2.1 (ix3 0 r 0) = den (mscore q x1 i r) (mx (mscore q x1 i r) (Finset.range (256 * n))) (Finset.range (256 * n))
    ∧ (iter q x1 x2 n).2.2 (ix3 0 r d)
        = num (mscore q x1 i r) (value x2 d) (mx (mscore q x1 i r) (Finset.range (256 * n))) (Finset.range (256 * n))
  | 0, _ => by
    refine ⟨(st0_m r).trans ?_, (st0_l r).trans ?_, (st0_a r d).trans ?_⟩
    · simp [mx]
    · simp [den]
    · simp [num]
  | n + 1, hn => by
    obtain ⟨em, el, ea⟩ := iter_row hs i n (Nat.le_of_succ_le hn)
    have hm : (iter q x1 x2 (n + 1)).1 (ix3 0 r 0) = mx (mscore q x1 i r) (Finset.range (256 * (n + 1))) := by
      refine (step_m q x1 x2 _ r n).trans ?_
      rw [em, mx_block]
      simp only [mscore_before q x1 r i n hn]
    refine ⟨hm, (step_l q x1 x2 _ r n).trans ?_, (step_a q x1 x2 _ r d n).trans ?_⟩
    · rw [show (stepU q (kb x1 n) (vb x2 n) (iter q x1 x2 n)).1 (ix3 0 r 0) = _ from hm, em, el]
      simp only [mscore_before q x1 r i n hn]
      exact den_block _ (mscore_ne_top q x1 r hs i) n _ rfl
    · rw [show (stepU q (kb x1 n) (vb x2 n) (iter q x1 x2 n)).1 (ix3 0 r 0) = _ from hm, em, ea]
      simp only [mscore_before q x1 r i n hn]
      exact num_block _ _ (mscore_ne_top q x1 r hs i) n _ rfl

/-- The keys of the blocks after the diagonal one are masked out. -/
theorem mscore_after (i : ℕ) (hi : i < 8) : ∀ j ∈ Finset.range 2048, j ∉ Finset.range (256 * (i + 1)) → mscore q x1 i r j = ⊥ := by
  intro j _ h
  rw [Finset.mem_range] at h
  unfold mscore
  rw [if_neg (by have := r.isLt; omega)]

/-- One number of the output block: the weighted sum of values over the sum of weights, all 2048 keys counted. -/
theorem out_row (hs : ∀ j, score q x1 r j ≠ ⊤) (i : ℕ) (hi : i < 8) :
    k0_pay2 (stepM q (kb x1 i) (vb x2 i) (iter q x1 x2 i)).2.2 (stepM q (kb x1 i) (vb x2 i) (iter q x1 x2 i)).2.1 (ix3 0 r d)
      = Ideal.div
          (num (mscore q x1 i r) (value x2 d) (mx (mscore q x1 i r) (Finset.range 2048)) (Finset.range 2048))
          (den (mscore q x1 i r) (mx (mscore q x1 i r) (Finset.range 2048)) (Finset.range 2048)) := by
  obtain ⟨em, el, ea⟩ := iter_row q x1 x2 r d hs i i le_rfl
  have hm : (stepM q (kb x1 i) (vb x2 i) (iter q x1 x2 i)).1 (ix3 0 r 0) = mx (mscore q x1 i r) (Finset.range (256 * (i + 1))) := by
    refine (stepM_m q x1 x2 _ r i).trans ?_
    rw [em, mx_block]
  have hl : (stepM q (kb x1 i) (vb x2 i) (iter q x1 x2 i)).2.1 (ix3 0 r 0)
      = den (mscore q x1 i r) (mx (mscore q x1 i r) (Finset.range (256 * (i + 1)))) (Finset.range (256 * (i + 1))) := by
    refine (stepM_l q x1 x2 (iter q x1 x2 i) r i).trans ?_
    rw [hm, em, el]
    exact den_block _ (mscore_ne_top q x1 r hs i) i _ rfl
  have ha : (stepM q (kb x1 i) (vb x2 i) (iter q x1 x2 i)).2.2 (ix3 0 r d)
      = num (mscore q x1 i r) (value x2 d) (mx (mscore q x1 i r) (Finset.range (256 * (i + 1)))) (Finset.range (256 * (i + 1))) := by
    refine (stepM_a q x1 x2 (iter q x1 x2 i) r d i).trans ?_
    rw [hm, em, ea]
    exact num_block _ _ (mscore_ne_top q x1 r hs i) i _ rfl
  have hsub : Finset.range (256 * (i + 1)) ⊆ Finset.range 2048 := Finset.range_subset_range.mpr (by omega)
  have hafter := mscore_after q x1 r i hi
  have h2 : ∀ (l : Vec Ideal S1x256x1 .f32) (a : Vec Ideal S1x256x128 .f32),
      k0_pay2 a l (ix3 0 r d) = Ideal.div (a (ix3 0 r d)) (l (ix3 0 r 0)) := by
    intro l a
    pointwise [k0_pay2]
  rw [h2, hl, ha, mx_masked _ hsub hafter, den_masked _ _ hsub hafter, num_masked _ _ _ hsub hafter]

end Row

end Cert.KernelIdeal.Attn
end
-- ==== Proof.AttnRef.lean ====
/-
  The attention reference at one number of its result: the softmax over all 2048 keys of the masked scores of one
  head, met with one coordinate of the values (`ref_row`).
-/
module

public import proofs.«01_k».proof.Proof.Gen.ReferenceIdeal.Read
public import proofs.«01_k».proof.Proof.AttnStep

@[expose] public section

set_option maxRecDepth 16384

noncomputable section

open Idealize.ShloMosaic Idealize.ShloMosaic.TcCoe Idealize.SL.Sem
open Cert.Online

namespace Cert.ReferenceIdeal.Attn
open Cert.ReferenceIdeal Cert.ReferenceIdeal.Gen Cert.ReferenceIdeal.Read

theorem lt2048 (n : ℕ) : n % 2048 < 2048 := Nat.mod_lt _ (by decide)

/-- A position's chunk as the host computes it: division towards minus infinity by 64. -/
theorem chunk0 (k : Fin 2048) : val_main_v8 (F := Ideal) (ix1 k) = BitVec.ofNat 32 (k.val / 64) := by
  pointwise [val_main_v8, val_main_call0_v11, val_main_call0_v13, val_main_call0_v2, val_main_call0_v12, val_main_call0_c_0,
    val_main_call0_v10, val_main_call0_v9, val_main_call0_c, val_main_call0_v8, val_main_call0_v7, val_main_call0_v6,
    val_main_call0_v5, val_main_call0_v4, val_main_call0_v3, val_main_call0_v1, val_main_call0_v0, val_main_c, val_main_v7]
  revert k
  decide +kernel

theorem chunk1 (k : Fin 2048) : val_main_v10 (F := Ideal) (ix1 k) = BitVec.ofNat 32 (k.val / 64) := by
  pointwise [val_main_v10, val_main_call1_v11, val_main_call1_v13, val_main_call1_v2, val_main_call1_v12, val_main_call1_c_0,
    val_main_call1_v10, val_main_call1_v9, val_main_call1_c, val_main_call1_v8, val_main_call1_v7, val_main_call1_v6,
    val_main_call1_v5, val_main_call1_v4, val_main_call1_v3, val_main_call1_v1, val_main_call1_v0, val_main_c_0, val_main_v7]
  revert k
  decide +kernel

theorem sle_eq : ∀ a b : Fin 32, IntOp.cmpi CmpIPredicate.sle (BitVec.ofNat 32 a.val) (BitVec.ofNat 32 b.val)
    = BitVec.ofBool (decide (a.val ≤ b.val)) := by decide +kernel

theorem mask_eq (q k : Fin 2048) : val_main_v14 (F := Ideal) (ix2 q k) = BitVec.ofBool (decide (k.val / 64 ≤ q.val / 64)) := by
  have e : val_main_v14 (F := Ideal) (ix2 q k)
      = IntOp.cmpi CmpIPredicate.sle (val_main_v8 (F := Ideal) (ix1 k)) (val_main_v10 (F := Ideal) (ix1 q)) := by
    pointwise [val_main_v14, val_main_v12, val_main_v13, val_main_v11, val_main_v9]
  rw [e, chunk0, chunk1]
  exact sle_eq ⟨k.val / 64, by have := k.isLt; omega⟩ ⟨q.val / 64, by have := q.isLt; omega⟩

variable (x0 x1 : (⟨S8x2048x1536, .bf16⟩ : BufTy).Contents (Elt Ideal)) (x2 : (⟨S8x2048x768, .bf16⟩ : BufTy).Contents (Elt Ideal))

/-- The score of key `j` against query `q` in head `h`. -/
def rscore (b : Fin 8) (h : Fin 6) (q : Fin 2048) (j : ℕ) : EReal :=
  ∑ x : Fin 256, x0 (ix3 b q ⟨h.val * 256 + x.val, by omega⟩) * x1 (ix3 b ⟨j % 2048, lt2048 _⟩ ⟨h.val * 256 + x.val, by omega⟩)

/-- The score with the keys of later chunks masked out. -/
def rmscore (b : Fin 8) (h : Fin 6) (q : Fin 2048) (j : ℕ) : EReal :=
  if j / 64 ≤ q.val / 64 then rscore x0 x1 b h q j else ⊥

theorem v15_eq (b : Fin 8) (h : Fin 6) (q k : Fin 2048) : val_main_v15 x0 x1 (ix4 b h q k) = rmscore x0 x1 b h q k.val := by
  have e : val_main_v15 x0 x1 (ix4 b h q k) = Scalar.select (val_main_v14 (F := Ideal) (ix2 q k)) (rscore x0 x1 b h q k.val) ⊥ := by
    pointwise [val_main_v15, val_main_call2_v1, val_main_call2_v2, val_main_call2_v0, val_main_cst, val_main_v6, val_main_v1,
      val_main_v3, val_main_v0, val_main_v2]
    unfold rscore
    have hk : (⟨k.val % 2048, lt2048 _⟩ : Fin 2048) = k := Fin.ext (Nat.mod_eq_of_lt k.isLt)
    rw [hk]
    exact congrArg (Scalar.select _ _) Cert.KernelIdeal.Attn.ofBits_ninf
  rw [e, mask_eq]
  unfold rmscore
  by_cases hc : k.val / 64 ≤ q.val / 64
  · rw [if_pos hc, decide_eq_true hc]; rfl
  · rw [if_neg hc, decide_eq_false hc]; rfl

/-- The greatest masked score of a row, over the keys in order. -/
theorem v16_eq (b : Fin 8) (h : Fin 6) (q : Fin 2048) : val_main_v16 x0 x1 (ix3 b h q)
    = Finset.univ.fold max ⊥ fun k : Fin 2048 => val_main_v15 x0 x1 (ix4 b h q k) := by
  pointwise [val_main_v16]
  exact congrArg (fun c => Finset.univ.fold max c fun k : Fin 2048 => val_main_v15 x0 x1 (ix4 b h q k)) Cert.KernelIdeal.Attn.ofBits_ninf

theorem fold_eq (b : Fin 8) (h : Fin 6) (q : Fin 2048) : (Finset.univ.fold max ⊥ fun k : Fin 2048 => val_main_v15 x0 x1 (ix4 b h q k))
    = mx (rmscore x0 x1 b h q) (Finset.range 2048) := by
  rw [← mx_range]
  exact congrArg (Finset.univ.fold max ⊥) (funext fun k => v15_eq x0 x1 b h q k)

/-- The greatest masked score of a row. -/
theorem v18_eq (b : Fin 8) (h : Fin 6) (q : Fin 2048) : val_main_v18 x0 x1 (ix3 b h q) = mx (rmscore x0 x1 b h q) (Finset.range 2048) := by
  have e : FloatOps.maximumf (F := Ideal) (φ := .f32) (Ideal.ofBits .f32 4286578688#32) (val_main_v16 x0 x1 (ix3 b h q))
      = mx (rmscore x0 x1 b h q) (Finset.range 2048) := by
    rw [v16_eq, fold_eq, Cert.KernelIdeal.Attn.ofBits_ninf]
    exact max_eq_right bot_le
  rw [val_main_v18_apply, val_main_v17_apply, val_main_cst_2_apply]
  exact e

/-- One unnormalised weight. -/
theorem v22_eq (b : Fin 8) (h : Fin 6) (q k : Fin 2048) : val_main_v22 x0 x1 (ix4 b h q k)
    = Ideal.exp (rmscore x0 x1 b h q k.val - mx (rmscore x0 x1 b h q) (Finset.range 2048)) := by
  have e : val_main_v22 x0 x1 (ix4 b h q k) = Ideal.exp (val_main_v15 x0 x1 (ix4 b h q k) - val_main_v18 x0 x1 (ix3 b h q)) := by
    rw [val_main_v22_apply, val_main_v21_apply, val_main_v20_apply, val_main_v19_apply]
    generalize val_main_v15 x0 x1 = y
    generalize val_main_v18 x0 x1 = z
    exact congrArg (fun t => Ideal.exp (y (ix4 b h q k) - z t)) (funext fun a => by match a with | ⟨0, _⟩ => rfl | ⟨1, _⟩ => rfl | ⟨2, _⟩ => rfl)
  rw [e, v15_eq, v18_eq]

/-- The sum of a row's weights. -/
theorem v23_eq (b : Fin 8) (h : Fin 6) (q : Fin 2048) : val_main_v23 x0 x1 (ix3 b h q)
    = den (rmscore x0 x1 b h q) (mx (rmscore x0 x1 b h q) (Finset.range 2048)) (Finset.range 2048) := by
  pointwise [val_main_v23, val_main_cst_3]
  simp only [v22_eq]
  unfold den
  exact Fin.sum_univ_eq_sum_range (fun j => Ideal.exp (rmscore x0 x1 b h q j - mx (rmscore x0 x1 b h q) (Finset.range 2048))) 2048

/-- The head of a column of the result. -/
def hd (c : Fin 768) : Fin 6 := ⟨c.val / 128, by omega⟩

/-- One number of the reference's result. -/
theorem ref_row (b : Fin 8) (q : Fin 2048) (c : Fin 768) : val_main_v30 x0 x1 x2 (ix3 b q c)
    = ∑ j ∈ Finset.range 2048, x2 (ix3 b ⟨j % 2048, lt2048 _⟩ c)
        * Ideal.div (Ideal.exp (rmscore x0 x1 b (hd c) q j - mx (rmscore x0 x1 b (hd c) q) (Finset.range 2048)))
            (den (rmscore x0 x1 b (hd c) q) (mx (rmscore x0 x1 b (hd c) q) (Finset.range 2048)) (Finset.range 2048)) := by
  have e : val_main_v30 x0 x1 x2 (ix3 b q c) = ∑ k : Fin 2048, x2 (ix3 b k c)
      * Ideal.div (val_main_v22 x0 x1 (ix4 b (hd c) q k)) (val_main_v23 x0 x1 (ix3 b (hd c) q)) := by
    pointwise [val_main_v30, val_main_v29, val_main_v28, val_main_v27, val_main_v26, val_main_v25, val_main_v24, val_main_v5, val_main_v4]
    rfl
  rw [e, v23_eq]
  simp only [v22_eq]
  refine Eq.trans (Finset.sum_congr rfl fun k _ => ?_) (Fin.sum_univ_eq_sum_range (fun j => x2 (ix3 b ⟨j % 2048, lt2048 _⟩ c)
        * Ideal.div (Ideal.exp (rmscore x0 x1 b (hd c) q j - mx (rmscore x0 x1 b (hd c) q) (Finset.range 2048)))
            (den (rmscore x0 x1 b (hd c) q) (mx (rmscore x0 x1 b (hd c) q) (Finset.range 2048)) (Finset.range 2048))) 2048)
  have hk : (⟨k.val % 2048, lt2048 _⟩ : Fin 2048) = k := Fin.ext (Nat.mod_eq_of_lt k.isLt)
  rw [hk]

end Cert.ReferenceIdeal.Attn
end
-- ==== Proof.AttnValue.lean ====
/-
  The attention kernel's result array is the reference's: every grid point's output block, at every row and column,
  is the reference's number there (`point`), and the blocks tile the array (`final`). The queries and keys are taken
  finite (`finite_scores`): a score is then a real number, and the sum of weights a positive one.
-/
module

public import proofs.«01_k».proof.Proof.AttnRef
public import proofs.«01_k».proof.Pre_finite_qk
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Online

namespace Cert.KernelIdeal.Attn
open Cert.KernelIdeal Cert.KernelIdeal.Gen Cert.ReferenceIdeal.Attn

/-- Every number of an array is finite. -/
def Finite {s : Shape} (X : FVec Ideal s .bf16) : Prop := ∀ i, X i ≠ ⊤ ∧ X i ≠ ⊥

/-- A number whose absolute value is below plus infinity is finite. -/
theorem finite_of_lt (a : EReal) (h : Ideal.cmp .olt (max a (-a)) (Ideal.ofBits .f32 0x7F800000#32) = 1#1) : a ≠ ⊤ ∧ a ≠ ⊥ := by
  have e : Ideal.ofBits .f32 0x7F800000#32 = ⊤ := by simp [Ideal.ofBits, Ideal.ieee]
  rw [e] at h
  constructor <;> rintro rfl <;> revert h <;> simp [Ideal.cmp]

/-- The precondition says that the queries and the keys are finite. -/
theorem finite_of_pre [Cert.Pre_finite_qk.Facts] (x0 x1 : FVec Ideal S8x2048x1536 .bf16) (x2 : FVec Ideal S8x2048x768 .bf16)
    (h : Cert.Pre_finite_qk.fn (F := Ideal) x0 x1 x2 = fun _ => 1#1) : Finite x0 ∧ Finite x1 := by
  have hs : Subsingleton (⟨0, ![]⟩ : Shape).Idx := ⟨fun a b => funext fun k => k.elim0⟩
  have h0 := congrFun h ix0
  unfold Cert.Pre_finite_qk.fn at h0
  obtain ⟨ha, hb⟩ := IntOp.andi_eq_one.1 h0
  exact ⟨fun i => finite_of_lt _ (Host.reduce_andi_all _ _ _ _ _ ha i), fun i => finite_of_lt _ (Host.reduce_andi_all _ _ _ _ _ hb i)⟩

/-- A score of finite queries and keys is a real number. -/
theorem finite_rscore (x0 x1 : FVec Ideal S8x2048x1536 .bf16) (h0 : Finite x0) (h1 : Finite x1) (b : Fin 8) (h : Fin 6) (q : Fin 2048) (j : ℕ) :
    rscore x0 x1 b h q j ≠ ⊤ ∧ rscore x0 x1 b h q j ≠ ⊥ := by
  have key : ∃ r : ℝ, rscore x0 x1 b h q j = r := by
    unfold rscore
    have ht : ∀ x : Fin 256, x0 (ix3 b q ⟨h.val * 256 + x.val, by omega⟩) * x1 (ix3 b ⟨j % 2048, Cert.ReferenceIdeal.Attn.lt2048 _⟩ ⟨h.val * 256 + x.val, by omega⟩)
        = (((x0 (ix3 b q ⟨h.val * 256 + x.val, by omega⟩)).toReal * (x1 (ix3 b ⟨j % 2048, Cert.ReferenceIdeal.Attn.lt2048 _⟩ ⟨h.val * 256 + x.val, by omega⟩)).toReal : ℝ) : EReal) := by
      intro x
      rw [EReal.coe_mul, EReal.coe_toReal (h0 _).1 (h0 _).2, EReal.coe_toReal (h1 _).1 (h1 _).2]
    rw [Finset.sum_congr rfl fun x _ => ht x]
    exact ⟨_, coe_sum _ _⟩
  obtain ⟨r, e⟩ := key
  rw [e]
  exact ⟨EReal.coe_ne_top r, EReal.coe_ne_bot r⟩

/-- The reference's result over the kernel's argument arrays. -/
abbrev REF (x0 x1 : FVec Ideal S8x2048x1536 .bf16) (x2 : FVec Ideal S8x2048x768 .bf16) : FVec Ideal S8x2048x768 .bf16 :=
  Cert.ReferenceIdeal.Read.val_main_v30 (F := Ideal) x0 x1 x2

/-- Where each window's block lies, as functions of the grid point. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

variable (m : (ℓ : Loc nD τ sig) → Buf (Elt Ideal) ℓ)

theorem score_eq (c : Dev nD) (t : Fin cfg0.N) (b : Fin 8) (h : Fin 6) (i : Fin 8) (hb : b.val = (grid0.coords t 0).val)
    (hh : h.val = (grid0.coords t 1).val) (hi : i.val = (grid0.coords t 2).val) (r : Fin 256) (j : ℕ) :
    score (k0_pay17 (iblk m c 0 t)) (iblk m c 1 t) r j
      = rscore (m ((c : Thread nD τ).loc main_arg0)) (m ((c : Thread nD τ).loc main_arg1)) b h ⟨256 * i.val + r.val, by omega⟩ j := by
  unfold score rscore
  pointwise [k0_pay17]
  blk_point [iblk, V, idx t]

theorem value_eq (c : Dev nD) (t : Fin cfg0.N) (b : Fin 8) (h : Fin 6) (hb : b.val = (grid0.coords t 0).val)
    (hh : h.val = (grid0.coords t 1).val) (d : Fin 128) (j : ℕ) :
    value (iblk m c 2 t) d j = m ((c : Thread nD τ).loc main_arg2) (ix3 b ⟨j % 2048, lt2048 _⟩ ⟨128 * h.val + d.val, by omega⟩) := by
  unfold value
  blk_ext [iblk, V, idx t]

/-- One number of one output block is the reference's number at its place in the array. -/
theorem point (hq : ∀ c : Dev nD, Finite (m ((c : Thread nD τ).loc main_arg0))) (hk : ∀ c : Dev nD, Finite (m ((c : Thread nD τ).loc main_arg1)))
    (c : Dev nD) (t : Fin cfg0.N) (b : Fin 8) (h : Fin 6) (i : Fin 8) (hb : b.val = (grid0.coords t 0).val)
    (hh : h.val = (grid0.coords t 1).val) (hi : i.val = (grid0.coords t 2).val) (r : Fin 256) (d : Fin 128) :
    outsAt0 m c t (ix3 0 r d)
      = REF (m ((c : Thread nD τ).loc main_arg0)) (m ((c : Thread nD τ).loc main_arg1)) (m ((c : Thread nD τ).loc main_arg2))
          (ix3 b ⟨256 * i.val + r.val, by omega⟩ ⟨128 * h.val + d.val, by omega⟩) := by
  unfold outsAt0 REF
  rw [out_eq, ← hi, ref_row]
  have hd : hd ⟨128 * h.val + d.val, by omega⟩ = h := Fin.ext (by show (128 * h.val + d.val) / 128 = h.val; omega)
  rw [hd]
  have hsc : score (k0_pay17 (iblk m c 0 t)) (iblk m c 1 t) r
      = rscore (m ((c : Thread nD τ).loc main_arg0)) (m ((c : Thread nD τ).loc main_arg1)) b h ⟨256 * i.val + r.val, by omega⟩ :=
    funext fun j => score_eq m c t b h i hb hh hi r j
  have hms : mscore (k0_pay17 (iblk m c 0 t)) (iblk m c 1 t) i.val r
      = rmscore (m ((c : Thread nD τ).loc main_arg0)) (m ((c : Thread nD τ).loc main_arg1)) b h ⟨256 * i.val + r.val, by omega⟩ := by
    funext j
    unfold mscore rmscore
    rw [hsc]
  have hfin := finite_rscore _ _ (hq c) (hk c) b h ⟨256 * i.val + r.val, by omega⟩
  refine (out_row _ _ _ r d (fun j => by rw [hsc]; exact (hfin j).1) i.val i.isLt).trans ?_
  have hne : ∀ j, rmscore (m ((c : Thread nD τ).loc main_arg0)) (m ((c : Thread nD τ).loc main_arg1)) b h ⟨256 * i.val + r.val, by omega⟩ j ≠ ⊤ := by
    intro j
    unfold rmscore
    split
    · exact (hfin j).1
    · exact bot_ne_top
  have h0 : rmscore (m ((c : Thread nD τ).loc main_arg0)) (m ((c : Thread nD τ).loc main_arg1)) b h ⟨256 * i.val + r.val, by omega⟩ 0 ≠ ⊥ := by
    unfold rmscore
    rw [if_pos (by simp)]
    exact (hfin 0).2
  rw [hms, num_div _ _ hne (Finset.mem_range.mpr (by decide : 0 < 2048)) h0]
  refine Finset.sum_congr rfl fun j _ => ?_
  rw [value_eq m c t b h hb hh d j]

/-- The kernel's result array after the run is the reference's result of the same arguments. -/
theorem final (hq : ∀ c : Dev nD, Finite (m ((c : Thread nD τ).loc main_arg0))) (hk : ∀ c : Dev nD, Finite (m ((c : Thread nD τ).loc main_arg1)))
    (c : Dev nD) : (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h0 : (grid0.coords t 0).val < 8 := (grid0.coords t 0).isLt
  have h1 : (grid0.coords t 1).val < 6 := (grid0.coords t 1).isLt
  have h2 : (grid0.coords t 2).val < 8 := (grid0.coords t 2).isLt
  have hy : y = ix3 0 (y 1) (y 2) := by
    funext a
    match a with
    | ⟨0, _⟩ => exact Fin.ext (by have := (y 0).isLt; change (y 0).val < 1 at this; show (y 0).val = 0; omega)
    | ⟨1, _⟩ => rfl
    | ⟨2, _⟩ => rfl
  rw [hy]
  refine (point m hq hk c t ⟨_, h0⟩ ⟨_, h1⟩ ⟨_, h2⟩ rfl rfl rfl (y 1) (y 2)).trans ?_
  blk_ext [idx t]

end Cert.KernelIdeal.Attn
end
-- ==== Proof.AttnClaim.lean ====
/-
  The claims about the attention call: the kernel and its idealization run and leave their arguments alone
  (generated), so does the reference, and at finite queries and keys both end with the same result.
-/
module

public import proofs.«01_k».proof.Defs
public import proofs.«01_k».proof.Proof.AttnValue
public import proofs.«01_k».proof.Proof.Gen.Kernel.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Attn

/-- The side conditions of the precondition's printed operations. -/
theorem preFacts : Cert.Pre_finite_qk.Facts where
  bitsLt_bf16_f32 := by decide
  bcast_S_S8x2048x1536 := by decide
  reducesTo_S8x2048x1536_S_d0_1_2 := by decide
  h_S_ := by decide

theorem frameKernel : Cert.quiescent_Kernel := fun m ρ _ => Cert.Kernel.Gen.frame m ρ

theorem frameKernelIdeal : Cert.quiescent_KernelIdeal := fun m ρ _ => Cert.KernelIdeal.Gen.frame m ρ

theorem frameReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic [Cert.Pre_finite_qk.Facts] : Cert.algebraic_KernelIdeal_ReferenceIdeal_pre_finite_qk := by
  intro m g m' g' hpre hagree
  have hq := fun c : Dev Cert.KernelIdeal.nD => (Cert.KernelIdeal.Attn.finite_of_pre _ _ _ (hpre c)).1
  have hk := fun c : Dev Cert.KernelIdeal.nD => (Cert.KernelIdeal.Attn.finite_of_pre _ _ _ (hpre c)).2
  refine ⟨fun c => (Cert.KernelIdeal.Gen.dats m 0 c).arrAt 3 (Cert.KernelIdeal.cfgs 0).N, Cert.KernelIdeal.Value.run_blocks m g, ?_⟩
  refine (θ_run _ _ _).mono (fun r h c => ⟨?_, (h c).2⟩) (Cert.ReferenceIdeal.Value.run (F := Ideal) m' g')
  refine (h c).1.trans ?_
  rw [Cert.ReferenceIdeal.Read.val_main_v30_eq m' c, (hagree c).1, (hagree c).2.1, (hagree c).2.2]
  exact (Cert.KernelIdeal.Attn.final m hq hk c).symm

end Cert.Proof.Attn

end
-- ==== Proof.Layer.lean ====
/-
  One row of the channel mixer, over the extended reals: the normalisation by the root of the mean square, the gated
  hidden numbers of the feed-forward layer, and the two residual sums around them.
-/
module

public import Idealize.ShloMosaic.PureOps.Ideal
public import Mathlib.Algebra.BigOperators.Fin

@[expose] public section

noncomputable section

open Idealize.ShloMosaic

namespace Cert.Layer

/-- What a row of `n` numbers is multiplied by: one over the root of its mean square, the mean over `d` and `1e-6` added. -/
def scale {n : ℕ} (d : EReal) (y : Fin n → EReal) : EReal :=
  Ideal.rsqrt (Ideal.div (∑ j, y j * y j) d + Ideal.ofBits .f32 0x358637BD#32)

/-- The normalised row, with its gains. -/
def rms {n : ℕ} (d : EReal) (y g : Fin n → EReal) (c : Fin n) : EReal := y c * scale d y * g c

/-- The mean over 1024 numbers divides by this word. -/
abbrev w1024 : EReal := Ideal.ofBits .f32 0x44800000#32

/-- The gate: a number times its logistic. -/
def silu (a : EReal) : EReal := a * Ideal.div 1 (1 + Ideal.exp (-a))

/-- A row times a column of weights. -/
def dot {n : ℕ} (t w : Fin n → EReal) : EReal := ∑ j, t j * w j

/-- A residual row plus the normalised row of a branch. -/
def add (x y g : Fin 1024 → EReal) (c : Fin 1024) : EReal := x c + rms w1024 y g c

/-- A hidden number: the gate of the row's product with one column times its product with another. -/
def hid (t : Fin 1024 → EReal) (wg wu : Fin 1024 → Fin 2816 → EReal) (k : Fin 2816) : EReal :=
  silu (dot t fun j => wg j k) * dot t fun j => wu j k

/-- The channel mixer's row: the residual row `h` plus the normalised feed-forward of its own normalised row. -/
def mlp (h gpre : Fin 1024 → EReal) (wg wu : Fin 1024 → Fin 2816 → EReal) (wd : Fin 2816 → Fin 1024 → EReal)
    (gpost : Fin 1024 → EReal) (c : Fin 1024) : EReal :=
  add h (fun e => dot (hid (rms w1024 h gpre) wg wu) fun k => wd k e) gpost c

end Cert.Layer

end
-- ==== Proof.PostNextRef.lean ====
/-
  The reference of the call between the two layers, row by row: the mixers' outputs projected, the residual sum, the
  channel mixer (Proof/Layer.lean) of that row, and the next layer's input projection of the result.
-/
module

public import proofs.«01_k».proof.Proof.Gen.Reference2Ideal.Read
public import proofs.«01_k».proof.Proof.Layer
public import Idealize.ShloMosaic.Lib.Pipeline.ValueKit

@[expose] public section

set_option maxRecDepth 16384

noncomputable section

open Idealize.ShloMosaic Idealize.ShloMosaic.TcCoe Idealize.SL.Sem
open Cert.Layer

namespace Cert.Reference2Ideal.PostNext
open Cert.Reference2Ideal Cert.Reference2Ideal.Gen Cert.Reference2Ideal.Read

variable (x0 : FVec Ideal S8x2048x1024 .f32) (x1 x2 : FVec Ideal S8x2048x512 .bf16)
  (x3 : FVec Ideal S1024x1024 .f32) (x4 x5 : FVec Ideal S1024 .f32) (x6 x7 : FVec Ideal S1024x2816 .f32) (x8 : FVec Ideal S2816x1024 .f32)
  (x9 x10 : FVec Ideal S1024 .f32) (x11 : FVec Ideal S1024x704 .f32)

/-- Row `r` of the projected mixers: the two parts times their rows of the output weights. -/
def mix (r : Fin 16384) (c : Fin 1024) : EReal :=
  dot (fun j : Fin 512 => x1 (ix3 ⟨r.val / 2048, by omega⟩ ⟨r.val % 2048, by omega⟩ j)) (fun j => x3 (ix2 ⟨j.val, by omega⟩ c))
  + dot (fun j : Fin 512 => x2 (ix3 ⟨r.val / 2048, by omega⟩ ⟨r.val % 2048, by omega⟩ j)) (fun j => x3 (ix2 ⟨512 + j.val, by omega⟩ c))

theorem mix_at (r : Fin 16384) (c : Fin 1024) : val_main_v4 (F := Ideal) x1 x2 x3 (ix2 r c) = mix x1 x2 x3 r c := by
  pointwise [val_main_v4, val_main_v3, val_main_v2, val_main_v1]
  rfl

/-- Row `r` after the first residual sum. -/
def h1 (r : Fin 16384) : Fin 1024 → EReal := add (fun j => x0 (ix3 ⟨r.val / 2048, by omega⟩ ⟨r.val % 2048, by omega⟩ j)) (mix x1 x2 x3 r) (fun j => x4 (ix1 j))

theorem h1_at (r : Fin 16384) (c : Fin 1024) : val_main_v18 (F := Ideal) x0 x1 x2 x3 x4 (ix2 r c) = h1 x0 x1 x2 x3 x4 r c := by
  unfold h1
  rw [show mix x1 x2 x3 r = fun c => val_main_v4 (F := Ideal) x1 x2 x3 (ix2 r c) from funext fun c => (mix_at x1 x2 x3 r c).symm]
  pointwise [val_main_v18, val_main_v17, val_main_v16, val_main_v15, val_main_v14, val_main_v13, val_main_v12, val_main_v11,
    val_main_v10, val_main_v9, val_main_v8, val_main_v7, val_main_v6, val_main_v5, val_main_v0, val_main_cst, val_main_cst_0, val_main_cst_1]
  rfl

/-- The normalised row the gates read. -/
theorem t_at (r : Fin 16384) (c : Fin 1024) :
    val_main_v31 (F := Ideal) x0 x1 x2 x3 x4 x5 (ix2 r c) = rms w1024 (h1 x0 x1 x2 x3 x4 r) (fun j => x5 (ix1 j)) c := by
  rw [show h1 x0 x1 x2 x3 x4 r = fun c => val_main_v18 (F := Ideal) x0 x1 x2 x3 x4 (ix2 r c) from funext fun c => (h1_at x0 x1 x2 x3 x4 r c).symm]
  pointwise [val_main_v31, val_main_v30, val_main_v29, val_main_v28, val_main_v27, val_main_v26, val_main_v25, val_main_v24,
    val_main_v23, val_main_v22, val_main_v21, val_main_v20, val_main_v19, val_main_cst_2, val_main_cst_3, val_main_cst_4]
  rfl

/-- The hidden numbers. -/
theorem hid_at (r : Fin 16384) (k : Fin 2816) :
    val_main_v35 (F := Ideal) x0 x1 x2 x3 x4 x5 x6 x7 (ix2 r k)
      = hid (rms w1024 (h1 x0 x1 x2 x3 x4 r) (fun j => x5 (ix1 j))) (fun j k => x6 (ix2 j k)) (fun j k => x7 (ix2 j k)) k := by
  rw [show rms w1024 (h1 x0 x1 x2 x3 x4 r) (fun j => x5 (ix1 j)) = fun c => val_main_v31 (F := Ideal) x0 x1 x2 x3 x4 x5 (ix2 r c)
    from funext fun c => (t_at x0 x1 x2 x3 x4 x5 r c).symm]
  pointwise [val_main_v35, val_main_v34, val_main_v33, val_main_v32, val_main_call0_v5, val_main_call0_v4, val_main_call0_v3,
    val_main_call0_v2, val_main_call0_v1, val_main_call0_v0, val_main_call0_cst, val_main_call0_cst_0]
  rfl

/-- The reference's row: the channel mixer of the first residual row. -/
theorem out_at (r : Fin 16384) (c : Fin 1024) :
    val_main_v50 (F := Ideal) x0 x1 x2 x3 x4 x5 x6 x7 x8 x9 (ix2 r c)
      = mlp (h1 x0 x1 x2 x3 x4 r) (fun j => x5 (ix1 j)) (fun j k => x6 (ix2 j k)) (fun j k => x7 (ix2 j k)) (fun k c => x8 (ix2 k c))
        (fun j => x9 (ix1 j)) c := by
  unfold mlp
  rw [show hid (rms w1024 (h1 x0 x1 x2 x3 x4 r) (fun j => x5 (ix1 j))) (fun j k => x6 (ix2 j k)) (fun j k => x7 (ix2 j k))
      = fun k => val_main_v35 (F := Ideal) x0 x1 x2 x3 x4 x5 x6 x7 (ix2 r k) from funext fun k => (hid_at x0 x1 x2 x3 x4 x5 x6 x7 r k).symm,
    show h1 x0 x1 x2 x3 x4 r = fun c => val_main_v18 (F := Ideal) x0 x1 x2 x3 x4 (ix2 r c) from funext fun c => (h1_at x0 x1 x2 x3 x4 r c).symm,
    show (fun e => dot (fun k => val_main_v35 (F := Ideal) x0 x1 x2 x3 x4 x5 x6 x7 (ix2 r k)) fun k => x8 (ix2 k e))
      = fun e => val_main_v36 (F := Ideal) x0 x1 x2 x3 x4 x5 x6 x7 x8 (ix2 r e) from funext fun e => by pointwise [val_main_v36]; rfl]
  pointwise [val_main_v50, val_main_v49, val_main_v48, val_main_v47, val_main_v46, val_main_v45, val_main_v44,
    val_main_v43, val_main_v42, val_main_v41, val_main_v40, val_main_v39, val_main_v38, val_main_v37, val_main_cst_5, val_main_cst_6, val_main_cst_7]
  rfl

/-- Row `r` of the residual stream after the layer. -/
def h2 (r : Fin 16384) : Fin 1024 → EReal :=
  mlp (h1 x0 x1 x2 x3 x4 r) (fun j => x5 (ix1 j)) (fun j k => x6 (ix2 j k)) (fun j k => x7 (ix2 j k)) (fun k c => x8 (ix2 k c)) (fun j => x9 (ix1 j))

theorem next_at (r : Fin 16384) (c : Fin 1024) :
    val_main_v63 (F := Ideal) x0 x1 x2 x3 x4 x5 x6 x7 x8 x9 x10 (ix2 r c) = rms w1024 (h2 x0 x1 x2 x3 x4 x5 x6 x7 x8 x9 r) (fun j => x10 (ix1 j)) c := by
  rw [show h2 x0 x1 x2 x3 x4 x5 x6 x7 x8 x9 r = fun c => val_main_v50 (F := Ideal) x0 x1 x2 x3 x4 x5 x6 x7 x8 x9 (ix2 r c) from funext fun c => (out_at x0 x1 x2 x3 x4 x5 x6 x7 x8 x9 r c).symm]
  pointwise [val_main_v63, val_main_v62, val_main_v61, val_main_v60, val_main_v59, val_main_v58, val_main_v57, val_main_v56, val_main_v55, val_main_v54, val_main_v53, val_main_v52, val_main_v51, val_main_cst_8, val_main_cst_9, val_main_cst_10]
  rfl

/-- The reference's projected row, padded with zeros. -/
theorem proj_at (r : Fin 16384) (c : Fin 768) :
    val_main_v65 (F := Ideal) x0 x1 x2 x3 x4 x5 x6 x7 x8 x9 x10 x11 (ix2 r c)
      = dot (rms w1024 (h2 x0 x1 x2 x3 x4 x5 x6 x7 x8 x9 r) (fun j => x10 (ix1 j))) fun j => if h : c.val < 704 then x11 (ix2 j ⟨c.val, h⟩) else 0 := by
  rw [show rms w1024 (h2 x0 x1 x2 x3 x4 x5 x6 x7 x8 x9 r) (fun j => x10 (ix1 j)) = fun c => val_main_v63 (F := Ideal) x0 x1 x2 x3 x4 x5 x6 x7 x8 x9 x10 (ix2 r c)
    from funext fun c => (next_at x0 x1 x2 x3 x4 x5 x6 x7 x8 x9 x10 r c).symm]
  pointwise [val_main_v65, val_main_v64, val_main_call1_v0, val_main_c]
  by_cases h : c.val < 704
  · simp only [dif_pos h]
    rfl
  · simp only [dif_neg h]
    simp [dot, FloatOps.sitofp]

end Cert.Reference2Ideal.PostNext

end
-- ==== Proof.PostNextValue.lean ====
/-
  The call between the two layers, row by row: what the body leaves at a row of its first block is the channel mixer
  (Proof/Layer.lean) of the row after the first residual sum, the feed-forward's hidden numbers computed in column
  blocks; its second block holds the next layer's input projection of that row.
-/
module

public import proofs.«01_k».proof.Proof.Gen.Kernel2Ideal.Value
public import proofs.«01_k».proof.Proof.PostNextRef
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)
open Cert.Layer

namespace Cert.Kernel2Ideal.PostNext
open Cert.Kernel2Ideal Cert.Kernel2Ideal.Gen

/-- Row `r` of the projected mixers: the two parts times their rows of the output weights. -/
def mix (v0 : Vec Ideal S512x512 .bf16) (v2 : Vec Ideal S512x1024 .bf16) (v5 : Vec Ideal S512x512 .bf16) (v7 : Vec Ideal S512x1024 .bf16)
    (r : Fin 512) (c : Fin 1024) : EReal :=
  dot (fun j => v0 (ix2 r j)) (fun j => v2 (ix2 j c)) + dot (fun j => v5 (ix2 r j)) (fun j => v7 (ix2 j c))

theorem pay2_at (v0 : Vec Ideal S512x512 .bf16) (v2 : Vec Ideal S512x1024 .bf16) (v5 : Vec Ideal S512x512 .bf16) (v7 : Vec Ideal S512x1024 .bf16)
    (v11 : Vec Ideal S512x1024 .f32) (v12 : Vec Ideal S1x1024 .f32) (r : Fin 512) (c : Fin 1024) :
    k0_pay2 v0 v2 v5 v7 v11 v12 (ix2 r c) = add (fun j => v11 (ix2 r j)) (mix v0 v2 v5 v7 r) (fun j => v12 (ix2 0 j)) c := by
  pointwise [k0_pay2]
  rfl

/-- The normalised row. -/
theorem pay5_at (v0 : Vec Ideal S512x512 .bf16) (v2 : Vec Ideal S512x1024 .bf16) (v5 : Vec Ideal S512x512 .bf16) (v7 : Vec Ideal S512x1024 .bf16)
    (v11 : Vec Ideal S512x1024 .f32) (v12 v27 : Vec Ideal S1x1024 .f32) (r : Fin 512) (c : Fin 1024) :
    k0_pay5 (k0_pay2 v0 v2 v5 v7 v11 v12) (k0_pay3 v27) (k0_pay4 v0 v2 v5 v7 v11 v12) (ix2 r c)
      = rms w1024 (fun j => k0_pay2 v0 v2 v5 v7 v11 v12 (ix2 r j)) (fun j => v27 (ix2 0 j)) c := by
  pointwise [k0_pay5, k0_pay4, k0_pay3]
  rfl

/-- A hidden number of a block's row, from its normalised row. -/
theorem pay6_at (v26 : FVec Ideal S512x1024 .f32) (v28 : FVec Ideal S1x1024 .f32) (v36 : FVec Ideal S512x1 .f32) (w u : Vec Ideal S1024x512 .bf16) (r k : Fin 512) :
    k0_pay6 v26 v28 v36 w u (ix2 r k)
      = silu (dot (fun j => k0_pay5 v26 v28 v36 (ix2 r j)) fun j => w (ix2 j k)) * dot (fun j => k0_pay5 v26 v28 v36 (ix2 r j)) fun j => u (ix2 j k) := by
  pointwise [k0_pay6]
  rw [zero_sub]
  rfl

theorem pay9_at (v26 : FVec Ideal S512x1024 .f32) (v28 : FVec Ideal S1x1024 .f32) (v36 : FVec Ideal S512x1 .f32) (w u : Vec Ideal S1024x512 .bf16) (r k : Fin 512) :
    k0_pay9 (k0_pay7 v26 v28 v36 u) (k0_pay8 v26 v28 v36 w) (ix2 r k)
      = silu (dot (fun j => k0_pay5 v26 v28 v36 (ix2 r j)) fun j => w (ix2 j k)) * dot (fun j => k0_pay5 v26 v28 v36 (ix2 r j)) fun j => u (ix2 j k) := by
  pointwise [k0_pay9, k0_pay8, k0_pay7]
  rw [zero_sub]
  rfl

theorem pay10_at (t : FVec Ideal S512x1024 .bf16) (w u : Vec Ideal S1024x512 .bf16) (r k : Fin 512) :
    k0_pay10 t w u (ix2 r k) = silu (dot (fun j => t (ix2 r j)) fun j => w (ix2 j k)) * dot (fun j => t (ix2 r j)) fun j => u (ix2 j k) := by
  pointwise [k0_pay10]
  rw [zero_sub]
  rfl

theorem pay15_at (t : FVec Ideal S512x1024 .bf16) (w u : Vec Ideal S1024x512 .bf16) (r k : Fin 512) :
    k0_pay15 (k0_pay11 t w) (k0_pay12 t u) (k0_pay13 t w) k0_pay14 (ix2 r k)
      = silu (dot (fun j => t (ix2 r j)) fun j => w (ix2 j k)) * dot (fun j => t (ix2 r j)) fun j => u (ix2 j k) := by
  pointwise [k0_pay15, k0_pay14, k0_pay13, k0_pay12, k0_pay11]
  rw [zero_sub]
  rfl

theorem pay16_at (t : FVec Ideal S512x1024 .bf16) (w u : Vec Ideal S1024x512 .bf16) (r k : Fin 512) :
    k0_pay16 t w u (ix2 r k) = silu (dot (fun j => t (ix2 r j)) fun j => w (ix2 j k)) * dot (fun j => t (ix2 r j)) fun j => u (ix2 j k) := by
  pointwise [k0_pay16]
  rw [zero_sub]
  rfl

theorem pay20_at (t : FVec Ideal S512x1024 .bf16) (w u : Vec Ideal S1024x256 .bf16) (r : Fin 512) (k : Fin 256) :
    k0_pay20 (k0_pay17 t w) (k0_pay18 t u) (k0_pay19 t w) (ix2 r k)
      = silu (dot (fun j => t (ix2 r j)) fun j => w (ix2 j k)) * dot (fun j => t (ix2 r j)) fun j => u (ix2 j k) := by
  pointwise [k0_pay20, k0_pay19, k0_pay18, k0_pay17]
  rw [zero_sub]
  rfl

/-- The row the call returns, from the first residual row and the hidden numbers. -/
theorem pay21_at (h : FVec Ideal S512x1024 .f32) (g : Vec Ideal S512x2816 .bf16) (w : Vec Ideal S2816x1024 .bf16) (v : Vec Ideal S1x1024 .f32)
    (r : Fin 512) (c : Fin 1024) :
    k0_pay21 h g w v (ix2 r c)
      = add (fun j => h (ix2 r j)) (fun e => dot (fun k => g (ix2 r k)) fun k => w (ix2 k e)) (fun j => v (ix2 0 j)) c := by
  pointwise [k0_pay21]
  rfl

/-- The projected row, from the same. -/
theorem pay1_at (h : FVec Ideal S512x1024 .f32) (g : Vec Ideal S512x2816 .bf16) (w : Vec Ideal S2816x1024 .bf16) (v u : Vec Ideal S1x1024 .f32)
    (p : Vec Ideal S1024x768 .bf16) (r : Fin 512) (c : Fin 768) :
    k0_pay1 (k0_pay21 h g w v) (k0_pay22 u) (k0_pay23 h g w v) p (ix2 r c)
      = dot (rms w1024 (fun j => k0_pay21 h g w v (ix2 r j)) fun j => u (ix2 0 j)) fun j => p (ix2 j c) := by
  rw [show (fun j => k0_pay21 h g w v (ix2 r j)) = add (fun j => h (ix2 r j)) (fun e => dot (fun k => g (ix2 r k)) fun k => w (ix2 k e)) (fun j => v (ix2 0 j))
    from funext fun j => pay21_at h g w v r j]
  pointwise [k0_pay1, k0_pay21, k0_pay22, k0_pay23]
  rfl

/-- Six column blocks that hold the tiles of one array `G` leave `G` in the buffer. -/
theorem scratch {sig' : RefSig} {κ : Kind} {sp : Space} (v : View sig' κ sp S512x2816 .bf16) (L : List (View.Piece (Elt Ideal) S512x2816 .bf16))
    (inb : ∀ a, (![0, 0] : Fin 2 → ℕ) a + (![512, 2816] : Fin 2 → ℕ) a ≤ S512x2816.size a) (G : Vec Ideal S512x2816 .bf16)
    (hL : ∀ p ∈ L, ∀ x : p.1.shape.Idx, p.2 x = G (p.1.emb x)) (hc : View.Piece.tiledBy L ![512, 256] = true) :
    v.readCov L (Rect.unit ![0, 0] ![512, 2816] inb).toLoadRect = G := by
  rw [View.readCov_eq_canon']
  funext y
  refine (View.canon_apply_of_pieces G L hL _ (View.cover_of_tiledBy L _ hc _)).trans (congrArg G ?_)
  exact Rect.emb_unit_full (s := S512x2816) inb y

/-- The hidden numbers of a block, from its normalised rows `T` and the gate and up weights. -/
def hidden (T : FVec Ideal S512x1024 .bf16) (X6 X7 : Vec Ideal S1024x2816 .bf16) : Vec Ideal S512x2816 .bf16 :=
  fun y => hid (fun j => T (ix2 (y 0) j)) (fun j k => X6 (ix2 j k)) (fun j k => X7 (ix2 j k)) (y 1)

theorem hidden_at (T : FVec Ideal S512x1024 .bf16) (X6 X7 : Vec Ideal S1024x2816 .bf16) (r : Fin 512) (k : Fin 2816) :
    hidden T X6 X7 (ix2 r k) = hid (fun j => T (ix2 r j)) (fun j k => X6 (ix2 j k)) (fun j k => X7 (ix2 j k)) k := rfl

/-- A column block of hidden numbers, computed from the same columns of the weights, is the tile of `hidden` there. -/
theorem tile {n o : ℕ} (inb : ∀ a, (![0, o] : Fin 2 → ℕ) a + (![512, n] : Fin 2 → ℕ) a ≤ S512x2816.size a)
    (inbw : ∀ a, (![0, o] : Fin 2 → ℕ) a + (![1024, n] : Fin 2 → ℕ) a ≤ S1024x2816.size a)
    (T : FVec Ideal S512x1024 .bf16) (X6 X7 : Vec Ideal S1024x2816 .bf16)
    (P : (Rect.unit (s := S512x2816) ![0, o] ![512, n] inb).shape.Idx → EReal)
    (hP : ∀ (a : Fin 512) (b : Fin n), P (ix2 a b)
      = silu (dot (fun j => T (ix2 a j)) fun j => View.ld X6 (Rect.unit (s := S1024x2816) ![0, o] ![1024, n] inbw) (ix2 j b))
        * dot (fun j => T (ix2 a j)) fun j => View.ld X7 (Rect.unit (s := S1024x2816) ![0, o] ![1024, n] inbw) (ix2 j b))
    (x : (Rect.unit (s := S512x2816) ![0, o] ![512, n] inb).shape.Idx) :
    P x = hidden T X6 X7 ((Rect.unit (s := S512x2816) ![0, o] ![512, n] inb).emb x) := by
  have ho : o + n ≤ 2816 := inb 1
  have h0 : (x 0).val < 512 := (x 0).isLt
  have h1 : (x 1).val < n := (x 1).isLt
  have hx : x = ix2 (⟨(x 0).val, h0⟩ : Fin 512) (⟨(x 1).val, h1⟩ : Fin n) := funext fun a => Fin.ext (by match a with | ⟨0, _⟩ => rfl | ⟨1, _⟩ => rfl)
  have e : (Rect.unit (s := S512x2816) ![0, o] ![512, n] inb).emb x = ix2 (⟨(x 0).val, h0⟩ : Fin 512) (⟨o + (x 1).val, by omega⟩ : Fin 2816) :=
    funext fun a => Fin.ext (by
      match a with
      | ⟨0, _⟩ => show 0 + 1 * (x 0).val = (x 0).val; omega
      | ⟨1, _⟩ => show o + 1 * (x 1).val = o + (x 1).val; omega)
  have el : ∀ (X : Vec Ideal S1024x2816 .bf16) (j : Fin 1024) (b : Fin n), View.ld X (Rect.unit (s := S1024x2816) ![0, o] ![1024, n] inbw) (ix2 j b)
      = X (ix2 j (⟨o + b.val, by omega⟩ : Fin 2816)) := fun X j b =>
    View.ld_unit_apply_of X _ _ inbw _ _ fun a => by
      match a with
      | ⟨0, _⟩ => show j.val = 0 + j.val; omega
      | ⟨1, _⟩ => rfl
  have := hP ⟨(x 0).val, h0⟩ ⟨(x 1).val, h1⟩
  rw [← hx] at this
  rw [e]
  exact this.trans (congrArg₂ (fun u v : Fin 1024 → EReal => silu (dot (fun j => T (ix2 ⟨(x 0).val, h0⟩ j)) u) * dot (fun j => T (ix2 ⟨(x 0).val, h0⟩ j)) v)
    (funext fun j => el X6 j _) (funext fun j => el X7 j _))

variable (m : (ℓ : Loc nD τ sig) → Buf (Elt Ideal) ℓ)

/-- What the body leaves at row `r` of its block, over the block's inputs. -/
theorem out_at (c : Dev nD) (t : Fin cfg0.N) (r : Fin 512) (e : Fin 1024) : (outsAt0 m c t).1 (ix2 r e)
    = mlp (add (fun j => iblk m c 0 t (ix2 r j)) (mix (iblk m c 1 t) (View.ld (iblk m c 3 t) (Rect.unit ![0, 0] ![512, 1024] inb_S1024x1024_S512x1024_0_0)) (iblk m c 2 t)
        (View.ld (iblk m c 3 t) (Rect.unit ![512, 0] ![512, 1024] inb_S1024x1024_S512x1024_512_0)) r) fun j => iblk m c 4 t (ix2 0 j))
      (fun j => iblk m c 5 t (ix2 0 j)) (fun j k => iblk m c 6 t (ix2 j k)) (fun j k => iblk m c 7 t (ix2 j k)) (fun k c' => iblk m c 8 t (ix2 k c'))
      (fun j => iblk m c 9 t (ix2 0 j)) e := by
  unfold outsAt0
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize (View.ld X3 (Rect.unit ![0, 0] ![512, 1024] inb_S1024x1024_S512x1024_0_0)) = Wa
  generalize (View.ld X3 (Rect.unit ![512, 0] ![512, 1024] inb_S1024x1024_S512x1024_512_0)) = Wb
  rw [scratch (G := hidden (k0_pay5 (k0_pay2 X1 Wa X2 Wb X0 X4) (k0_pay3 X5) (k0_pay4 X1 Wa X2 Wb X0 X4)) X6 X7)]
  · refine (pay21_at _ _ _ _ r e).trans ?_
    unfold mlp
    simp only [hidden_at, pay5_at, pay2_at]
  · refine List.forall_mem_cons.2 ⟨tile inb_S512x2816_S512x256_0_2560 inb_S1024x2816_S1024x256_0_2560 _ _ _ _ (pay20_at _ _ _), List.forall_mem_cons.2 ⟨tile inb_S512x2816_S512x512_0_2048 inb_S1024x2816_S1024x512_0_2048 _ _ _ _ (pay16_at _ _ _), List.forall_mem_cons.2 ⟨tile inb_S512x2816_S512x512_0_1536 inb_S1024x2816_S1024x512_0_1536 _ _ _ _ (pay15_at _ _ _),
      List.forall_mem_cons.2 ⟨tile inb_S512x2816_S512x512_0_1024 inb_S1024x2816_S1024x512_0_1024 _ _ _ _ (pay10_at _ _ _), List.forall_mem_cons.2 ⟨tile inb_S512x2816_S512x512_0_512 inb_S1024x2816_S1024x512_0_512 _ _ _ _ (pay9_at _ _ _ _ _), List.forall_mem_cons.2 ⟨tile inb_S512x2816_S512x512_0_0 inb_S1024x2816_S1024x512_0_0 _ _ _ _ (pay6_at _ _ _ _ _), fun p hp => absurd hp List.not_mem_nil⟩⟩⟩⟩⟩⟩
  · sl_kernel_rfl

/-- What the body leaves at row `r` of its second block: the next layer's input projection of the row above. -/
theorem next_at (c : Dev nD) (t : Fin cfg0.N) (r : Fin 512) (e : Fin 768) : (outsAt0 m c t).2 (ix2 r e)
    = dot (rms w1024 (mlp (add (fun j => iblk m c 0 t (ix2 r j)) (mix (iblk m c 1 t) (View.ld (iblk m c 3 t) (Rect.unit ![0, 0] ![512, 1024] inb_S1024x1024_S512x1024_0_0)) (iblk m c 2 t)
        (View.ld (iblk m c 3 t) (Rect.unit ![512, 0] ![512, 1024] inb_S1024x1024_S512x1024_512_0)) r) fun j => iblk m c 4 t (ix2 0 j))
      (fun j => iblk m c 5 t (ix2 0 j)) (fun j k => iblk m c 6 t (ix2 j k)) (fun j k => iblk m c 7 t (ix2 j k)) (fun k c' => iblk m c 8 t (ix2 k c'))
      (fun j => iblk m c 9 t (ix2 0 j))) fun j => iblk m c 10 t (ix2 0 j)) fun j => iblk m c 11 t (ix2 j e) := by
  unfold outsAt0
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize (View.ld X3 (Rect.unit ![0, 0] ![512, 1024] inb_S1024x1024_S512x1024_0_0)) = Wa
  generalize (View.ld X3 (Rect.unit ![512, 0] ![512, 1024] inb_S1024x1024_S512x1024_512_0)) = Wb
  rw [scratch (G := hidden (k0_pay5 (k0_pay2 X1 Wa X2 Wb X0 X4) (k0_pay3 X5) (k0_pay4 X1 Wa X2 Wb X0 X4)) X6 X7)]
  · refine (pay1_at _ _ _ _ _ _ r e).trans ?_
    refine congrArg (fun u => dot (rms w1024 u fun j => X10 (ix2 0 j)) fun j => X11 (ix2 j e)) (funext fun j => ?_)
    refine (pay21_at _ _ _ _ r j).trans ?_
    unfold mlp
    simp only [hidden_at, pay5_at, pay2_at]
  · refine List.forall_mem_cons.2 ⟨tile inb_S512x2816_S512x256_0_2560 inb_S1024x2816_S1024x256_0_2560 _ _ _ _ (pay20_at _ _ _), List.forall_mem_cons.2 ⟨tile inb_S512x2816_S512x512_0_2048 inb_S1024x2816_S1024x512_0_2048 _ _ _ _ (pay16_at _ _ _), List.forall_mem_cons.2 ⟨tile inb_S512x2816_S512x512_0_1536 inb_S1024x2816_S1024x512_0_1536 _ _ _ _ (pay15_at _ _ _),
      List.forall_mem_cons.2 ⟨tile inb_S512x2816_S512x512_0_1024 inb_S1024x2816_S1024x512_0_1024 _ _ _ _ (pay10_at _ _ _), List.forall_mem_cons.2 ⟨tile inb_S512x2816_S512x512_0_512 inb_S1024x2816_S1024x512_0_512 _ _ _ _ (pay9_at _ _ _ _ _), List.forall_mem_cons.2 ⟨tile inb_S512x2816_S512x512_0_0 inb_S1024x2816_S1024x512_0_0 _ _ _ _ (pay6_at _ _ _ _ _), fun p hp => absurd hp List.not_mem_nil⟩⟩⟩⟩⟩⟩
  · sl_kernel_rfl

end Cert.Kernel2Ideal.PostNext

end
-- ==== Proof.PostNextClaim.lean ====
/-
  The call between the two layers over all its blocks: the arrays it leaves are the reference's (Proof/PostNextRef.lean), and the
  claims about it.
-/
module

public import proofs.«01_k».proof.Defs
public import proofs.«01_k».proof.Proof.PostNextValue
public import proofs.«01_k».proof.Proof.PostNextRef
public import proofs.«01_k».proof.Proof.Gen.Kernel2.Frame
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Layer

namespace Cert.Kernel2Ideal.PostNext
open Cert.Kernel2Ideal Cert.Kernel2Ideal.Gen

variable (m : (ℓ : Loc nD τ sig) → Buf (Elt Ideal) ℓ)

/-- Where each window's block lies: the streamed arrays by rows of 512, the weights whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] :=
  (by decide +kernel : ∀ t : Fin grid0.N, _)

/-- The reference's first array from the call's arguments. -/
abbrev REF (c : Dev nD) : FVec Ideal S16384x1024 .f32 :=
  Cert.Reference2Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The reference's second array from the call's arguments. -/
abbrev REFP (c : Dev nD) : FVec Ideal S16384x768 .f32 :=
  Cert.Reference2Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! Its reshapes and its padding, read at an index. -/

theorem flat_resid (X : FVec Ideal S8x2048x1024 .f32) (g : Fin 16384) (j : Fin 1024) :
    shapeCast S16384x1024 X shapeCasts_S8x2048x1024_S16384x1024 (ix2 g j) = X (ix3 ⟨g.val / 2048, by omega⟩ ⟨g.val % 2048, by omega⟩ j) := by
  pointwise

theorem flat_mixer (X : FVec Ideal S8x2048x512 .bf16) (g : Fin 16384) (j : Fin 512) :
    shapeCast S16384x512 X shapeCasts_S8x2048x512_S16384x512 (ix2 g j) = X (ix3 ⟨g.val / 2048, by omega⟩ ⟨g.val % 2048, by omega⟩ j) := by
  pointwise

theorem padded (X : FVec Ideal S1024x704 .f32) (j : Fin 1024) (k : Fin 768) :
    (truncf (F := Ideal) .bf16 (pad S1024x768 ![0, 0] ![0, 64] ![0, 0] X (sitofp (F := Ideal) .f32 (constantI S_ 32 0#32)) pads_S1024x704_S1024x768_000_0640 h_S_)
      bitsLt_bf16_f32 : FVec Ideal S1024x768 .bf16) (ix2 j k) = if h : k.val < 704 then X (ix2 j ⟨k.val, h⟩) else (0 : EReal) := by
  pointwise
  simp [FloatOps.sitofp]

/-! What the host code hands the call. -/

theorem V_v0 (c : Dev nD) : V m c main_v0 = shapeCast S16384x1024 (m ((c : Thread nD τ).loc main_arg0)) shapeCasts_S8x2048x1024_S16384x1024 := by
  unfold V
  rfl

theorem V_v2 (c : Dev nD) : V m c main_v2 = truncf (F := Ideal) .bf16 (pad S1024x768 ![0, 0] ![0, 64] ![0, 0] (m ((c : Thread nD τ).loc main_arg11))
    (sitofp (F := Ideal) .f32 (constantI S_ 32 0#32)) pads_S1024x704_S1024x768_000_0640 h_S_) bitsLt_bf16_f32 := by
  unfold V
  rfl

theorem V_v3 (c : Dev nD) : V m c main_v3 = shapeCast S16384x512 (m ((c : Thread nD τ).loc main_arg1)) shapeCasts_S8x2048x512_S16384x512 := by
  unfold V
  rfl

theorem V_v4 (c : Dev nD) : V m c main_v4 = shapeCast S16384x512 (m ((c : Thread nD τ).loc main_arg2)) shapeCasts_S8x2048x512_S16384x512 := by
  unfold V
  rfl

theorem V_v5 (c : Dev nD) : V m c main_v5 = truncf (F := Ideal) .bf16 (m ((c : Thread nD τ).loc main_arg3)) bitsLt_bf16_f32 := by
  unfold V
  rfl

theorem V_v6 (c : Dev nD) : V m c main_v6 = shapeCast S1x1024 (m ((c : Thread nD τ).loc main_arg4)) shapeCasts_S1024_S1x1024 := by
  unfold V
  rfl

theorem V_v7 (c : Dev nD) : V m c main_v7 = shapeCast S1x1024 (m ((c : Thread nD τ).loc main_arg5)) shapeCasts_S1024_S1x1024 := by
  unfold V
  rfl

theorem V_v8 (c : Dev nD) : V m c main_v8 = truncf (F := Ideal) .bf16 (m ((c : Thread nD τ).loc main_arg6)) bitsLt_bf16_f32 := by
  unfold V
  rfl

theorem V_v9 (c : Dev nD) : V m c main_v9 = truncf (F := Ideal) .bf16 (m ((c : Thread nD τ).loc main_arg7)) bitsLt_bf16_f32 := by
  unfold V
  rfl

theorem V_v10 (c : Dev nD) : V m c main_v10 = truncf (F := Ideal) .bf16 (m ((c : Thread nD τ).loc main_arg8)) bitsLt_bf16_f32 := by
  unfold V
  rfl

theorem V_v11 (c : Dev nD) : V m c main_v11 = shapeCast S1x1024 (m ((c : Thread nD τ).loc main_arg9)) shapeCasts_S1024_S1x1024 := by
  unfold V
  rfl

theorem V_v12 (c : Dev nD) : V m c main_v12 = shapeCast S1x1024 (m ((c : Thread nD τ).loc main_arg10)) shapeCasts_S1024_S1x1024 := by
  unfold V
  rfl

theorem resid_eq (c : Dev nD) (t : Fin cfg0.N) (r : Fin 512) (g : Fin 16384) (hg : g.val = 512 * t.val + r.val) (j : Fin 1024) :
    iblk m c 0 t (ix2 r j) = m ((c : Thread nD τ).loc main_arg0) (ix3 ⟨g.val / 2048, by omega⟩ ⟨g.val % 2048, by omega⟩ j) := by
  have e : (win0_0.blk t).view.emb (ix2 r j) = ix2 g j := by
    blk_ext [idx t]
  show V m c main_v0 ((win0_0.blk t).view.emb (ix2 r j)) = _
  rw [e, V_v0]
  exact flat_resid _ _ _

theorem g4_eq (c : Dev nD) (t : Fin cfg0.N) (j : Fin 1024) : iblk m c 4 t (ix2 0 j) = m ((c : Thread nD τ).loc main_arg4) (ix1 j) := by
  blk_simp [iblk, idx t]
  rw [V_v6]
  pointwise
  blk_ext [idx t]

theorem g5_eq (c : Dev nD) (t : Fin cfg0.N) (j : Fin 1024) : iblk m c 5 t (ix2 0 j) = m ((c : Thread nD τ).loc main_arg5) (ix1 j) := by
  blk_simp [iblk, idx t]
  rw [V_v7]
  pointwise
  blk_ext [idx t]

theorem w6_eq (c : Dev nD) (t : Fin cfg0.N) (j : Fin 1024) (k : Fin 2816) : iblk m c 6 t (ix2 j k) = m ((c : Thread nD τ).loc main_arg6) (ix2 j k) := by
  blk_simp [iblk, idx t]
  rw [V_v8]
  pointwise
  blk_ext [idx t]

theorem w7_eq (c : Dev nD) (t : Fin cfg0.N) (j : Fin 1024) (k : Fin 2816) : iblk m c 7 t (ix2 j k) = m ((c : Thread nD τ).loc main_arg7) (ix2 j k) := by
  blk_simp [iblk, idx t]
  rw [V_v9]
  pointwise
  blk_ext [idx t]

theorem w8_eq (c : Dev nD) (t : Fin cfg0.N) (k : Fin 2816) (j : Fin 1024) : iblk m c 8 t (ix2 k j) = m ((c : Thread nD τ).loc main_arg8) (ix2 k j) := by
  blk_simp [iblk, idx t]
  rw [V_v10]
  pointwise
  blk_ext [idx t]

theorem g9_eq (c : Dev nD) (t : Fin cfg0.N) (j : Fin 1024) : iblk m c 9 t (ix2 0 j) = m ((c : Thread nD τ).loc main_arg9) (ix1 j) := by
  blk_simp [iblk, idx t]
  rw [V_v11]
  pointwise
  blk_ext [idx t]

theorem ya_eq (c : Dev nD) (t : Fin cfg0.N) (r : Fin 512) (g : Fin 16384) (hg : g.val = 512 * t.val + r.val) (j : Fin 512) :
    iblk m c 1 t (ix2 r j) = m ((c : Thread nD τ).loc main_arg1) (ix3 ⟨g.val / 2048, by omega⟩ ⟨g.val % 2048, by omega⟩ j) := by
  have e : (win0_1.blk t).view.emb (ix2 r j) = ix2 g j := by
    blk_ext [idx t]
  show V m c main_v3 ((win0_1.blk t).view.emb (ix2 r j)) = _
  rw [e, V_v3]
  exact flat_mixer _ _ _

theorem yb_eq (c : Dev nD) (t : Fin cfg0.N) (r : Fin 512) (g : Fin 16384) (hg : g.val = 512 * t.val + r.val) (j : Fin 512) :
    iblk m c 2 t (ix2 r j) = m ((c : Thread nD τ).loc main_arg2) (ix3 ⟨g.val / 2048, by omega⟩ ⟨g.val % 2048, by omega⟩ j) := by
  have e : (win0_2.blk t).view.emb (ix2 r j) = ix2 g j := by
    blk_ext [idx t]
  show V m c main_v4 ((win0_2.blk t).view.emb (ix2 r j)) = _
  rw [e, V_v4]
  exact flat_mixer _ _ _

theorem wa_eq (c : Dev nD) (t : Fin cfg0.N) (j : Fin 512) (e : Fin 1024) :
    View.ld (iblk m c 3 t) (Rect.unit ![0, 0] ![512, 1024] inb_S1024x1024_S512x1024_0_0) (ix2 j e)
      = m ((c : Thread nD τ).loc main_arg3) (ix2 ⟨j.val, by omega⟩ e) := by
  blk_simp [iblk, idx t]
  rw [V_v5]
  pointwise
  blk_ext [idx t]

theorem wb_eq (c : Dev nD) (t : Fin cfg0.N) (j : Fin 512) (e : Fin 1024) :
    View.ld (iblk m c 3 t) (Rect.unit ![512, 0] ![512, 1024] inb_S1024x1024_S512x1024_512_0) (ix2 j e)
      = m ((c : Thread nD τ).loc main_arg3) (ix2 ⟨512 + j.val, by omega⟩ e) := by
  blk_simp [iblk, idx t]
  rw [V_v5]
  pointwise
  blk_ext [idx t]

theorem g10_eq (c : Dev nD) (t : Fin cfg0.N) (j : Fin 1024) : iblk m c 10 t (ix2 0 j) = m ((c : Thread nD τ).loc main_arg10) (ix1 j) := by
  blk_simp [iblk, idx t]
  rw [V_v12]
  pointwise
  blk_ext [idx t]

theorem w11_eq (c : Dev nD) (t : Fin cfg0.N) (j : Fin 1024) (k : Fin 768) :
    iblk m c 11 t (ix2 j k) = if h : k.val < 704 then m ((c : Thread nD τ).loc main_arg11) (ix2 j ⟨k.val, h⟩) else (0 : EReal) := by
  have e : (win0_11.blk t).view.emb (ix2 j k) = ix2 j k := by
    blk_ext [idx t]
  show V m c main_v2 ((win0_11.blk t).view.emb (ix2 j k)) = _
  rw [e, V_v2]
  exact padded _ _ _

/-- One number of a block is the reference's number at its place in the array. -/
theorem point (c : Dev nD) (t : Fin cfg0.N) (r : Fin 512) (e : Fin 1024) (g : Fin 16384) (hg : g.val = 512 * t.val + r.val) :
    (outsAt0 m c t).1 (ix2 r e) = REF m c (ix2 g e) := by
  refine (out_at m c t r e).trans (Eq.trans ?_ (Cert.Reference2Ideal.PostNext.out_at _ _ _ _ _ _ _ _ _ _ g e).symm)
  unfold mix Cert.Reference2Ideal.PostNext.h1 Cert.Reference2Ideal.PostNext.mix
  simp only [resid_eq m c t r g hg, g4_eq, g5_eq, w6_eq, w7_eq, w8_eq, g9_eq, ya_eq m c t r g hg, yb_eq m c t r g hg, wa_eq, wb_eq]

theorem point_next (c : Dev nD) (t : Fin cfg0.N) (r : Fin 512) (e : Fin 768) (g : Fin 16384) (hg : g.val = 512 * t.val + r.val) :
    (outsAt0 m c t).2 (ix2 r e) = REFP m c (ix2 g e) := by
  refine (next_at m c t r e).trans (Eq.trans ?_ (Cert.Reference2Ideal.PostNext.proj_at _ _ _ _ _ _ _ _ _ _ _ _ g e).symm)
  unfold mix Cert.Reference2Ideal.PostNext.h2 Cert.Reference2Ideal.PostNext.h1 Cert.Reference2Ideal.PostNext.mix
  simp only [resid_eq m c t r g hg, g4_eq, g5_eq, w6_eq, w7_eq, w8_eq, g9_eq, g10_eq, w11_eq, ya_eq m c t r g hg, yb_eq m c t r g hg, wa_eq, wb_eq]

/-- The call's first array is the reference's. -/
theorem final (c : Dev nD) : (dats m 0 c).arrAt 12 (cfgs 0).N = REF m c := by
  refine (dats m 0 c).arrAt_eq_of_covers 12 _ (by decide +kernel) fun t _ y => ?_
  blk_simp
  rw [after0_12]
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point m c t ⟨_, h0⟩ (y 1) ⟨512 * t.val + (y 0).val, by omega⟩ rfl).trans ?_
  blk_ext [idx t]

/-- The call's second array is the reference's. -/
theorem final_next (c : Dev nD) : (dats m 0 c).arrAt 13 (cfgs 0).N = REFP m c := by
  refine (dats m 0 c).arrAt_eq_of_covers 13 _ (by decide +kernel) fun t _ y => ?_
  blk_simp
  rw [after0_13]
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point_next m c t ⟨_, h0⟩ (y 1) ⟨512 * t.val + (y 0).val, by omega⟩ rfl).trans ?_
  blk_ext [idx t]

end Cert.Kernel2Ideal.PostNext

namespace Cert.Proof.PostNext

theorem frameKernel : Cert.quiescent_Kernel2 := fun m ρ _ => Cert.Kernel2.Gen.frame m ρ

theorem frameKernelIdeal : Cert.quiescent_Kernel2Ideal := fun m ρ _ => Cert.Kernel2Ideal.Gen.frame m ρ

theorem frameReferenceIdeal : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem algebraic : Cert.algebraic_Kernel2Ideal_Reference2Ideal := by
  intro m g m' g' _ hagree
  refine ⟨fun c => (Cert.Kernel2Ideal.Gen.dats m 0 c).arrAt 12 (Cert.Kernel2Ideal.cfgs 0).N,
    fun c => (Cert.Kernel2Ideal.Gen.dats m 0 c).arrAt 13 (Cert.Kernel2Ideal.cfgs 0).N, Cert.Kernel2Ideal.Value.run_blocks m g, ?_⟩
  refine (θ_run _ _ _).mono (fun r h c => ⟨?_, ?_, (h c).2.2⟩) (Cert.Reference2Ideal.Value.run (F := Ideal) m' g')
  · refine (h c).1.trans ?_
    obtain ⟨e0, e1, e2, e3, e4, e5, e6, e7, e8, e9, e10, e11⟩ := hagree c
    refine (Cert.Reference2Ideal.Read.val_main_v50_eq (StableHlo.launchContents m' c)).trans ?_
    rw [show StableHlo.launchContents m' c (Proc.devRef .tc Cert.Reference2Ideal.main_arg0) = _ from e0, show StableHlo.launchContents m' c (Proc.devRef .tc Cert.Reference2Ideal.main_arg1) = _ from e1, show StableHlo.launchContents m' c (Proc.devRef .tc Cert.Reference2Ideal.main_arg2) = _ from e2, show StableHlo.launchContents m' c (Proc.devRef .tc Cert.Reference2Ideal.main_arg3) = _ from e3, show StableHlo.launchContents m' c (Proc.devRef .tc Cert.Reference2Ideal.main_arg4) = _ from e4, show StableHlo.launchContents m' c (Proc.devRef .tc Cert.Reference2Ideal.main_arg5) = _ from e5, show StableHlo.launchContents m' c (Proc.devRef .tc Cert.Reference2Ideal.main_arg6) = _ from e6, show StableHlo.launchContents m' c (Proc.devRef .tc Cert.Reference2Ideal.main_arg7) = _ from e7, show StableHlo.launchContents m' c (Proc.devRef .tc Cert.Reference2Ideal.main_arg8) = _ from e8, show StableHlo.launchContents m' c (Proc.devRef .tc Cert.Reference2Ideal.main_arg9) = _ from e9]
    exact (Cert.Kernel2Ideal.PostNext.final m c).symm
  · refine (h c).2.1.trans ?_
    obtain ⟨e0, e1, e2, e3, e4, e5, e6, e7, e8, e9, e10, e11⟩ := hagree c
    refine (Cert.Reference2Ideal.Read.val_main_v65_eq (StableHlo.launchContents m' c)).trans ?_
    rw [show StableHlo.launchContents m' c (Proc.devRef .tc Cert.Reference2Ideal.main_arg0) = _ from e0, show StableHlo.launchContents m' c (Proc.devRef .tc Cert.Reference2Ideal.main_arg1) = _ from e1, show StableHlo.launchContents m' c (Proc.devRef .tc Cert.Reference2Ideal.main_arg2) = _ from e2, show StableHlo.launchContents m' c (Proc.devRef .tc Cert.Reference2Ideal.main_arg3) = _ from e3, show StableHlo.launchContents m' c (Proc.devRef .tc Cert.Reference2Ideal.main_arg4) = _ from e4, show StableHlo.launchContents m' c (Proc.devRef .tc Cert.Reference2Ideal.main_arg5) = _ from e5, show StableHlo.launchContents m' c (Proc.devRef .tc Cert.Reference2Ideal.main_arg6) = _ from e6, show StableHlo.launchContents m' c (Proc.devRef .tc Cert.Reference2Ideal.main_arg7) = _ from e7, show StableHlo.launchContents m' c (Proc.devRef .tc Cert.Reference2Ideal.main_arg8) = _ from e8, show StableHlo.launchContents m' c (Proc.devRef .tc Cert.Reference2Ideal.main_arg9) = _ from e9, show StableHlo.launchContents m' c (Proc.devRef .tc Cert.Reference2Ideal.main_arg10) = _ from e10, show StableHlo.launchContents m' c (Proc.devRef .tc Cert.Reference2Ideal.main_arg11) = _ from e11]
    exact (Cert.Kernel2Ideal.PostNext.final_next m c).symm

end Cert.Proof.PostNext

end
-- ==== Proof.PostRef.lean ====
/-
  The reference of the layer's last call, row by row: the mixers' outputs projected, the residual sum, and the channel
  mixer (Proof/Layer.lean) of that row.
-/
module

public import proofs.«01_k».proof.Proof.Gen.Reference3Ideal.Read
public import proofs.«01_k».proof.Proof.Layer
public import Idealize.ShloMosaic.Lib.Pipeline.ValueKit

@[expose] public section

set_option maxRecDepth 16384

noncomputable section

open Idealize.ShloMosaic Idealize.ShloMosaic.TcCoe Idealize.SL.Sem
open Cert.Layer

namespace Cert.Reference3Ideal.Post
open Cert.Reference3Ideal Cert.Reference3Ideal.Gen Cert.Reference3Ideal.Read

variable (x0 : FVec Ideal S16384x1024 .f32) (x1 : FVec Ideal S8x2048x256 .bf16) (x2 : FVec Ideal S8x2048x768 .bf16)
  (x3 : FVec Ideal S1024x1024 .f32) (x4 x5 : FVec Ideal S1024 .f32) (x6 x7 : FVec Ideal S1024x2816 .f32) (x8 : FVec Ideal S2816x1024 .f32)
  (x9 : FVec Ideal S1024 .f32)

/-- Row `r` of the projected mixers: the two parts times their rows of the output weights. -/
def mix (r : Fin 16384) (c : Fin 1024) : EReal :=
  dot (fun j : Fin 256 => x1 (ix3 ⟨r.val / 2048, by omega⟩ ⟨r.val % 2048, by omega⟩ j)) (fun j => x3 (ix2 ⟨j.val, by omega⟩ c))
  + dot (fun j : Fin 768 => x2 (ix3 ⟨r.val / 2048, by omega⟩ ⟨r.val % 2048, by omega⟩ j)) (fun j => x3 (ix2 ⟨256 + j.val, by omega⟩ c))

theorem mix_at (r : Fin 16384) (c : Fin 1024) : val_main_v3 (F := Ideal) x1 x2 x3 (ix2 r c) = mix x1 x2 x3 r c := by
  pointwise [val_main_v3, val_main_v2, val_main_v1, val_main_v0]
  rfl

/-- Row `r` after the first residual sum. -/
def h1 (r : Fin 16384) : Fin 1024 → EReal := add (fun j => x0 (ix2 r j)) (mix x1 x2 x3 r) (fun j => x4 (ix1 j))

theorem h1_at (r : Fin 16384) (c : Fin 1024) : val_main_v17 (F := Ideal) x0 x1 x2 x3 x4 (ix2 r c) = h1 x0 x1 x2 x3 x4 r c := by
  unfold h1
  rw [show mix x1 x2 x3 r = fun c => val_main_v3 (F := Ideal) x1 x2 x3 (ix2 r c) from funext fun c => (mix_at x1 x2 x3 r c).symm]
  pointwise [val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  rfl

/-- The normalised row the gates read. -/
theorem t_at (r : Fin 16384) (c : Fin 1024) :
    val_main_v30 (F := Ideal) x0 x1 x2 x3 x4 x5 (ix2 r c) = rms w1024 (h1 x0 x1 x2 x3 x4 r) (fun j => x5 (ix1 j)) c := by
  rw [show h1 x0 x1 x2 x3 x4 r = fun c => val_main_v17 (F := Ideal) x0 x1 x2 x3 x4 (ix2 r c) from funext fun c => (h1_at x0 x1 x2 x3 x4 r c).symm]
  pointwise [val_main_v30, val_main_v29, val_main_v28, val_main_v27, val_main_v26, val_main_v25, val_main_v24, val_main_v23,
    val_main_v22, val_main_v21, val_main_v20, val_main_v19, val_main_v18, val_main_cst_2, val_main_cst_3, val_main_cst_4]
  rfl

/-- The hidden numbers. -/
theorem hid_at (r : Fin 16384) (k : Fin 2816) :
    val_main_v34 (F := Ideal) x0 x1 x2 x3 x4 x5 x6 x7 (ix2 r k)
      = hid (rms w1024 (h1 x0 x1 x2 x3 x4 r) (fun j => x5 (ix1 j))) (fun j k => x6 (ix2 j k)) (fun j k => x7 (ix2 j k)) k := by
  rw [show rms w1024 (h1 x0 x1 x2 x3 x4 r) (fun j => x5 (ix1 j)) = fun c => val_main_v30 (F := Ideal) x0 x1 x2 x3 x4 x5 (ix2 r c)
    from funext fun c => (t_at x0 x1 x2 x3 x4 x5 r c).symm]
  pointwise [val_main_v34, val_main_v33, val_main_v32, val_main_v31, val_main_call0_v5, val_main_call0_v4, val_main_call0_v3,
    val_main_call0_v2, val_main_call0_v1, val_main_call0_v0, val_main_call0_cst, val_main_call0_cst_0]
  rfl

/-- The reference's row: the channel mixer of the first residual row. -/
theorem out_at (r : Fin 16384) (c : Fin 1024) :
    val_main_v49 (F := Ideal) x0 x1 x2 x3 x4 x5 x6 x7 x8 x9 (ix2 r c)
      = mlp (h1 x0 x1 x2 x3 x4 r) (fun j => x5 (ix1 j)) (fun j k => x6 (ix2 j k)) (fun j k => x7 (ix2 j k)) (fun k c => x8 (ix2 k c))
        (fun j => x9 (ix1 j)) c := by
  unfold mlp
  rw [show hid (rms w1024 (h1 x0 x1 x2 x3 x4 r) (fun j => x5 (ix1 j))) (fun j k => x6 (ix2 j k)) (fun j k => x7 (ix2 j k))
      = fun k => val_main_v34 (F := Ideal) x0 x1 x2 x3 x4 x5 x6 x7 (ix2 r k) from funext fun k => (hid_at x0 x1 x2 x3 x4 x5 x6 x7 r k).symm,
    show h1 x0 x1 x2 x3 x4 r = fun c => val_main_v17 (F := Ideal) x0 x1 x2 x3 x4 (ix2 r c) from funext fun c => (h1_at x0 x1 x2 x3 x4 r c).symm,
    show (fun e => dot (fun k => val_main_v34 (F := Ideal) x0 x1 x2 x3 x4 x5 x6 x7 (ix2 r k)) fun k => x8 (ix2 k e))
      = fun e => val_main_v35 (F := Ideal) x0 x1 x2 x3 x4 x5 x6 x7 x8 (ix2 r e) from funext fun e => by pointwise [val_main_v35]; rfl]
  pointwise [val_main_v49, val_main_v48, val_main_v47, val_main_v46, val_main_v45, val_main_v44, val_main_v43,
    val_main_v42, val_main_v41, val_main_v40, val_main_v39, val_main_v38, val_main_v37, val_main_v36, val_main_cst_5, val_main_cst_6, val_main_cst_7]
  rfl

end Cert.Reference3Ideal.Post

end
-- ==== Proof.PostValue.lean ====
/-
  The layer's last call, row by row: what the body leaves at a row of its block is the channel mixer (Proof/Layer.lean)
  of the row after the first residual sum, the feed-forward's hidden numbers computed in column blocks.
-/
module

public import proofs.«01_k».proof.Proof.Gen.Kernel3Ideal.Value
public import proofs.«01_k».proof.Proof.PostRef
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)
open Cert.Layer

namespace Cert.Kernel3Ideal.Post
open Cert.Kernel3Ideal Cert.Kernel3Ideal.Gen

/-- Row `r` of the projected mixers: the two parts times their rows of the output weights. -/
def mix (v0 : Vec Ideal S512x256 .bf16) (v2 : Vec Ideal S256x1024 .bf16) (v5 : Vec Ideal S512x768 .bf16) (v7 : Vec Ideal S768x1024 .bf16)
    (r : Fin 512) (c : Fin 1024) : EReal :=
  dot (fun j => v0 (ix2 r j)) (fun j => v2 (ix2 j c)) + dot (fun j => v5 (ix2 r j)) (fun j => v7 (ix2 j c))

theorem pay3_at (v0 : Vec Ideal S512x256 .bf16) (v2 : Vec Ideal S256x1024 .bf16) (v5 : Vec Ideal S512x768 .bf16) (v7 : Vec Ideal S768x1024 .bf16)
    (v11 : Vec Ideal S512x1024 .f32) (v12 : Vec Ideal S1x1024 .f32) (r : Fin 512) (c : Fin 1024) :
    k0_pay3 v0 v2 v5 v7 v11 v12 (ix2 r c) = add (fun j => v11 (ix2 r j)) (mix v0 v2 v5 v7 r) (fun j => v12 (ix2 0 j)) c := by
  pointwise [k0_pay3]
  rfl

/-- The normalised row. -/
theorem pay6_at (v0 : Vec Ideal S512x256 .bf16) (v2 : Vec Ideal S256x1024 .bf16) (v5 : Vec Ideal S512x768 .bf16) (v7 : Vec Ideal S768x1024 .bf16)
    (v11 : Vec Ideal S512x1024 .f32) (v12 v27 : Vec Ideal S1x1024 .f32) (r : Fin 512) (c : Fin 1024) :
    k0_pay6 (k0_pay3 v0 v2 v5 v7 v11 v12) (k0_pay4 v27) (k0_pay5 v0 v2 v5 v7 v11 v12) (ix2 r c)
      = rms w1024 (fun j => k0_pay3 v0 v2 v5 v7 v11 v12 (ix2 r j)) (fun j => v27 (ix2 0 j)) c := by
  pointwise [k0_pay6, k0_pay5, k0_pay4]
  rfl

/-- A hidden number of a block's row, from its normalised row. -/
theorem pay7_at (v26 : FVec Ideal S512x1024 .f32) (v28 : FVec Ideal S1x1024 .f32) (v36 : FVec Ideal S512x1 .f32) (w u : Vec Ideal S1024x512 .bf16) (r k : Fin 512) :
    k0_pay7 v26 v28 v36 w u (ix2 r k)
      = silu (dot (fun j => k0_pay6 v26 v28 v36 (ix2 r j)) fun j => w (ix2 j k)) * dot (fun j => k0_pay6 v26 v28 v36 (ix2 r j)) fun j => u (ix2 j k) := by
  pointwise [k0_pay7]
  rw [zero_sub]
  rfl

theorem pay9_at (v26 : FVec Ideal S512x1024 .f32) (v28 : FVec Ideal S1x1024 .f32) (v36 : FVec Ideal S512x1 .f32) (w u : Vec Ideal S1024x512 .bf16) (r k : Fin 512) :
    k0_pay9 (k0_pay8 v26 v28 v36 w u) (ix2 r k)
      = silu (dot (fun j => k0_pay6 v26 v28 v36 (ix2 r j)) fun j => w (ix2 j k)) * dot (fun j => k0_pay6 v26 v28 v36 (ix2 r j)) fun j => u (ix2 j k) := by
  pointwise [k0_pay9, k0_pay8]
  rw [zero_sub]
  rfl

theorem pay10_at (t : FVec Ideal S512x1024 .bf16) (w u : Vec Ideal S1024x512 .bf16) (r k : Fin 512) :
    k0_pay10 t w u (ix2 r k) = silu (dot (fun j => t (ix2 r j)) fun j => w (ix2 j k)) * dot (fun j => t (ix2 r j)) fun j => u (ix2 j k) := by
  pointwise [k0_pay10]
  rw [zero_sub]
  rfl

theorem pay14_at (t : FVec Ideal S512x1024 .bf16) (w u : Vec Ideal S1024x512 .bf16) (r k : Fin 512) :
    k0_pay14 (k0_pay11 t w) (k0_pay12 t u) (k0_pay13 t w) (ix2 r k)
      = silu (dot (fun j => t (ix2 r j)) fun j => w (ix2 j k)) * dot (fun j => t (ix2 r j)) fun j => u (ix2 j k) := by
  pointwise [k0_pay14, k0_pay13, k0_pay12, k0_pay11]
  rw [zero_sub]
  rfl

theorem pay15_at (t : FVec Ideal S512x1024 .bf16) (w u : Vec Ideal S1024x512 .bf16) (r k : Fin 512) :
    k0_pay15 t w u (ix2 r k) = silu (dot (fun j => t (ix2 r j)) fun j => w (ix2 j k)) * dot (fun j => t (ix2 r j)) fun j => u (ix2 j k) := by
  pointwise [k0_pay15]
  rw [zero_sub]
  rfl

theorem pay1_at (t : FVec Ideal S512x1024 .bf16) (w u : Vec Ideal S1024x256 .bf16) (r : Fin 512) (k : Fin 256) :
    k0_pay1 (k0_pay16 t w) (k0_pay17 t u) (k0_pay18 t w) (Scalar.ofBits .f32 0x3F800000#32) (ix2 r k)
      = silu (dot (fun j => t (ix2 r j)) fun j => w (ix2 j k)) * dot (fun j => t (ix2 r j)) fun j => u (ix2 j k) := by
  pointwise [k0_pay1, k0_pay18, k0_pay17, k0_pay16]
  rw [zero_sub]
  rfl

/-- The row the call returns, from the first residual row and the hidden numbers. -/
theorem pay2_at (h : FVec Ideal S512x1024 .f32) (g : Vec Ideal S512x2816 .bf16) (w : Vec Ideal S2816x1024 .bf16) (v : Vec Ideal S1x1024 .f32)
    (r : Fin 512) (c : Fin 1024) :
    k0_pay2 h g w v (ix2 r c)
      = add (fun j => h (ix2 r j)) (fun e => dot (fun k => g (ix2 r k)) fun k => w (ix2 k e)) (fun j => v (ix2 0 j)) c := by
  pointwise [k0_pay2]
  rfl

/-- Six column blocks that hold the tiles of one array `G` leave `G` in the buffer. -/
theorem scratch {sig' : RefSig} {κ : Kind} {sp : Space} (v : View sig' κ sp S512x2816 .bf16) (L : List (View.Piece (Elt Ideal) S512x2816 .bf16))
    (inb : ∀ a, (![0, 0] : Fin 2 → ℕ) a + (![512, 2816] : Fin 2 → ℕ) a ≤ S512x2816.size a) (G : Vec Ideal S512x2816 .bf16)
    (hL : ∀ p ∈ L, ∀ x : p.1.shape.Idx, p.2 x = G (p.1.emb x)) (hc : View.Piece.tiledBy L ![512, 256] = true) :
    v.readCov L (Rect.unit ![0, 0] ![512, 2816] inb).toLoadRect = G := by
  rw [View.readCov_eq_canon']
  funext y
  refine (View.canon_apply_of_pieces G L hL _ (View.cover_of_tiledBy L _ hc _)).trans (congrArg G ?_)
  exact Rect.emb_unit_full (s := S512x2816) inb y

/-- The hidden numbers of a block, from its normalised rows `T` and the gate and up weights. -/
def hidden (T : FVec Ideal S512x1024 .bf16) (X6 X7 : Vec Ideal S1024x2816 .bf16) : Vec Ideal S512x2816 .bf16 :=
  fun y => hid (fun j => T (ix2 (y 0) j)) (fun j k => X6 (ix2 j k)) (fun j k => X7 (ix2 j k)) (y 1)

theorem hidden_at (T : FVec Ideal S512x1024 .bf16) (X6 X7 : Vec Ideal S1024x2816 .bf16) (r : Fin 512) (k : Fin 2816) :
    hidden T X6 X7 (ix2 r k) = hid (fun j => T (ix2 r j)) (fun j k => X6 (ix2 j k)) (fun j k => X7 (ix2 j k)) k := rfl

/-- A column block of hidden numbers, computed from the same columns of the weights, is the tile of `hidden` there. -/
theorem tile {n o : ℕ} (inb : ∀ a, (![0, o] : Fin 2 → ℕ) a + (![512, n] : Fin 2 → ℕ) a ≤ S512x2816.size a)
    (inbw : ∀ a, (![0, o] : Fin 2 → ℕ) a + (![1024, n] : Fin 2 → ℕ) a ≤ S1024x2816.size a)
    (T : FVec Ideal S512x1024 .bf16) (X6 X7 : Vec Ideal S1024x2816 .bf16)
    (P : (Rect.unit (s := S512x2816) ![0, o] ![512, n] inb).shape.Idx → EReal)
    (hP : ∀ (a : Fin 512) (b : Fin n), P (ix2 a b)
      = silu (dot (fun j => T (ix2 a j)) fun j => View.ld X6 (Rect.unit (s := S1024x2816) ![0, o] ![1024, n] inbw) (ix2 j b))
        * dot (fun j => T (ix2 a j)) fun j => View.ld X7 (Rect.unit (s := S1024x2816) ![0, o] ![1024, n] inbw) (ix2 j b))
    (x : (Rect.unit (s := S512x2816) ![0, o] ![512, n] inb).shape.Idx) :
    P x = hidden T X6 X7 ((Rect.unit (s := S512x2816) ![0, o] ![512, n] inb).emb x) := by
  have ho : o + n ≤ 2816 := inb 1
  have h0 : (x 0).val < 512 := (x 0).isLt
  have h1 : (x 1).val < n := (x 1).isLt
  have hx : x = ix2 (⟨(x 0).val, h0⟩ : Fin 512) (⟨(x 1).val, h1⟩ : Fin n) := funext fun a => Fin.ext (by match a with | ⟨0, _⟩ => rfl | ⟨1, _⟩ => rfl)
  have e : (Rect.unit (s := S512x2816) ![0, o] ![512, n] inb).emb x = ix2 (⟨(x 0).val, h0⟩ : Fin 512) (⟨o + (x 1).val, by omega⟩ : Fin 2816) :=
    funext fun a => Fin.ext (by
      match a with
      | ⟨0, _⟩ => show 0 + 1 * (x 0).val = (x 0).val; omega
      | ⟨1, _⟩ => show o + 1 * (x 1).val = o + (x 1).val; omega)
  have el : ∀ (X : Vec Ideal S1024x2816 .bf16) (j : Fin 1024) (b : Fin n), View.ld X (Rect.unit (s := S1024x2816) ![0, o] ![1024, n] inbw) (ix2 j b)
      = X (ix2 j (⟨o + b.val, by omega⟩ : Fin 2816)) := fun X j b =>
    View.ld_unit_apply_of X _ _ inbw _ _ fun a => by
      match a with
      | ⟨0, _⟩ => show j.val = 0 + j.val; omega
      | ⟨1, _⟩ => rfl
  have := hP ⟨(x 0).val, h0⟩ ⟨(x 1).val, h1⟩
  rw [← hx] at this
  rw [e]
  exact this.trans (congrArg₂ (fun u v : Fin 1024 → EReal => silu (dot (fun j => T (ix2 ⟨(x 0).val, h0⟩ j)) u) * dot (fun j => T (ix2 ⟨(x 0).val, h0⟩ j)) v)
    (funext fun j => el X6 j _) (funext fun j => el X7 j _))

variable (m : (ℓ : Loc nD τ sig) → Buf (Elt Ideal) ℓ)

/-- What the body leaves at row `r` of its block, over the block's inputs. -/
theorem out_at (c : Dev nD) (t : Fin cfg0.N) (r : Fin 512) (e : Fin 1024) : outsAt0 m c t (ix2 r e)
    = mlp (add (fun j => iblk m c 0 t (ix2 r j)) (mix (iblk m c 1 t) (View.ld (iblk m c 3 t) (Rect.unit ![0, 0] ![256, 1024] inb_S1024x1024_S256x1024_0_0)) (iblk m c 2 t)
        (View.ld (iblk m c 3 t) (Rect.unit ![256, 0] ![768, 1024] inb_S1024x1024_S768x1024_256_0)) r) fun j => iblk m c 4 t (ix2 0 j))
      (fun j => iblk m c 5 t (ix2 0 j)) (fun j k => iblk m c 6 t (ix2 j k)) (fun j k => iblk m c 7 t (ix2 j k)) (fun k c' => iblk m c 8 t (ix2 k c'))
      (fun j => iblk m c 9 t (ix2 0 j)) e := by
  unfold outsAt0
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize (View.ld X3 (Rect.unit ![0, 0] ![256, 1024] inb_S1024x1024_S256x1024_0_0)) = Wa
  generalize (View.ld X3 (Rect.unit ![256, 0] ![768, 1024] inb_S1024x1024_S768x1024_256_0)) = Wb
  rw [scratch (G := hidden (k0_pay6 (k0_pay3 X1 Wa X2 Wb X0 X4) (k0_pay4 X5) (k0_pay5 X1 Wa X2 Wb X0 X4)) X6 X7)]
  · refine (pay2_at _ _ _ _ r e).trans ?_
    unfold mlp
    simp only [hidden_at, pay6_at, pay3_at]
  · refine List.forall_mem_cons.2 ⟨tile inb_S512x2816_S512x256_0_2560 inb_S1024x2816_S1024x256_0_2560 _ _ _ _ (pay1_at _ _ _), List.forall_mem_cons.2 ⟨tile inb_S512x2816_S512x512_0_2048 inb_S1024x2816_S1024x512_0_2048 _ _ _ _ (pay15_at _ _ _), List.forall_mem_cons.2 ⟨tile inb_S512x2816_S512x512_0_1536 inb_S1024x2816_S1024x512_0_1536 _ _ _ _ (pay14_at _ _ _),
      List.forall_mem_cons.2 ⟨tile inb_S512x2816_S512x512_0_1024 inb_S1024x2816_S1024x512_0_1024 _ _ _ _ (pay10_at _ _ _), List.forall_mem_cons.2 ⟨tile inb_S512x2816_S512x512_0_512 inb_S1024x2816_S1024x512_0_512 _ _ _ _ (pay9_at _ _ _ _ _), List.forall_mem_cons.2 ⟨tile inb_S512x2816_S512x512_0_0 inb_S1024x2816_S1024x512_0_0 _ _ _ _ (pay7_at _ _ _ _ _), fun p hp => absurd hp List.not_mem_nil⟩⟩⟩⟩⟩⟩
  · sl_kernel_rfl

end Cert.Kernel3Ideal.Post

end
-- ==== Proof.PostClaim.lean ====
/-
  The layer's last call over all its blocks: the array it leaves is the reference's (Proof/PostRef.lean), and the
  claims about it.
-/
module

public import proofs.«01_k».proof.Defs
public import proofs.«01_k».proof.Proof.PostValue
public import proofs.«01_k».proof.Proof.PostRef
public import proofs.«01_k».proof.Proof.Gen.Kernel3.Frame
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Layer

namespace Cert.Kernel3Ideal.Post
open Cert.Kernel3Ideal Cert.Kernel3Ideal.Gen

variable (m : (ℓ : Loc nD τ sig) → Buf (Elt Ideal) ℓ)

/-- Where each window's block lies: the streamed arrays by rows of 512, the weights whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's array from the call's arguments. -/
abbrev REF (c : Dev nD) : FVec Ideal S16384x1024 .f32 :=
  Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

theorem resid_eq (c : Dev nD) (t : Fin cfg0.N) (r : Fin 512) (g : Fin 16384) (hg : g.val = 512 * t.val + r.val) (j : Fin 1024) :
    iblk m c 0 t (ix2 r j) = m ((c : Thread nD τ).loc main_arg0) (ix2 g j) := by
  blk_point [iblk, V, idx t]

theorem g4_eq (c : Dev nD) (t : Fin cfg0.N) (j : Fin 1024) : iblk m c 4 t (ix2 0 j) = m ((c : Thread nD τ).loc main_arg4) (ix1 j) := by
  blk_point [iblk, V, idx t]

theorem g5_eq (c : Dev nD) (t : Fin cfg0.N) (j : Fin 1024) : iblk m c 5 t (ix2 0 j) = m ((c : Thread nD τ).loc main_arg5) (ix1 j) := by
  blk_point [iblk, V, idx t]

theorem w6_eq (c : Dev nD) (t : Fin cfg0.N) (j : Fin 1024) (k : Fin 2816) : iblk m c 6 t (ix2 j k) = m ((c : Thread nD τ).loc main_arg6) (ix2 j k) := by
  blk_point [iblk, V, idx t]

theorem w7_eq (c : Dev nD) (t : Fin cfg0.N) (j : Fin 1024) (k : Fin 2816) : iblk m c 7 t (ix2 j k) = m ((c : Thread nD τ).loc main_arg7) (ix2 j k) := by
  blk_point [iblk, V, idx t]

theorem w8_eq (c : Dev nD) (t : Fin cfg0.N) (k : Fin 2816) (j : Fin 1024) : iblk m c 8 t (ix2 k j) = m ((c : Thread nD τ).loc main_arg8) (ix2 k j) := by
  blk_point [iblk, V, idx t]

theorem g9_eq (c : Dev nD) (t : Fin cfg0.N) (j : Fin 1024) : iblk m c 9 t (ix2 0 j) = m ((c : Thread nD τ).loc main_arg9) (ix1 j) := by
  blk_point [iblk, V, idx t]

theorem ya_eq (c : Dev nD) (t : Fin cfg0.N) (r : Fin 512) (g : Fin 16384) (hg : g.val = 512 * t.val + r.val) (j : Fin 256) :
    iblk m c 1 t (ix2 r j) = m ((c : Thread nD τ).loc main_arg1) (ix3 ⟨g.val / 2048, by omega⟩ ⟨g.val % 2048, by omega⟩ j) := by
  blk_point [iblk, V, idx t]

theorem yb_eq (c : Dev nD) (t : Fin cfg0.N) (r : Fin 512) (g : Fin 16384) (hg : g.val = 512 * t.val + r.val) (j : Fin 768) :
    iblk m c 2 t (ix2 r j) = m ((c : Thread nD τ).loc main_arg2) (ix3 ⟨g.val / 2048, by omega⟩ ⟨g.val % 2048, by omega⟩ j) := by
  blk_point [iblk, V, idx t]

theorem wa_eq (c : Dev nD) (t : Fin cfg0.N) (j : Fin 256) (e : Fin 1024) :
    View.ld (iblk m c 3 t) (Rect.unit ![0, 0] ![256, 1024] inb_S1024x1024_S256x1024_0_0) (ix2 j e)
      = m ((c : Thread nD τ).loc main_arg3) (ix2 ⟨j.val, by omega⟩ e) := by
  blk_point [iblk, V, idx t]

theorem wb_eq (c : Dev nD) (t : Fin cfg0.N) (j : Fin 768) (e : Fin 1024) :
    View.ld (iblk m c 3 t) (Rect.unit ![256, 0] ![768, 1024] inb_S1024x1024_S768x1024_256_0) (ix2 j e)
      = m ((c : Thread nD τ).loc main_arg3) (ix2 ⟨256 + j.val, by omega⟩ e) := by
  blk_point [iblk, V, idx t]

/-- One number of a block is the reference's number at its place in the array. -/
theorem point (c : Dev nD) (t : Fin cfg0.N) (r : Fin 512) (e : Fin 1024) (g : Fin 16384) (hg : g.val = 512 * t.val + r.val) :
    outsAt0 m c t (ix2 r e) = REF m c (ix2 g e) := by
  refine (out_at m c t r e).trans (Eq.trans ?_ (Cert.Reference3Ideal.Post.out_at _ _ _ _ _ _ _ _ _ _ g e).symm)
  unfold mix Cert.Reference3Ideal.Post.h1 Cert.Reference3Ideal.Post.mix
  simp only [resid_eq m c t r g hg, g4_eq, g5_eq, w6_eq, w7_eq, w8_eq, g9_eq, ya_eq m c t r g hg, yb_eq m c t r g hg, wa_eq, wb_eq]

/-- The call's array is the reference's. -/
theorem final (c : Dev nD) : (dats m 0 c).arrAt 10 (cfgs 0).N = REF m c := by
  refine (dats m 0 c).arrAt_eq_of_covers 10 _ (by decide +kernel) fun t _ y => ?_
  blk_simp
  rw [after0_10]
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point m c t ⟨_, h0⟩ (y 1) ⟨512 * t.val + (y 0).val, by omega⟩ rfl).trans ?_
  blk_ext [idx t]

end Cert.Kernel3Ideal.Post

namespace Cert.Proof.Post

theorem frameKernel : Cert.quiescent_Kernel3 := fun m ρ _ => Cert.Kernel3.Gen.frame m ρ

theorem frameKernelIdeal : Cert.quiescent_Kernel3Ideal := fun m ρ _ => Cert.Kernel3Ideal.Gen.frame m ρ

theorem frameReferenceIdeal : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m g m' g' _ hagree
  refine ⟨fun c => (Cert.Kernel3Ideal.Gen.dats m 0 c).arrAt 10 (Cert.Kernel3Ideal.cfgs 0).N, Cert.Kernel3Ideal.Value.run_blocks m g, ?_⟩
  refine (θ_run _ _ _).mono (fun r h c => ⟨?_, (h c).2⟩) (Cert.Reference3Ideal.Value.run (F := Ideal) m' g')
  refine (h c).1.trans ?_
  obtain ⟨e0, e1, e2, e3, e4, e5, e6, e7, e8, e9⟩ := hagree c
  rw [Cert.Reference3Ideal.Read.val_main_v49_eq m' c, e0, e1, e2, e3, e4, e5, e6, e7, e8, e9]
  exact (Cert.Kernel3Ideal.Post.final m c).symm

end Cert.Proof.Post

end
-- ==== Proof.Rotate.lean ====
/-
  The rotary embedding on a block of 128 lanes, two heads of 64 side by side, of which the first sixteen lanes turn: as the
  reference writes it, lane by lane, and as the kernels do it, by whole-block rotations against tables of cosines and signed sines.
-/
module

public import proofs.«01_k».proof.Proof.Layer
public import Idealize.ShloMosaic.Lib.Pipeline.ValueKit

@[expose] public section

noncomputable section

open Idealize.ShloMosaic

namespace Cert.Layer

/-- Lane `l` of a block after the turn by the eight angles whose cosines and sines are `cs` and `sn`. -/
def turn (cs sn : Fin 8 → EReal) (x : Fin 128 → EReal) (l : Fin 128) : EReal :=
  if h : l.val % 64 < 8 then x l * cs ⟨l.val % 64, h⟩ - x ⟨l.val / 64 * 64 + (8 + l.val % 64), by omega⟩ * sn ⟨l.val % 64, h⟩
  else if h : l.val % 64 - 8 < 8 then x l * cs ⟨l.val % 64 - 8, h⟩ + x ⟨l.val / 64 * 64 + (l.val % 64 - 8), by omega⟩ * sn ⟨l.val % 64 - 8, h⟩
  else x l

/-- A block times a table, plus the block rotated one way times another, plus the block rotated the other way times a third. -/
def lanes (C A B x : Fin 128 → EReal) (l : Fin 128) : EReal :=
  x l * C l + x ⟨(l.val + 128 - 120) % 128, Nat.mod_lt _ (by omega)⟩ * A l + x ⟨(l.val + 128 - 8) % 128, Nat.mod_lt _ (by omega)⟩ * B l

/-- Against the tables `[cos, cos, 1, …]`, `[-sin, 0, 0, …]`, `[0, sin, 0, …]` of either head the rotations make the turn. -/
theorem lanes_eq_turn (cs sn : Fin 8 → EReal) (C A B x : Fin 128 → EReal)
    (hC : ∀ l, C l = if h : l.val % 64 < 8 then cs ⟨l.val % 64, h⟩ else if h : l.val % 64 - 8 < 8 then cs ⟨l.val % 64 - 8, h⟩ else 1)
    (hA : ∀ l, A l = if h : l.val % 64 < 8 then -sn ⟨l.val % 64, h⟩ else 0)
    (hB : ∀ l, B l = if h : l.val % 64 < 8 then 0 else if h : l.val % 64 - 8 < 8 then sn ⟨l.val % 64 - 8, h⟩ else 0) (l : Fin 128) :
    lanes C A B x l = turn cs sn x l := by
  have hl := l.isLt
  unfold lanes turn
  rw [hC, hA, hB]
  by_cases h : l.val % 64 < 8
  · rw [dif_pos h, dif_pos h, dif_pos h, dif_pos h, mul_zero, add_zero, mul_neg, ← sub_eq_add_neg]
    congr 3
    exact Fin.ext (by show (l.val + 128 - 120) % 128 = l.val / 64 * 64 + (8 + l.val % 64); omega)
  · rw [dif_neg h, dif_neg h, dif_neg h, dif_neg h]
    by_cases h' : l.val % 64 - 8 < 8
    · rw [dif_pos h', dif_pos h', dif_pos h', mul_zero, add_zero]
      congr 3
      exact Fin.ext (by show (l.val + 128 - 8) % 128 = l.val / 64 * 64 + (l.val % 64 - 8); omega)
    · rw [dif_neg h', dif_neg h', dif_neg h', mul_zero, mul_zero, add_zero, add_zero, mul_one]

end Cert.Layer

end
-- ==== Proof.L0InRef.lean ====
/-
  The reference of the first projection, row by row: the token normalised and projected, the query and key columns turned by the
  rotary embedding (Proof/Rotate.lean), the queries scaled.
-/
module

public import proofs.«01_k».proof.Proof.Gen.Reference4Ideal.Read
public import proofs.«01_k».proof.Proof.Rotate

@[expose] public section

set_option maxRecDepth 16384

noncomputable section

open Idealize.ShloMosaic Idealize.ShloMosaic.TcCoe Idealize.SL.Sem
open Cert.Layer

namespace Cert.Layer

/-- The columns of a projected row `P`: the first 512 turned by `f` block by block and scaled by an eighth, the next 512 turned, the
    rest as they are. -/
def proj (f : (Fin 128 → EReal) → Fin 128 → EReal) (P : Fin 2560 → EReal) (c : Fin 2560) : EReal :=
  if h : c.val < 512 then f (fun l => P ⟨c.val / 128 * 128 + l.val, by omega⟩) ⟨c.val % 128, by omega⟩ * Ideal.ofBits .f32 0x3E000000#32
  else if h : c.val < 1024 then f (fun l => P ⟨c.val / 128 * 128 + l.val, by omega⟩) ⟨c.val % 128, by omega⟩
  else P c

end Cert.Layer

namespace Cert.Reference4Ideal.L0In
open Cert.Reference4Ideal Cert.Reference4Ideal.Gen Cert.Reference4Ideal.Read

variable (x0 : FVec Ideal S8x2048x1024 .f32) (x1 : FVec Ideal S1024 .f32) (x2 : FVec Ideal S1024x2560 .f32)

/-- Token `s` of sequence `b`, normalised and projected. -/
def row (b : Fin 8) (s : Fin 2048) (c : Fin 2560) : EReal :=
  dot (rms w1024 (fun j => x0 (ix3 b s j)) (fun j => x1 (ix1 j))) (fun j => x2 (ix2 j c))

theorem row_at (b : Fin 8) (s : Fin 2048) (c : Fin 2560) : val_main_v13 (F := Ideal) x0 x1 x2 (ix3 b s c) = row x0 x1 x2 b s c := by
  pointwise [val_main_v13, val_main_v12, val_main_v11,
    val_main_v10, val_main_v9, val_main_v8, val_main_v7, val_main_v6, val_main_v5, val_main_v4, val_main_v3, val_main_v2, val_main_v1, val_main_v0, val_main_cst, val_main_cst_0, val_main_cst_1]
  rfl

/-- The cosines and sines of token `s`. -/
abbrev cs (s : Fin 2048) (l : Fin 8) : EReal := val_main_v30 (F := Ideal) (ix2 s l)
abbrev sn (s : Fin 2048) (l : Fin 8) : EReal := val_main_v31 (F := Ideal) (ix2 s l)

/-- A turned block of a row of 512 columns, its lanes counted in the heads of 64. -/
theorem turn_cols (cs sn : Fin 8 → EReal) (P : Fin 512 → EReal) (c : Fin 512) :
    turn cs sn (fun l => P ⟨c.val / 128 * 128 + l.val, by omega⟩) ⟨c.val % 128, by omega⟩
      = if h : c.val % 64 < 8 then P c * cs ⟨c.val % 64, h⟩ - P ⟨c.val / 128 * 128 + c.val / 64 % 2 * 64 + (8 + c.val % 64), by omega⟩ * sn ⟨c.val % 64, h⟩
        else if h : c.val % 64 - 8 < 8 then P ⟨c.val / 128 * 128 + c.val / 64 % 2 * 64 + (8 + (c.val % 64 - 8)), by omega⟩ * cs ⟨c.val % 64 - 8, h⟩
          + P ⟨c.val / 128 * 128 + c.val / 64 % 2 * 64 + (c.val % 64 - 8), by omega⟩ * sn ⟨c.val % 64 - 8, h⟩
        else P ⟨c.val / 128 * 128 + c.val / 64 % 2 * 64 + (16 + (c.val % 64 - 8 - 8)), by omega⟩ := by
  have hc := c.isLt
  have e : c.val % 128 % 64 = c.val % 64 := by omega
  unfold turn
  simp only [e]
  by_cases h : c.val % 64 < 8
  · rw [dif_pos h, dif_pos h]
    congr 3 <;> exact Fin.ext (by dsimp only; omega)
  · rw [dif_neg h, dif_neg h]
    by_cases h' : c.val % 64 - 8 < 8
    · rw [dif_pos h', dif_pos h']
      congr 3 <;> exact Fin.ext (by dsimp only; omega)
    · rw [dif_neg h', dif_neg h']
      exact congrArg P (Fin.ext (by dsimp only; omega))

theorem q_at (b : Fin 8) (s : Fin 2048) (c : Fin 512) :
    val_main_v70 (F := Ideal) x0 x1 x2 (ix3 b s c)
      = turn (cs s) (sn s) (fun l => val_main_v13 (F := Ideal) x0 x1 x2 (ix3 b s ⟨c.val / 128 * 128 + l.val, by omega⟩)) ⟨c.val % 128, by omega⟩ * Ideal.ofBits .f32 0x3E000000#32 := by
  refine Eq.trans ?_ (congrArg (· * Ideal.ofBits .f32 0x3E000000#32)
    (turn_cols (cs s) (sn s) (fun k => val_main_v13 (F := Ideal) x0 x1 x2 (ix3 b s ⟨k.val, by omega⟩)) c).symm)
  pointwise [val_main_v70, val_main_v51, val_main_v50, val_main_cst_6, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32]

theorem k_at (b : Fin 8) (s : Fin 2048) (c : Fin 512) :
    val_main_v71 (F := Ideal) x0 x1 x2 (ix3 b s c)
      = turn (cs s) (sn s) (fun l => val_main_v13 (F := Ideal) x0 x1 x2 (ix3 b s ⟨512 + (c.val / 128 * 128 + l.val), by omega⟩)) ⟨c.val % 128, by omega⟩ := by
  refine Eq.trans ?_ (turn_cols (cs s) (sn s) (fun k => val_main_v13 (F := Ideal) x0 x1 x2 (ix3 b s ⟨512 + k.val, by omega⟩)) c).symm
  pointwise [val_main_v71, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52]

/-- The reference's row. -/
theorem out_at (r : Fin 16384) (c : Fin 2560) :
    val_main_v75 (F := Ideal) x0 x1 x2 (ix2 r c)
      = proj (turn (cs ⟨r.val % 2048, by omega⟩) (sn ⟨r.val % 2048, by omega⟩)) (row x0 x1 x2 ⟨r.val / 2048, by omega⟩ ⟨r.val % 2048, by omega⟩) c := by
  have hc := c.isLt
  rw [show row x0 x1 x2 ⟨r.val / 2048, by omega⟩ ⟨r.val % 2048, by omega⟩
    = fun c => val_main_v13 (F := Ideal) x0 x1 x2 (ix3 ⟨r.val / 2048, by omega⟩ ⟨r.val % 2048, by omega⟩ c) from funext fun c => (row_at x0 x1 x2 _ _ c).symm]
  pointwise [val_main_v75, val_main_v74, val_main_v73, val_main_v72]
  unfold proj
  by_cases h : c.val < 512
  · rw [dif_pos h, dif_pos h, q_at]
  · rw [dif_neg h, dif_neg h]
    by_cases h' : c.val < 1024
    · rw [dif_pos (by omega), dif_pos h', k_at]
      congr 2
      · funext l
        exact congrArg _ (congrArg _ (Fin.ext (by dsimp only; omega)))
      · show (c.val - 512) % 128 = c.val % 128
        omega
    · rw [dif_neg (by omega), dif_neg h']
      exact congrArg _ (congrArg _ (Fin.ext (by dsimp only; omega)))

end Cert.Reference4Ideal.L0In

end
-- ==== Proof.L0InValue.lean ====
/-
  The first projection, row by row: what the body leaves at a row of its block is the row normalised, projected and turned
  (Proof/L0InRef.lean), the turn made by rotations of blocks of 128 lanes (Proof/Rotate.lean).
-/
module

public import proofs.«01_k».proof.Proof.Gen.Kernel4Ideal.Value
public import proofs.«01_k».proof.Proof.L0InRef
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)
open Cert.Layer

namespace Cert.Kernel4Ideal.L0In
open Cert.Kernel4Ideal Cert.Kernel4Ideal.Gen

/-- The projected row. -/
theorem row_at (v0 : Vec Ideal S512x1024 .f32) (v2 : Vec Ideal S1x1024 .f32) (v17 : Vec Ideal S1024x2560 .bf16) (r : Fin 512) (c : Fin 2560) :
    k0_pay1 v0 v2 v17 (ix2 r c) = dot (rms w1024 (fun j => v0 (ix2 r j)) (fun j => v2 (ix2 0 j))) (fun j => v17 (ix2 j c)) := by
  pointwise [k0_pay1]
  rfl

theorem pay5_at (v0 : Vec Ideal S512x1024 .f32) (v2 : Vec Ideal S1x1024 .f32) (v17 : Vec Ideal S1024x2560 .bf16) (C A B : Vec Ideal S512x128 .f32) (r : Fin 512) (l : Fin 128) :
    k0_pay5 v0 v2 v17 C A B (ix2 r l) = lanes (fun l => C (ix2 r l)) (fun l => A (ix2 r l)) (fun l => B (ix2 r l)) (fun l => k0_pay1 v0 v2 v17 (ix2 r ⟨0 + l.val, by omega⟩)) l * Ideal.ofBits .f32 0x3E000000#32 := by
  unfold lanes
  simp only [Nat.zero_add]
  pointwise [k0_pay5, k0_pay2, k0_pay3, k0_pay4]

theorem pay6_at (P : FVec Ideal S512x2560 .f32) (C A B : FVec Ideal S512x128 .f32) (r : Fin 512) (l : Fin 128) :
    k0_pay6 P C A B (ix2 r l) = lanes (fun l => C (ix2 r l)) (fun l => A (ix2 r l)) (fun l => B (ix2 r l)) (fun l => P (ix2 r ⟨128 + l.val, by omega⟩)) l * Ideal.ofBits .f32 0x3E000000#32 := by
  unfold lanes
  pointwise [k0_pay6]

theorem pay7_at (P : FVec Ideal S512x2560 .f32) (C A B : FVec Ideal S512x128 .f32) (r : Fin 512) (l : Fin 128) :
    k0_pay7 P C A B (ix2 r l) = lanes (fun l => C (ix2 r l)) (fun l => A (ix2 r l)) (fun l => B (ix2 r l)) (fun l => P (ix2 r ⟨256 + l.val, by omega⟩)) l * Ideal.ofBits .f32 0x3E000000#32 := by
  unfold lanes
  pointwise [k0_pay7]

theorem pay8_at (P : FVec Ideal S512x2560 .f32) (C A B : FVec Ideal S512x128 .f32) (r : Fin 512) (l : Fin 128) :
    k0_pay8 P C A B (ix2 r l) = lanes (fun l => C (ix2 r l)) (fun l => A (ix2 r l)) (fun l => B (ix2 r l)) (fun l => P (ix2 r ⟨384 + l.val, by omega⟩)) l * Ideal.ofBits .f32 0x3E000000#32 := by
  unfold lanes
  pointwise [k0_pay8]

theorem pay12_at (P : FVec Ideal S512x2560 .f32) (C A B : FVec Ideal S512x128 .f32) (r : Fin 512) (l : Fin 128) :
    k0_pay12 B (k0_pay9 P) (k0_pay10 P C) (k0_pay11 P A) (ix2 r l) = lanes (fun l => C (ix2 r l)) (fun l => A (ix2 r l)) (fun l => B (ix2 r l)) (fun l => P (ix2 r ⟨512 + l.val, by omega⟩)) l := by
  unfold lanes
  pointwise [k0_pay12, k0_pay9, k0_pay10, k0_pay11]

theorem pay13_at (P : FVec Ideal S512x2560 .f32) (C A B : FVec Ideal S512x128 .f32) (r : Fin 512) (l : Fin 128) :
    k0_pay13 P C A B (ix2 r l) = lanes (fun l => C (ix2 r l)) (fun l => A (ix2 r l)) (fun l => B (ix2 r l)) (fun l => P (ix2 r ⟨640 + l.val, by omega⟩)) l := by
  unfold lanes
  pointwise [k0_pay13]

theorem pay14_at (P : FVec Ideal S512x2560 .f32) (C A B : FVec Ideal S512x128 .f32) (r : Fin 512) (l : Fin 128) :
    k0_pay14 P C A B (ix2 r l) = lanes (fun l => C (ix2 r l)) (fun l => A (ix2 r l)) (fun l => B (ix2 r l)) (fun l => P (ix2 r ⟨768 + l.val, by omega⟩)) l := by
  unfold lanes
  pointwise [k0_pay14]

theorem pay15_at (P : FVec Ideal S512x2560 .f32) (C A B : FVec Ideal S512x128 .f32) (r : Fin 512) (l : Fin 128) :
    k0_pay15 P C A B (ix2 r l) = lanes (fun l => C (ix2 r l)) (fun l => A (ix2 r l)) (fun l => B (ix2 r l)) (fun l => P (ix2 r ⟨896 + l.val, by omega⟩)) l := by
  unfold lanes
  pointwise [k0_pay15]

theorem pay16_at (P : FVec Ideal S512x2560 .f32) (r : Fin 512) (l : Fin 1536) : k0_pay16 P (ix2 r l) = P (ix2 r ⟨1024 + l.val, by omega⟩) := by
  pointwise [k0_pay16]

theorem pay_table (T : Vec Ideal S512x128 .f32) : k0_pay2 T = T ∧ k0_pay3 T = T ∧ k0_pay4 T = T := by
  refine ⟨?_, ?_, ?_⟩ <;> exact shapeCast_self _ _

/-! The columns of the output, piece by piece. -/

theorem proj_q (f : (Fin 128 → EReal) → Fin 128 → EReal) (P : Fin 2560 → EReal) (o : ℕ) (ho : o % 128 = 0) (ho' : o + 128 ≤ 512) (l : Fin 128) :
    proj f P ⟨o + l.val, by omega⟩ = f (fun l => P ⟨o + l.val, by omega⟩) l * Ideal.ofBits .f32 0x3E000000#32 := by
  have hl := l.isLt
  unfold proj
  rw [dif_pos (by dsimp only; omega)]
  have e1 : (o + l.val) / 128 * 128 = o := by omega
  have e2 : (⟨(o + l.val) % 128, by omega⟩ : Fin 128) = l := Fin.ext (by dsimp only; omega)
  dsimp only
  simp only [e1, e2]

theorem proj_k (f : (Fin 128 → EReal) → Fin 128 → EReal) (P : Fin 2560 → EReal) (o : ℕ) (ho : o % 128 = 0) (h1 : 512 ≤ o) (h2 : o + 128 ≤ 1024) (l : Fin 128) :
    proj f P ⟨o + l.val, by omega⟩ = f (fun l => P ⟨o + l.val, by omega⟩) l := by
  have hl := l.isLt
  unfold proj
  rw [dif_neg (by dsimp only; omega), dif_pos (by dsimp only; omega)]
  have e1 : (o + l.val) / 128 * 128 = o := by omega
  have e2 : (⟨(o + l.val) % 128, by omega⟩ : Fin 128) = l := Fin.ext (by dsimp only; omega)
  dsimp only
  simp only [e1, e2]

theorem proj_v (f : (Fin 128 → EReal) → Fin 128 → EReal) (P : Fin 2560 → EReal) (l : Fin 1536) :
    proj f P ⟨1024 + l.val, by omega⟩ = P ⟨1024 + l.val, by omega⟩ := by
  unfold proj
  rw [dif_neg (by dsimp only; omega), dif_neg (by dsimp only; omega)]

/-- A block of the output, from its projected rows and its tables. -/
def block (P : FVec Ideal S512x2560 .f32) (C A B : FVec Ideal S512x128 .f32) : Vec Ideal S512x2560 .bf16 :=
  fun y => proj (lanes (fun l => C (ix2 (y 0) l)) (fun l => A (ix2 (y 0) l)) (fun l => B (ix2 (y 0) l))) (fun j => P (ix2 (y 0) j)) (y 1)

theorem block_at (P : FVec Ideal S512x2560 .f32) (C A B : FVec Ideal S512x128 .f32) (r : Fin 512) (c : Fin 2560) :
    block P C A B (ix2 r c) = proj (lanes (fun l => C (ix2 r l)) (fun l => A (ix2 r l)) (fun l => B (ix2 r l))) (fun j => P (ix2 r j)) c := rfl

/-- A piece of whole rows holds what `G` says when it does so number by number. -/
theorem tile {n o : ℕ} (inb : ∀ a, (![0, o] : Fin 2 → ℕ) a + (![512, n] : Fin 2 → ℕ) a ≤ S512x2560.size a)
    (G : Vec Ideal S512x2560 .bf16) (P : (Rect.unit (s := S512x2560) ![0, o] ![512, n] inb).shape.Idx → EReal)
    (hP : ∀ (a : Fin 512) (b : Fin n), P (ix2 a b) = G (ix2 a (⟨o + b.val, Nat.lt_of_lt_of_le (Nat.add_lt_add_left b.isLt o) (inb 1)⟩ : Fin 2560)))
    (x : (Rect.unit (s := S512x2560) ![0, o] ![512, n] inb).shape.Idx) :
    P x = G ((Rect.unit (s := S512x2560) ![0, o] ![512, n] inb).emb x) := by
  have ho : o + n ≤ 2560 := inb 1
  have h0 : (x 0).val < 512 := (x 0).isLt
  have h1 : (x 1).val < n := (x 1).isLt
  have hx : x = ix2 (⟨(x 0).val, h0⟩ : Fin 512) (⟨(x 1).val, h1⟩ : Fin n) := funext fun a => Fin.ext (by match a with | ⟨0, _⟩ => rfl | ⟨1, _⟩ => rfl)
  have e : (Rect.unit (s := S512x2560) ![0, o] ![512, n] inb).emb x = ix2 (⟨(x 0).val, h0⟩ : Fin 512) (⟨o + (x 1).val, by omega⟩ : Fin 2560) :=
    funext fun a => Fin.ext (by
      match a with
      | ⟨0, _⟩ => show 0 + 1 * (x 0).val = (x 0).val; omega
      | ⟨1, _⟩ => show o + 1 * (x 1).val = o + (x 1).val; omega)
  have := hP ⟨(x 0).val, h0⟩ ⟨(x 1).val, h1⟩
  rw [← hx] at this
  rw [e]
  exact this

theorem tile_q {o : ℕ} (inb : ∀ a, (![0, o] : Fin 2 → ℕ) a + (![512, 128] : Fin 2 → ℕ) a ≤ S512x2560.size a) (ho : o % 128 = 0) (ho' : o + 128 ≤ 512)
    (P : FVec Ideal S512x2560 .f32) (C A B : FVec Ideal S512x128 .f32) (X : (Rect.unit (s := S512x2560) ![0, o] ![512, 128] inb).shape.Idx → EReal)
    (hX : ∀ (r : Fin 512) (l : Fin 128), X (ix2 r l)
      = lanes (fun l => C (ix2 r l)) (fun l => A (ix2 r l)) (fun l => B (ix2 r l)) (fun l => P (ix2 r ⟨o + l.val, by omega⟩)) l * Ideal.ofBits .f32 0x3E000000#32)
    (x : (Rect.unit (s := S512x2560) ![0, o] ![512, 128] inb).shape.Idx) :
    X x = block P C A B ((Rect.unit (s := S512x2560) ![0, o] ![512, 128] inb).emb x) :=
  tile inb _ X (fun r l => (hX r l).trans (proj_q _ (fun j => P (ix2 r j)) o ho ho' l).symm) x

theorem tile_k {o : ℕ} (inb : ∀ a, (![0, o] : Fin 2 → ℕ) a + (![512, 128] : Fin 2 → ℕ) a ≤ S512x2560.size a) (ho : o % 128 = 0) (h1 : 512 ≤ o) (h2 : o + 128 ≤ 1024)
    (P : FVec Ideal S512x2560 .f32) (C A B : FVec Ideal S512x128 .f32) (X : (Rect.unit (s := S512x2560) ![0, o] ![512, 128] inb).shape.Idx → EReal)
    (hX : ∀ (r : Fin 512) (l : Fin 128), X (ix2 r l)
      = lanes (fun l => C (ix2 r l)) (fun l => A (ix2 r l)) (fun l => B (ix2 r l)) (fun l => P (ix2 r ⟨o + l.val, by omega⟩)) l)
    (x : (Rect.unit (s := S512x2560) ![0, o] ![512, 128] inb).shape.Idx) :
    X x = block P C A B ((Rect.unit (s := S512x2560) ![0, o] ![512, 128] inb).emb x) :=
  tile inb _ X (fun r l => (hX r l).trans (proj_k _ (fun j => P (ix2 r j)) o ho h1 h2 l).symm) x

variable (m : (ℓ : Loc nD τ sig) → Buf (Elt Ideal) ℓ)

/-- What the body leaves at row `r` of its block, over the block's inputs. -/
theorem out_at (c : Dev nD) (t : Fin cfg0.N) (r : Fin 512) (e : Fin 2560) : outsAt0 m c t (ix2 r e)
    = proj (lanes (fun l => iblk m c 3 t (ix2 r l)) (fun l => iblk m c 4 t (ix2 r l)) (fun l => iblk m c 5 t (ix2 r l)))
      (fun k => dot (rms w1024 (fun j => iblk m c 0 t (ix2 r j)) (fun j => iblk m c 1 t (ix2 0 j))) (fun j => iblk m c 2 t (ix2 j k))) e := by
  unfold outsAt0
  frame_out
  generalize iblk m c 0 t = X0
  generalize iblk m c 1 t = X1
  generalize iblk m c 2 t = X2
  generalize iblk m c 3 t = C
  generalize iblk m c 4 t = A
  generalize iblk m c 5 t = B
  rw [(pay_table C).1, (pay_table A).2.1, (pay_table B).2.2]
  refine (View.canon_apply_of_pieces (block (k0_pay1 X0 X1 X2) C A B) _ ?_ _ (View.cover_of_tiledBy _ ![512, 128] (by sl_kernel_rfl) _)).trans ?_
  · refine List.forall_mem_cons.2 ⟨tile inb_S512x2560_S512x1536_0_1024 _ _ fun r l => (pay16_at _ r l).trans (proj_v _ (fun j => k0_pay1 X0 X1 X2 (ix2 r j)) l).symm, List.forall_mem_cons.2 ⟨tile_k inb_S512x2560_S512x128_0_896 (by omega) (by omega) (by omega) _ _ _ _ _ (pay15_at _ _ _ _),
      List.forall_mem_cons.2 ⟨tile_k inb_S512x2560_S512x128_0_768 (by omega) (by omega) (by omega) _ _ _ _ _ (pay14_at _ _ _ _), List.forall_mem_cons.2 ⟨tile_k inb_S512x2560_S512x128_0_640 (by omega) (by omega) (by omega) _ _ _ _ _ (pay13_at _ _ _ _),
      List.forall_mem_cons.2 ⟨tile_k inb_S512x2560_S512x128_0_512 (by omega) (by omega) (by omega) _ _ _ _ _ (pay12_at _ _ _ _), List.forall_mem_cons.2 ⟨tile_q inb_S512x2560_S512x128_0_384 (by omega) (by omega) _ _ _ _ _ (pay8_at _ _ _ _),
      List.forall_mem_cons.2 ⟨tile_q inb_S512x2560_S512x128_0_256 (by omega) (by omega) _ _ _ _ _ (pay7_at _ _ _ _), List.forall_mem_cons.2 ⟨tile_q inb_S512x2560_S512x128_0_128 (by omega) (by omega) _ _ _ _ _ (pay6_at _ _ _ _),
      List.forall_mem_cons.2 ⟨tile_q inb_S512x2560_S512x128_0_0 (by omega) (by omega) _ _ _ _ _ (pay5_at _ _ _ _ _ _), fun p hp => absurd hp List.not_mem_nil⟩⟩⟩⟩⟩⟩⟩⟩⟩
  · rw [block_at]
    simp only [row_at]

end Cert.Kernel4Ideal.L0In

end
-- ==== Proof.L0InClaim.lean ====
/-
  The first projection over all its blocks: the array it leaves is the reference's (Proof/L0InRef.lean), and the claims about it.
-/
module

public import proofs.«01_k».proof.Defs
public import proofs.«01_k».proof.Proof.L0InValue
public import proofs.«01_k».proof.Proof.Gen.Kernel4.Frame
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Layer

namespace Cert.Kernel4Ideal.L0In
open Cert.Kernel4Ideal Cert.Kernel4Ideal.Gen

variable (m : (ℓ : Loc nD τ sig) → Buf (Elt Ideal) ℓ)

/-- Where each window's block lies: tokens by rows of 512, the tables by the row within the sequence, the weights whole. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val % 4, 0] ∧ win0_6.index t = ![t.val, 0] :=
  (by decide +kernel : ∀ t : Fin grid0.N, _)

/-- The reference's array from the call's arguments. -/
abbrev REF (c : Dev nD) : FVec Ideal S16384x2560 .bf16 :=
  Cert.Reference4Ideal.Read.val_main_v75 (F := Ideal) (m ((c : Thread nD τ).loc main_arg0)) (m ((c : Thread nD τ).loc main_arg1)) (m ((c : Thread nD τ).loc main_arg2))

/-! The host's tables: the cosines and signed sines of the eight angles laid along each head's 64 lanes, twice. -/

abbrev COS : FVec Ideal S2048x8 .f32 := Cert.Reference4Ideal.Read.val_main_v30 (F := Ideal)
abbrev SIN : FVec Ideal S2048x8 .f32 := Cert.Reference4Ideal.Read.val_main_v31 (F := Ideal)

/-- A table of 64 lanes laid twice side by side. -/
abbrev twice (T : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 T shapeCasts_S2048x64_S1x2048x1x64))
    shapeCasts_S1x2048x2x64_S2048x128

abbrev three (X Y : FVec Ideal S2048x8 .f32) (Z : FVec Ideal S2048x48 .f32) : FVec Ideal S2048x64 .f32 :=
  concatenate S2048x64 1 [⟨S2048x8, X⟩, ⟨S2048x8, Y⟩, ⟨S2048x48, Z⟩] concatenates_S2048x8_S2048x8_S2048x48_S2048x64_d1

abbrev full8 (w : BitVec 32) : FVec Ideal S2048x8 .f32 := broadcastInDim S2048x8 ![] bcast_S_S2048x8 (constant (F := Ideal) S_ .f32 w)
abbrev full48 (w : BitVec 32) : FVec Ideal S2048x48 .f32 := broadcastInDim S2048x48 ![] bcast_S_S2048x48 (constant (F := Ideal) S_ .f32 w)

theorem one : Ideal.ofBits .f32 0x3F800000#32 = 1 := by
  simp [Ideal.ofBits, Ideal.ieee]
  rw [← EReal.coe_mul]
  norm_num

theorem table_cos (X : FVec Ideal S2048x8 .f32) (s : Fin 2048) (l : Fin 128) : twice (three X X (full48 0x3F800000#32)) (ix2 s l)
    = if h : l.val % 64 < 8 then X (ix2 s ⟨l.val % 64, h⟩) else if h : l.val % 64 - 8 < 8 then X (ix2 s ⟨l.val % 64 - 8, h⟩) else (1 : EReal) := by
  rw [← one]
  pointwise

theorem table_sub (X : FVec Ideal S2048x8 .f32) (s : Fin 2048) (l : Fin 128) :
    twice (three (Host.negf (F := Ideal) X) (full8 0x00000000#32) (full48 0x00000000#32)) (ix2 s l)
      = if h : l.val % 64 < 8 then -(X (ix2 s ⟨l.val % 64, h⟩) : EReal) else (0 : EReal) := by
  pointwise
  simp

theorem table_add (X : FVec Ideal S2048x8 .f32) (s : Fin 2048) (l : Fin 128) :
    twice (three (full8 0x00000000#32) X (full48 0x00000000#32)) (ix2 s l)
      = if h : l.val % 64 < 8 then (0 : EReal) else if h : l.val % 64 - 8 < 8 then X (ix2 s ⟨l.val % 64 - 8, h⟩) else (0 : EReal) := by
  pointwise

theorem flat_resid (X : FVec Ideal S8x2048x1024 .f32) (g : Fin 16384) (j : Fin 1024) :
    shapeCast S16384x1024 X shapeCasts_S8x2048x1024_S16384x1024 (ix2 g j) = X (ix3 ⟨g.val / 2048, by omega⟩ ⟨g.val % 2048, by omega⟩ j) := by
  pointwise

/-! What the host code hands the call. -/

theorem V_v24 (c : Dev nD) : V m c main_v24 = twice (three COS COS (full48 0x3F800000#32)) := by
  unfold V
  rfl

theorem V_v29 (c : Dev nD) : V m c main_v29 = twice (three (Host.negf (F := Ideal) SIN) (full8 0x00000000#32) (full48 0x00000000#32)) := by
  unfold V
  rfl

theorem V_v33 (c : Dev nD) : V m c main_v33 = twice (three (full8 0x00000000#32) SIN (full48 0x00000000#32)) := by
  unfold V
  rfl

theorem V_v34 (c : Dev nD) : V m c main_v34 = shapeCast S16384x1024 (m ((c : Thread nD τ).loc main_arg0)) shapeCasts_S8x2048x1024_S16384x1024 := by
  unfold V
  rfl

theorem V_v35 (c : Dev nD) : V m c main_v35 = shapeCast S1x1024 (m ((c : Thread nD τ).loc main_arg1)) shapeCasts_S1024_S1x1024 := by
  unfold V
  rfl

theorem V_v36 (c : Dev nD) : V m c main_v36 = truncf (F := Ideal) .bf16 (m ((c : Thread nD τ).loc main_arg2)) bitsLt_bf16_f32 := by
  unfold V
  rfl

theorem x_eq (c : Dev nD) (t : Fin cfg0.N) (r : Fin 512) (g : Fin 16384) (hg : g.val = 512 * t.val + r.val) (j : Fin 1024) :
    iblk m c 0 t (ix2 r j) = m ((c : Thread nD τ).loc main_arg0) (ix3 ⟨g.val / 2048, by omega⟩ ⟨g.val % 2048, by omega⟩ j) := by
  have e : (win0_0.blk t).view.emb (ix2 r j) = ix2 g j := by
    blk_ext [idx t]
  show V m c main_v34 ((win0_0.blk t).view.emb (ix2 r j)) = _
  rw [e, V_v34]
  exact flat_resid _ _ _

theorem g_eq (c : Dev nD) (t : Fin cfg0.N) (j : Fin 1024) : iblk m c 1 t (ix2 0 j) = m ((c : Thread nD τ).loc main_arg1) (ix1 j) := by
  blk_simp [iblk, idx t]
  rw [V_v35]
  pointwise
  blk_ext [idx t]

theorem w_eq (c : Dev nD) (t : Fin cfg0.N) (j : Fin 1024) (k : Fin 2560) : iblk m c 2 t (ix2 j k) = m ((c : Thread nD τ).loc main_arg2) (ix2 j k) := by
  blk_simp [iblk, idx t]
  rw [V_v36]
  pointwise
  blk_ext [idx t]

theorem c_eq (c : Dev nD) (t : Fin cfg0.N) (r : Fin 512) (g : Fin 16384) (hg : g.val = 512 * t.val + r.val) (l : Fin 128) :
    iblk m c 3 t (ix2 r l) = twice (three COS COS (full48 0x3F800000#32)) (ix2 ⟨g.val % 2048, by omega⟩ l) := by
  have e : (win0_3.blk t).view.emb (ix2 r l) = ix2 (⟨g.val % 2048, by omega⟩ : Fin 2048) l := by
    blk_ext [idx t]
  show V m c main_v24 ((win0_3.blk t).view.emb (ix2 r l)) = _
  rw [e, V_v24]

theorem a_eq (c : Dev nD) (t : Fin cfg0.N) (r : Fin 512) (g : Fin 16384) (hg : g.val = 512 * t.val + r.val) (l : Fin 128) :
    iblk m c 4 t (ix2 r l) = twice (three (Host.negf (F := Ideal) SIN) (full8 0x00000000#32) (full48 0x00000000#32)) (ix2 ⟨g.val % 2048, by omega⟩ l) := by
  have e : (win0_4.blk t).view.emb (ix2 r l) = ix2 (⟨g.val % 2048, by omega⟩ : Fin 2048) l := by
    blk_ext [idx t]
  show V m c main_v29 ((win0_4.blk t).view.emb (ix2 r l)) = _
  rw [e, V_v29]

theorem b_eq (c : Dev nD) (t : Fin cfg0.N) (r : Fin 512) (g : Fin 16384) (hg : g.val = 512 * t.val + r.val) (l : Fin 128) :
    iblk m c 5 t (ix2 r l) = twice (three (full8 0x00000000#32) SIN (full48 0x00000000#32)) (ix2 ⟨g.val % 2048, by omega⟩ l) := by
  have e : (win0_5.blk t).view.emb (ix2 r l) = ix2 (⟨g.val % 2048, by omega⟩ : Fin 2048) l := by
    blk_ext [idx t]
  show V m c main_v33 ((win0_5.blk t).view.emb (ix2 r l)) = _
  rw [e, V_v33]

/-- One number of a block is the reference's number at its place in the array. -/
theorem point (c : Dev nD) (t : Fin cfg0.N) (r : Fin 512) (e : Fin 2560) (g : Fin 16384) (hg : g.val = 512 * t.val + r.val) :
    outsAt0 m c t (ix2 r e) = REF m c (ix2 g e) := by
  refine (out_at m c t r e).trans (Eq.trans ?_ (Cert.Reference4Ideal.L0In.out_at _ _ _ g e).symm)
  have hl : lanes (fun l => iblk m c 3 t (ix2 r l)) (fun l => iblk m c 4 t (ix2 r l)) (fun l => iblk m c 5 t (ix2 r l))
      = turn (Cert.Reference4Ideal.L0In.cs ⟨g.val % 2048, by omega⟩) (Cert.Reference4Ideal.L0In.sn ⟨g.val % 2048, by omega⟩) :=
    funext fun x => funext fun l => lanes_eq_turn _ _ _ _ _ x (fun l => (c_eq m c t r g hg l).trans (table_cos _ _ l))
      (fun l => (a_eq m c t r g hg l).trans (table_sub _ _ l)) (fun l => (b_eq m c t r g hg l).trans (table_add _ _ l)) l
  rw [hl]
  unfold Cert.Reference4Ideal.L0In.row
  simp only [x_eq m c t r g hg, g_eq, w_eq]

/-- The call's array is the reference's. -/
theorem final (c : Dev nD) : (dats m 0 c).arrAt 6 (cfgs 0).N = REF m c := by
  refine (dats m 0 c).arrAt_eq_of_covers 6 _ (by decide +kernel) fun t _ y => ?_
  blk_simp
  rw [after0_6]
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point m c t ⟨_, h0⟩ (y 1) ⟨512 * t.val + (y 0).val, by omega⟩ rfl).trans ?_
  blk_ext [idx t]

end Cert.Kernel4Ideal.L0In

namespace Cert.Proof.L0In

theorem frameKernel : Cert.quiescent_Kernel4 := fun m ρ _ => Cert.Kernel4.Gen.frame m ρ

theorem frameKernelIdeal : Cert.quiescent_Kernel4Ideal := fun m ρ _ => Cert.Kernel4Ideal.Gen.frame m ρ

theorem frameReferenceIdeal : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic : Cert.algebraic_Kernel4Ideal_Reference4Ideal := by
  intro m g m' g' _ hagree
  refine ⟨fun c => (Cert.Kernel4Ideal.Gen.dats m 0 c).arrAt 6 (Cert.Kernel4Ideal.cfgs 0).N, Cert.Kernel4Ideal.Value.run_blocks m g, ?_⟩
  refine (θ_run _ _ _).mono (fun r h c => ⟨?_, (h c).2⟩) (Cert.Reference4Ideal.Value.run (F := Ideal) m' g')
  refine (h c).1.trans ?_
  obtain ⟨e0, e1, e2⟩ := hagree c
  rw [Cert.Reference4Ideal.Read.val_main_v75_eq m' c, e0, e1, e2]
  exact (Cert.Kernel4Ideal.L0In.final m c).symm

end Cert.Proof.L0In

end
-- ==== Proof.Halves.lean ====
/-
  A scratch buffer of two halves, written half by half: a load of the half written last reads what was written, a load
  of the other half reads what lay there before, and a load of a half after a store of the whole reads that half of
  the stored array.
-/
module

public import Idealize.ShloMosaic.Lib.Pipeline.ValueKit
public import Idealize.ShloMosaic.Lib.VecWindow
public import Idealize.ShloMosaic.Lib.WritesUnit

@[expose] public section

noncomputable section

namespace Cert.Halves

open Idealize.ShloMosaic Idealize.ShloMosaic.View

variable {sig : RefSig} {κ : Kind} {sp : Space} {s : Shape} {e : EltTy} {Val : EltTy → Type}

/-- The half written last, read back. -/
theorem readAt_same (v : View sig κ sp s e) (f : v.ty.Contents Val) (r : Rect s) (w : r.shape.Idx → Val e) (L : List (Piece Val s e)) :
    v.readAt Val r.toLoadRect (v.writes Val f (⟨r, w⟩ :: L)) = w :=
  funext fun x => read_writes_cons_emb v f r w L x

/-- The other half, read: the last store is not seen. -/
theorem readAt_skip (v : View sig κ sp s e) (f : v.ty.Contents Val) {off off' size size' : Fin s.rank → ℕ}
    (inb : ∀ a, off a + size a ≤ s.size a) (inb' : ∀ a, off' a + size' a ≤ s.size a)
    (w : (Rect.unit off size inb).shape.Idx → Val e) (L : List (Piece Val s e)) (a : Fin s.rank)
    (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) :=
  funext fun x => read_writes_cons_unit_of_not_mem v f inb w L ((Rect.unit off' size' inb').idx x) rfl a (by
    have hx : (x a).val < size' a := (x a).isLt
    have e : (((Rect.unit off' size' inb').idx x) a).val = off' a + 1 * (x a).val := rfl
    omega)

/-- A half read after a store of the whole. -/
theorem readAt_fill (v : View sig κ sp s e) (f : v.ty.Contents Val) {off : Fin s.rank → ℕ} (inb : ∀ a, off a + s.size a ≤ s.size a)
    (w : s.Idx → Val e) (L : List (Piece Val s e)) (r : Rect s) :
    v.readAt Val r.toLoadRect (v.writes Val f (⟨Rect.unit off s.size inb, w⟩ :: L)) = ld w r :=
  (readAt_eq_ld v _ r).trans (by rw [read_writes_full])

end Cert.Halves
end
-- ==== Proof.DiffTrip.lean ====
/-
  The differential attention kernel's loop over key blocks. The three scratch buffers hold two states, one per score
  map; a state is a running maximum, a running sum of weights and a running weighted sum of values (`St`). One trip of
  the loop is one unmasked key block folded into both states (`trip_eq`), the loop is as many steps as trips
  (`loop_eq`), and the body writes the result of both states after the masked diagonal block (`out_eq`).
-/
module

public import proofs.«01_k».proof.Proof.Gen.Kernel5Ideal.Value
public import proofs.«01_k».proof.Proof.Halves
public import Idealize.ShloMosaic.Lib.LoopRemainder

@[expose] public section

set_option maxRecDepth 16384

noncomputable section

namespace Cert.Kernel5Ideal.Diff

open Cert.Kernel5Ideal Cert.Kernel5Ideal.Gen Idealize.ShloMosaic Idealize.ShloMosaic.TcCoe Idealize.SL.Sem

variable {F : FTy → Type} [FloatOps F]
variable (𝒱 : Variants) (c : Dev nD) (bd : Option 𝒱.V) (i : grid0.Coords)
  (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
  (w2 : BitVec 32) (q0 q1 : FVec F S256x128 .bf16) (wa wb : BitVec 32)

theorem hz : (![0, 0, 0] : Fin 3 → Nat) = fun _ => 0 := funext fun a => by fin_cases a <;> rfl

/-- The running maximum, the running sum of weights and the running weighted sum of values of one score map. -/
abbrev St (F : FTy → Type) : Type := Vec F S1x256x1 .f32 × Vec F S1x256x1 .f32 × Vec F S1x256x128 .f32

/-- One unmasked key block folded into the state. -/
def stepU (q : FVec F S256x128 .bf16) (k v : Vec F S1x256x128 .bf16) (s : St F) : St F :=
  (k0_pay12 (k0_pay6 q k s.1), k0_pay9 q k s.1 s.2.1, k0_pay11 (k0_pay10 q k v s.1 s.2.2))

/-- The mask of the diagonal block. -/
def maskD : IVec S256x256 1 := k0_pay53 k0_pay50 (iota .tc S256x256 32 [1] iota_S256x256_d1_w32) 64#32 k0_pay51 k0_pay52

/-- The diagonal key block, masked, folded into the state. -/
def stepM (q : FVec F S256x128 .bf16) (k v : Vec F S1x256x128 .bf16) (s : St F) : St F :=
  (k0_pay71 (k0_pay65 q (k0_pay48 k) maskD s.1),
   k0_pay69 (k0_pay68 q (k0_pay48 k) maskD s.1 s.2.1),
   k0_pay70 (k0_pay49 v) (k0_pay66 q (k0_pay48 k) maskD s.1) (k0_pay67 q (k0_pay48 k) maskD s.1) s.2.2)

/-- The same step as the body writes it for the first score map. -/
def stepM0 (q : FVec F S256x128 .bf16) (k v : Vec F S1x256x128 .bf16) (s : St F) : St F :=
  (k0_pay62 (k0_pay56 q (k0_pay48 k) k0_pay50 (iota .tc S256x256 32 [1] iota_S256x256_d1_w32) 64#32 k0_pay51 k0_pay52 s.1),
   k0_pay60 (k0_pay59 q (k0_pay48 k) k0_pay50 (iota .tc S256x256 32 [1] iota_S256x256_d1_w32) 64#32 k0_pay51 k0_pay52 s.1 s.2.1),
   k0_pay61 (k0_pay49 v) (k0_pay57 q (k0_pay48 k) k0_pay50 (iota .tc S256x256 32 [1] iota_S256x256_d1_w32) 64#32 k0_pay51 k0_pay52 s.1)
     (k0_pay58 q (k0_pay48 k) k0_pay50 (iota .tc S256x256 32 [1] iota_S256x256_d1_w32) 64#32 k0_pay51 k0_pay52 s.1) s.2.2)

theorem stepM0_eq (q : FVec F S256x128 .bf16) (k v : Vec F S1x256x128 .bf16) (s : St F) : stepM0 q k v s = stepM q k v s := rfl

abbrev r0 : Rect S2x256x1 := Rect.unit (s := S2x256x1) ![0, 0, 0] ![1, 256, 1] inb_S2x256x1_S1x256x1_0_0_0
abbrev r1 : Rect S2x256x1 := Rect.unit (s := S2x256x1) ![1, 0, 0] ![1, 256, 1] inb_S2x256x1_S1x256x1_1_0_0
abbrev a0 : Rect S2x256x128 := Rect.unit (s := S2x256x128) ![0, 0, 0] ![1, 256, 128] inb_S2x256x128_S1x256x128_0_0_0
abbrev a1 : Rect S2x256x128 := Rect.unit (s := S2x256x128) ![1, 0, 0] ![1, 256, 128] inb_S2x256x128_S1x256x128_1_0_0

/-- The state before the first key block, one half of what the buffers are filled with. -/
def st00 : St F := (View.ld k0_pay41 r0, View.ld k0_pay42 r0, View.ld k0_pay43 a0)
/-- The same for the other half. -/
def st01 : St F := (View.ld k0_pay41 r1, View.ld k0_pay42 r1, View.ld k0_pay43 a1)

theorem lt2048 (n : ℕ) : n % 2048 < 2048 := Nat.mod_lt _ (by decide)

/-- Key (or value) block `j` of a head: rows `256 j` to `256 j + 255`. -/
def kb (X : Vec F S1x2048x128 .bf16) (j : ℕ) : Vec F S1x256x128 .bf16 :=
  fun y => X (ix3 0 ⟨(256 * j + (y 1).val) % 2048, lt2048 _⟩ (y 2))

/-- The state after the first `n` key blocks, unmasked, from a state `s`. -/
def iter (q : FVec F S256x128 .bf16) (x1 x2 : Vec F S1x2048x128 .bf16) (s : St F) : ℕ → St F
  | 0 => s
  | n + 1 => stepU q (kb x1 n) (kb x2 n) (iter q x1 x2 s n)

theorem ld_kb (X : Vec F S1x2048x128 .bf16) (off : Fin 3 → ℕ) (j : ℕ) (hj : j < 8) (h : off = ![0, 256 * j, 0]) (inb) :
    View.ld X (Rect.unit (s := S1x2048x128) off S1x256x128.size inb) = kb X j := by
  subst h
  funext y
  refine View.ld_unit_apply_of X _ _ inb y _ fun a => ?_
  have hy : (y 1).val < 256 := (y 1).isLt
  match a with
  | ⟨0, _⟩ => have : (y 0).val < 1 := (y 0).isLt; show (0 : ℕ) = 0 + (y 0).val; omega
  | ⟨1, _⟩ => show (256 * j + (y 1).val) % 2048 = 256 * j + (y 1).val; omega
  | ⟨2, _⟩ => show (y 2).val = 0 + (y 2).val; omega

/-- The loop over the unmasked blocks makes `i 2` trips. -/
theorem trips_eq (i : grid0.Coords) : (k0_t1_loop i).trips = (i 2).val :=
  (by decide +kernel : ∀ n : Fin 8, Scf.trips (0#32 : BitVec 32) (Scalar.addi 0#32 (Scalar.muli (Scalar.divsi (Scalar.subi (BitVec.ofNat 32 n.val) 0#32) 1#32) 1#32)) 1#32 = n.val) (i 2)

theorem trips2_eq (i : grid0.Coords) : (k0_t2_loop i).trips = 0 := Idealize.ShloMosaic.Scf.rem_trips _ _

theorem trip_lt (i : grid0.Coords) (k : Fin (k0_t1_loop i).trips) : k.val < 8 :=
  lt_of_lt_of_le k.isLt ((trips_eq i).le.trans (Nat.le_of_lt (i 2).isLt))

theorem off1_eq (i : grid0.Coords) (k : Fin (k0_t1_loop i).trips) : k0_off1 i k = ![0, 256 * k.val, 0] := by
  have h : k.val < 8 := by exact trip_lt i k
  have := (by decide +kernel : ∀ n : Fin 8, (Scalar.indexCast (Scalar.muli (Scf.iv (0#32 : BitVec 32) 1#32 n.val) 256#32)).toNat = 256 * n.val) ⟨k.val, h⟩
  unfold k0_off1; dsimp only; rw [this]

theorem off3_eq (i : grid0.Coords) : k0_off3 i = ![0, 256 * (i 2).val, 0] := by
  have := (by decide +kernel : ∀ n : Fin 8, (Scalar.indexCast (Scalar.muli (BitVec.ofNat 32 n.val) 256#32)).toNat = 256 * n.val) (i 2)
  unfold k0_off3; dsimp only; rw [this]

/-- The state of the first score map, read from the three scratch buffers. -/
def rd0 (f9 : BufTy.Contents (Elt F) arg9.view.ty) (f10 : BufTy.Contents (Elt F) arg10.view.ty) (f11 : BufTy.Contents (Elt F) arg11.view.ty) : St F :=
  (arg9.view.readAt (Elt F) r0.toLoadRect f9, arg10.view.readAt (Elt F) r0.toLoadRect f10, arg11.view.readAt (Elt F) a0.toLoadRect f11)

/-- The state of the second score map. -/
def rd1 (f9 : BufTy.Contents (Elt F) arg9.view.ty) (f10 : BufTy.Contents (Elt F) arg10.view.ty) (f11 : BufTy.Contents (Elt F) arg11.view.ty) : St F :=
  (arg9.view.readAt (Elt F) r1.toLoadRect f9, arg10.view.readAt (Elt F) r1.toLoadRect f10, arg11.view.readAt (Elt F) a1.toLoadRect f11)

section Reads
variable (v : View sig .tc .vmem S2x256x1 .f32) (u : View sig .tc .vmem S2x256x128 .f32)

theorem r_same0 (f) (w) (L) : v.readAt (Elt F) (Rect.unit (s := S2x256x1) ![0, 0, 0] ![1, 256, 1] inb_S2x256x1_S1x256x1_0_0_0).toLoadRect (v.writes (Elt F) f (⟨(Rect.unit (s := S2x256x1) ![0, 0, 0] ![1, 256, 1] inb_S2x256x1_S1x256x1_0_0_0), w⟩ :: L)) = w := Halves.readAt_same v f _ w L
theorem r_same1 (f) (w) (L) : v.readAt (Elt F) (Rect.unit (s := S2x256x1) ![1, 0, 0] ![1, 256, 1] inb_S2x256x1_S1x256x1_1_0_0).toLoadRect (v.writes (Elt F) f (⟨(Rect.unit (s := S2x256x1) ![1, 0, 0] ![1, 256, 1] inb_S2x256x1_S1x256x1_1_0_0), w⟩ :: L)) = w := Halves.readAt_same v f _ w L
theorem r_skip0 (f) (w) (L) : v.readAt (Elt F) (Rect.unit (s := S2x256x1) ![0, 0, 0] ![1, 256, 1] inb_S2x256x1_S1x256x1_0_0_0).toLoadRect (v.writes (Elt F) f (⟨(Rect.unit (s := S2x256x1) ![1, 0, 0] ![1, 256, 1] inb_S2x256x1_S1x256x1_1_0_0), w⟩ :: L)) = v.readAt (Elt F) (Rect.unit (s := S2x256x1) ![0, 0, 0] ![1, 256, 1] inb_S2x256x1_S1x256x1_0_0_0).toLoadRect (v.writes (Elt F) f L) :=
  Halves.readAt_skip v f _ _ w L 0 (by decide)
theorem r_skip1 (f) (w) (L) : v.readAt (Elt F) (Rect.unit (s := S2x256x1) ![1, 0, 0] ![1, 256, 1] inb_S2x256x1_S1x256x1_1_0_0).toLoadRect (v.writes (Elt F) f (⟨(Rect.unit (s := S2x256x1) ![0, 0, 0] ![1, 256, 1] inb_S2x256x1_S1x256x1_0_0_0), w⟩ :: L)) = v.readAt (Elt F) (Rect.unit (s := S2x256x1) ![1, 0, 0] ![1, 256, 1] inb_S2x256x1_S1x256x1_1_0_0).toLoadRect (v.writes (Elt F) f L) :=
  Halves.readAt_skip v f _ _ w L 0 (by decide)
theorem a_same0 (f) (w) (L) : u.readAt (Elt F) (Rect.unit (s := S2x256x128) ![0, 0, 0] ![1, 256, 128] inb_S2x256x128_S1x256x128_0_0_0).toLoadRect (u.writes (Elt F) f (⟨(Rect.unit (s := S2x256x128) ![0, 0, 0] ![1, 256, 128] inb_S2x256x128_S1x256x128_0_0_0), w⟩ :: L)) = w := Halves.readAt_same u f _ w L
theorem a_same1 (f) (w) (L) : u.readAt (Elt F) (Rect.unit (s := S2x256x128) ![1, 0, 0] ![1, 256, 128] inb_S2x256x128_S1x256x128_1_0_0).toLoadRect (u.writes (Elt F) f (⟨(Rect.unit (s := S2x256x128) ![1, 0, 0] ![1, 256, 128] inb_S2x256x128_S1x256x128_1_0_0), w⟩ :: L)) = w := Halves.readAt_same u f _ w L
theorem a_skip0 (f) (w) (L) : u.readAt (Elt F) (Rect.unit (s := S2x256x128) ![0, 0, 0] ![1, 256, 128] inb_S2x256x128_S1x256x128_0_0_0).toLoadRect (u.writes (Elt F) f (⟨(Rect.unit (s := S2x256x128) ![1, 0, 0] ![1, 256, 128] inb_S2x256x128_S1x256x128_1_0_0), w⟩ :: L)) = u.readAt (Elt F) (Rect.unit (s := S2x256x128) ![0, 0, 0] ![1, 256, 128] inb_S2x256x128_S1x256x128_0_0_0).toLoadRect (u.writes (Elt F) f L) :=
  Halves.readAt_skip u f _ _ w L 0 (by decide)
theorem a_skip1 (f) (w) (L) : u.readAt (Elt F) (Rect.unit (s := S2x256x128) ![1, 0, 0] ![1, 256, 128] inb_S2x256x128_S1x256x128_1_0_0).toLoadRect (u.writes (Elt F) f (⟨(Rect.unit (s := S2x256x128) ![0, 0, 0] ![1, 256, 128] inb_S2x256x128_S1x256x128_0_0_0), w⟩ :: L)) = u.readAt (Elt F) (Rect.unit (s := S2x256x128) ![1, 0, 0] ![1, 256, 128] inb_S2x256x128_S1x256x128_1_0_0).toLoadRect (u.writes (Elt F) f L) :=
  Halves.readAt_skip u f _ _ w L 0 (by decide)

end Reads

/-- What one trip of the loop leaves in the three scratch buffers, as a function of what it finds there. -/
theorem trip_eq (X4 : BufTy.Contents (Elt F) arg4.view.ty) (X5 : BufTy.Contents (Elt F) arg5.view.ty) (k : Fin (k0_t1_loop i).trips)
    (f9 : BufTy.Contents (Elt F) arg9.view.ty) (f10 : BufTy.Contents (Elt F) arg10.view.ty) (f11 : BufTy.Contents (Elt F) arg11.view.ty) :
    rd0 arg9 arg10 arg11
      (arg9.view.writes (Elt F) f9 (tripL_k0_t1 𝒱 c bd i arg3 harg3 arg4 harg4 arg5 harg5 arg6 harg6 arg7 harg7 arg8 harg8 arg9 harg9 arg10 harg10 arg11 harg11 w2 q0 q1 wa wb X4 X5 k f9 f10 f11).1)
      (arg10.view.writes (Elt F) f10 (tripL_k0_t1 𝒱 c bd i arg3 harg3 arg4 harg4 arg5 harg5 arg6 harg6 arg7 harg7 arg8 harg8 arg9 harg9 arg10 harg10 arg11 harg11 w2 q0 q1 wa wb X4 X5 k f9 f10 f11).2.1)
      (arg11.view.writes (Elt F) f11 (tripL_k0_t1 𝒱 c bd i arg3 harg3 arg4 harg4 arg5 harg5 arg6 harg6 arg7 harg7 arg8 harg8 arg9 harg9 arg10 harg10 arg11 harg11 w2 q0 q1 wa wb X4 X5 k f9 f10 f11).2.2)
     = stepU q0 (kb (arg4.view.read (Elt F) X4) k.val) (kb (arg5.view.read (Elt F) X5) k.val) (rd0 arg9 arg10 arg11 f9 f10 f11)
    ∧ rd1 arg9 arg10 arg11
      (arg9.view.writes (Elt F) f9 (tripL_k0_t1 𝒱 c bd i arg3 harg3 arg4 harg4 arg5 harg5 arg6 harg6 arg7 harg7 arg8 harg8 arg9 harg9 arg10 harg10 arg11 harg11 w2 q0 q1 wa wb X4 X5 k f9 f10 f11).1)
      (arg10.view.writes (Elt F) f10 (tripL_k0_t1 𝒱 c bd i arg3 harg3 arg4 harg4 arg5 harg5 arg6 harg6 arg7 harg7 arg8 harg8 arg9 harg9 arg10 harg10 arg11 harg11 w2 q0 q1 wa wb X4 X5 k f9 f10 f11).2.1)
      (arg11.view.writes (Elt F) f11 (tripL_k0_t1 𝒱 c bd i arg3 harg3 arg4 harg4 arg5 harg5 arg6 harg6 arg7 harg7 arg8 harg8 arg9 harg9 arg10 harg10 arg11 harg11 w2 q0 q1 wa wb X4 X5 k f9 f10 f11).2.2)
     = stepU q1 (kb (arg4.view.read (Elt F) X4) k.val) (kb (arg5.view.read (Elt F) X5) k.val) (rd1 arg9 arg10 arg11 f9 f10 f11) := by
  have hk : k.val < 8 := by exact trip_lt i k
  rw [← ld_kb (arg4.view.read (Elt F) X4) (k0_off1 i k) k.val hk (off1_eq i k) (k0_off1_inb i k),
    ← ld_kb (arg5.view.read (Elt F) X5) (k0_off1 i k) k.val hk (off1_eq i k) (k0_off1_inb i k)]
  unfold tripL_k0_t1
  unfold trip_k0_t1
  dsimp only
  sl_unfold_words
  unfold stepU rd0 rd1
  dsimp only
  constructor
  · refine Prod.ext ?_ (Prod.ext ?_ ?_)
    · refine (r_skip0 arg9.view _ _ _).trans ?_
      refine (r_same0 arg9.view _ _ _).trans ?_
      rfl
    · refine (r_skip0 arg10.view _ _ _).trans ?_
      refine (r_same0 arg10.view _ _ _).trans ?_
      rfl
    · refine (a_skip0 arg11.view _ _ _).trans ?_
      refine (a_same0 arg11.view _ _ _).trans ?_
      rfl
  · refine Prod.ext ?_ (Prod.ext ?_ ?_)
    · refine (r_same1 arg9.view _ _ _).trans ?_
      rfl
    · refine (r_same1 arg10.view _ _ _).trans ?_
      rfl
    · refine (a_same1 arg11.view _ _ _).trans ?_
      rfl

/-- What the first `n` trips leave in the three scratch buffers: `n` steps from what the buffers held. -/
theorem loop_eq (X4 : BufTy.Contents (Elt F) arg4.view.ty) (X5 : BufTy.Contents (Elt F) arg5.view.ty)
    (G9 : BufTy.Contents (Elt F) arg9.view.ty) (G10 : BufTy.Contents (Elt F) arg10.view.ty) (G11 : BufTy.Contents (Elt F) arg11.view.ty) (n : ℕ)
    (hn : n ≤ (k0_t1_loop i).trips) :
    rd0 arg9 arg10 arg11 (arg9.view.writes (Elt F) G9 (pb_k0_t1 𝒱 c bd i arg3 harg3 arg4 harg4 arg5 harg5 arg6 harg6 arg7 harg7 arg8 harg8 arg9 harg9 arg10 harg10 arg11 harg11 w2 q0 q1 wa wb X4 X5 G9 G10 G11 n).1)
      (arg10.view.writes (Elt F) G10 (pb_k0_t1 𝒱 c bd i arg3 harg3 arg4 harg4 arg5 harg5 arg6 harg6 arg7 harg7 arg8 harg8 arg9 harg9 arg10 harg10 arg11 harg11 w2 q0 q1 wa wb X4 X5 G9 G10 G11 n).2.1)
      (arg11.view.writes (Elt F) G11 (pb_k0_t1 𝒱 c bd i arg3 harg3 arg4 harg4 arg5 harg5 arg6 harg6 arg7 harg7 arg8 harg8 arg9 harg9 arg10 harg10 arg11 harg11 w2 q0 q1 wa wb X4 X5 G9 G10 G11 n).2.2)
     = iter q0 (arg4.view.read (Elt F) X4) (arg5.view.read (Elt F) X5) (rd0 arg9 arg10 arg11 G9 G10 G11) n
    ∧ rd1 arg9 arg10 arg11 (arg9.view.writes (Elt F) G9 (pb_k0_t1 𝒱 c bd i arg3 harg3 arg4 harg4 arg5 harg5 arg6 harg6 arg7 harg7 arg8 harg8 arg9 harg9 arg10 harg10 arg11 harg11 w2 q0 q1 wa wb X4 X5 G9 G10 G11 n).1)
      (arg10.view.writes (Elt F) G10 (pb_k0_t1 𝒱 c bd i arg3 harg3 arg4 harg4 arg5 harg5 arg6 harg6 arg7 harg7 arg8 harg8 arg9 harg9 arg10 harg10 arg11 harg11 w2 q0 q1 wa wb X4 X5 G9 G10 G11 n).2.1)
      (arg11.view.writes (Elt F) G11 (pb_k0_t1 𝒱 c bd i arg3 harg3 arg4 harg4 arg5 harg5 arg6 harg6 arg7 harg7 arg8 harg8 arg9 harg9 arg10 harg10 arg11 harg11 w2 q0 q1 wa wb X4 X5 G9 G10 G11 n).2.2)
     = iter q1 (arg4.view.read (Elt F) X4) (arg5.view.read (Elt F) X5) (rd1 arg9 arg10 arg11 G9 G10 G11) n := by
  induction n with
  | zero => exact ⟨rfl, rfl⟩
  | succ n ih =>
    have e := pb_k0_t1_succ (F := F) 𝒱 c bd i arg3 harg3 arg4 harg4 arg5 harg5 arg6 harg6 arg7 harg7 arg8 harg8 arg9 harg9 arg10 harg10 arg11 harg11 w2 q0 q1 wa wb X4 X5 G9 G10 G11 ⟨n, hn⟩
    dsimp only at e
    rw [e]
    simp only [View.writes_append]
    have t := trip_eq 𝒱 c bd i arg3 harg3 arg4 harg4 arg5 harg5 arg6 harg6 arg7 harg7 arg8 harg8 arg9 harg9 arg10 harg10 arg11 harg11 w2 q0 q1 wa wb X4 X5 ⟨n, hn⟩
      (arg9.view.writes (Elt F) G9 (pb_k0_t1 𝒱 c bd i arg3 harg3 arg4 harg4 arg5 harg5 arg6 harg6 arg7 harg7 arg8 harg8 arg9 harg9 arg10 harg10 arg11 harg11 w2 q0 q1 wa wb X4 X5 G9 G10 G11 n).1) (arg10.view.writes (Elt F) G10 (pb_k0_t1 𝒱 c bd i arg3 harg3 arg4 harg4 arg5 harg5 arg6 harg6 arg7 harg7 arg8 harg8 arg9 harg9 arg10 harg10 arg11 harg11 w2 q0 q1 wa wb X4 X5 G9 G10 G11 n).2.1) (arg11.view.writes (Elt F) G11 (pb_k0_t1 𝒱 c bd i arg3 harg3 arg4 harg4 arg5 harg5 arg6 harg6 arg7 harg7 arg8 harg8 arg9 harg9 arg10 harg10 arg11 harg11 w2 q0 q1 wa wb X4 X5 G9 G10 G11 n).2.2)
    obtain ⟨i0, i1⟩ := ih (Nat.le_of_succ_le hn)
    rw [i0, i1] at t
    exact t

set_option maxHeartbeats 1000000 in
/-- What the body leaves in the output block, from the two states after the unmasked blocks and the diagonal one. -/
theorem out_eq (x0 : Vec F S1x256x128 .bf16) (x1 x2 : Vec F S1x2048x128 .bf16) (x3 : Vec F S4x64 .f32) (x4 : Vec F S1x128 .f32) :
    out0_A_5 c i arg3 harg3 arg4 harg4 arg5 harg5 arg6 harg6 arg7 harg7 arg8 harg8 arg9 harg9 arg10 harg10 arg11 harg11 x0 x1 x2 x3 x4
      = (fun s t : St F => k0_pay1 (k0_pay72 x3) (k0_pay73 s.2.2) (k0_pay74 s.2.1) t.2.2 t.2.1 x4)
          (stepM (k0_pay39 x0) (kb x1 (i 2).val) (kb x2 (i 2).val) (iter (k0_pay39 x0) x1 x2 st00 (i 2).val))
          (stepM (k0_pay40 x0) (kb x1 (i 2).val) (kb x2 (i 2).val) (iter (k0_pay40 x0) x1 x2 st01 (i 2).val)) := by
  have hi : (i 2).val < 8 := (i 2).isLt
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  refine (View.canon_cons_unit_zero (S := S1x256x128) hz _ _ _).trans ?_
  have e2 : Scf.trips (k0_t2_loop i).lb (k0_t2_loop i).ub (k0_t2_loop i).st = 0 := trips2_eq i
  have e1 : Scf.trips (k0_t1_loop i).lb (k0_t1_loop i).ub (k0_t1_loop i).st = (i 2).val := trips_eq i
  have z2 : ∀ (w : BitVec 32) (q q' : FVec F S256x128 .bf16) (wa wb wc : BitVec 32) X4 X5 G9 G10 G11, pb_k0_t2 (F := F) Variants.none c none i arg3 harg3 arg4 harg4 arg5 harg5 arg6 harg6 arg7 harg7 arg8 harg8 arg9 harg9 arg10 harg10 arg11 harg11 w q q' wa wb wc X4 X5 G9 G10 G11 0 = ([], [], []) :=
    fun _ _ _ _ _ _ _ _ _ _ _ => rfl
  have r3 : View.readAt (Elt F) arg3.view (Rect.unit ![0, 0, 0] S1x256x128.size inb_S1x256x128_S1x256x128_0_0_0).toLoadRect (harg3.unread x0) = x0 :=
    (View.readAt_full (s := S1x256x128) arg3.view _ _).trans (harg3.read_unread x0)
  have r6 : View.readAt (Elt F) arg6.view (Rect.unit ![0, 0] S4x64.size inb_S4x64_S4x64_0_0).toLoadRect (harg6.unread x3) = x3 :=
    (View.readAt_full (s := S4x64) arg6.view _ _).trans (harg6.read_unread x3)
  have r7 : View.readAt (Elt F) arg7.view (Rect.unit ![0, 0] S1x128.size inb_S1x128_S1x128_0_0).toLoadRect (harg7.unread x4) = x4 :=
    (View.readAt_full (s := S1x128) arg7.view _ _).trans (harg7.read_unread x4)
  have c9 : ∀ L (r : LoadRect S2x256x1), arg9.view.readCov L r = arg9.view.readAt (Elt F) r (arg9.view.writes (Elt F) arg9.view.junk L) := fun _ _ => rfl
  have c10 : ∀ L (r : LoadRect S2x256x1), arg10.view.readCov L r = arg10.view.readAt (Elt F) r (arg10.view.writes (Elt F) arg10.view.junk L) := fun _ _ => rfl
  have c11 : ∀ L (r : LoadRect S2x256x128), arg11.view.readCov L r = arg11.view.readAt (Elt F) r (arg11.view.writes (Elt F) arg11.view.junk L) := fun _ _ => rfl
  have e4 : View.readAt (Elt F) arg4.view (Rect.unit (s := S1x2048x128) (k0_off3 i) S1x256x128.size (k0_off3_inb i)).toLoadRect (harg4.unread x1) = kb x1 (i 2).val := by
    have := ld_kb x1 (k0_off3 i) (i 2).val hi (off3_eq i) (k0_off3_inb i)
    rw [View.readAt_eq_ld, harg4.read_unread]; exact this
  have e5 : View.readAt (Elt F) arg5.view (Rect.unit (s := S1x2048x128) (k0_off3 i) S1x256x128.size (k0_off3_inb i)).toLoadRect (harg5.unread x2) = kb x2 (i 2).val := by
    have := ld_kb x2 (k0_off3 i) (i 2).val hi (off3_eq i) (k0_off3_inb i)
    rw [View.readAt_eq_ld, harg5.read_unread]; exact this
  have h := loop_eq Variants.none c none i arg3 harg3 arg4 harg4 arg5 harg5 arg6 harg6 arg7 harg7 arg8 harg8 arg9 harg9 arg10 harg10 arg11 harg11 (BitVec.ofNat 32 (i 2).val) (k0_pay39 x0) (k0_pay40 x0) 0#32 (Scalar.subi (BitVec.ofNat 32 (i 2).val) 0#32)
    (harg4.unread x1) (harg5.unread x2)
    (arg9.view.writes (Elt F) arg9.view.junk [⟨Rect.unit (s := S2x256x1) ![0, 0, 0] S2x256x1.size inb_S2x256x1_S2x256x1_0_0_0, k0_pay41⟩])
    (arg10.view.writes (Elt F) arg10.view.junk [⟨Rect.unit (s := S2x256x1) ![0, 0, 0] S2x256x1.size inb_S2x256x1_S2x256x1_0_0_0, k0_pay42⟩])
    (arg11.view.writes (Elt F) arg11.view.junk [⟨Rect.unit (s := S2x256x128) ![0, 0, 0] S2x256x128.size inb_S2x256x128_S2x256x128_0_0_0, k0_pay43⟩])
    (i 2).val (trips_eq i).ge
  have s0 : rd0 arg9 arg10 arg11 (arg9.view.writes (Elt F) arg9.view.junk [⟨Rect.unit (s := S2x256x1) ![0, 0, 0] S2x256x1.size inb_S2x256x1_S2x256x1_0_0_0, k0_pay41⟩])
    (arg10.view.writes (Elt F) arg10.view.junk [⟨Rect.unit (s := S2x256x1) ![0, 0, 0] S2x256x1.size inb_S2x256x1_S2x256x1_0_0_0, k0_pay42⟩])
    (arg11.view.writes (Elt F) arg11.view.junk [⟨Rect.unit (s := S2x256x128) ![0, 0, 0] S2x256x128.size inb_S2x256x128_S2x256x128_0_0_0, k0_pay43⟩]) = (st00 : St F) :=
    Prod.ext (Halves.readAt_fill (Val := Elt F) (s := S2x256x1) arg9.view arg9.view.junk inb_S2x256x1_S2x256x1_0_0_0 (k0_pay41 (F := F)) [] r0) (Prod.ext (Halves.readAt_fill (Val := Elt F) (s := S2x256x1) arg10.view arg10.view.junk inb_S2x256x1_S2x256x1_0_0_0 (k0_pay42 (F := F)) [] r0) (Halves.readAt_fill (Val := Elt F) (s := S2x256x128) arg11.view arg11.view.junk inb_S2x256x128_S2x256x128_0_0_0 (k0_pay43 (F := F)) [] a0))
  have s1 : rd1 arg9 arg10 arg11 (arg9.view.writes (Elt F) arg9.view.junk [⟨Rect.unit (s := S2x256x1) ![0, 0, 0] S2x256x1.size inb_S2x256x1_S2x256x1_0_0_0, k0_pay41⟩])
    (arg10.view.writes (Elt F) arg10.view.junk [⟨Rect.unit (s := S2x256x1) ![0, 0, 0] S2x256x1.size inb_S2x256x1_S2x256x1_0_0_0, k0_pay42⟩])
    (arg11.view.writes (Elt F) arg11.view.junk [⟨Rect.unit (s := S2x256x128) ![0, 0, 0] S2x256x128.size inb_S2x256x128_S2x256x128_0_0_0, k0_pay43⟩]) = (st01 : St F) :=
    Prod.ext (Halves.readAt_fill (Val := Elt F) (s := S2x256x1) arg9.view arg9.view.junk inb_S2x256x1_S2x256x1_0_0_0 (k0_pay41 (F := F)) [] r1) (Prod.ext (Halves.readAt_fill (Val := Elt F) (s := S2x256x1) arg10.view arg10.view.junk inb_S2x256x1_S2x256x1_0_0_0 (k0_pay42 (F := F)) [] r1) (Halves.readAt_fill (Val := Elt F) (s := S2x256x128) arg11.view arg11.view.junk inb_S2x256x128_S2x256x128_0_0_0 (k0_pay43 (F := F)) [] a1))
  rw [harg4.read_unread, harg5.read_unread, s0, s1] at h
  have h09 := congrArg Prod.fst h.1
  have h010 := congrArg (fun s : St F => s.2.1) h.1
  have h011 := congrArg (fun s : St F => s.2.2) h.1
  have h19 := congrArg Prod.fst h.2
  have h110 := congrArg (fun s : St F => s.2.1) h.2
  have h111 := congrArg (fun s : St F => s.2.2) h.2
  dsimp only [rd0, rd1] at h09 h010 h011 h19 h110 h111
  simp only [e1, e2, z2, r3, r6, r7, c9, c10, c11, r_same0, r_same1, r_skip0, r_skip1, a_same0, a_same1, a_skip0, a_skip1, List.nil_append, View.writes_append, h09, h010, h011, h19, h110, h111]
  rw [← stepM0_eq]
  unfold stepM stepM0 maskD
  dsimp only
  rw [← e4, ← e5]
  unfold k0_off3
  rfl

end Cert.Kernel5Ideal.Diff

end
-- ==== Proof.DiffStep.lean ====
/-
  The differential attention kernel's running state of one score map at one row, over the extended reals: what one key
  block does to the greatest score, the sum of weights and one coordinate of the weighted sum of values, the state
  after `n` key blocks by induction (`iter_row`), and the quotient after the diagonal block (`out_row`).
-/
module

public import proofs.«01_k».proof.Proof.DiffTrip
public import proofs.«01_k».proof.Proof.AttnStep

@[expose] public section

set_option maxRecDepth 16384

noncomputable section

open Idealize.ShloMosaic Idealize.ShloMosaic.TcCoe Idealize.SL.Sem
open Cert.Online

namespace Cert.Kernel5Ideal.Diff
open Cert.Kernel5Ideal Cert.Kernel5Ideal.Gen
open Cert.KernelIdeal.Attn (ofBits_ninf chunkW mask_eq)

/-- The score of key `j` against row `r` of the query block. -/
def score (q : FVec Ideal S256x128 .bf16) (x1 : Vec Ideal S1x2048x128 .bf16) (r : Fin 256) (j : ℕ) : EReal :=
  ∑ x : Fin 128, q (ix2 r x) * x1 (ix3 0 ⟨j % 2048, lt2048 _⟩ x)

/-- Coordinate `d` of the value of key `j`. -/
def value (x2 : Vec Ideal S1x2048x128 .bf16) (d : Fin 128) (j : ℕ) : EReal := x2 (ix3 0 ⟨j % 2048, lt2048 _⟩ d)

/-- The score with the keys of later chunks masked out; `i` numbers the query block. -/
def mscore (q : FVec Ideal S256x128 .bf16) (x1 : Vec Ideal S1x2048x128 .bf16) (i : ℕ) (r : Fin 256) (j : ℕ) : EReal :=
  if j / 64 ≤ (256 * i + r.val) / 64 then score q x1 r j else ⊥

section Row
variable (q : FVec Ideal S256x128 .bf16) (x1 : Vec Ideal S1x2048x128 .bf16) (x2 : Vec Ideal S1x2048x128 .bf16) (s : St Ideal)
  (r : Fin 256) (d : Fin 128)

theorem step_m (n : ℕ) : (stepU q (kb x1 n) (kb x2 n) s).1 (ix3 0 r 0)
    = max (s.1 (ix3 0 r 0)) (Finset.univ.fold max ⊥ fun k : Fin 256 => score q x1 r (256 * n + k.val)) := by
  pointwise [stepU, k0_pay12, k0_pay6, k0_pay5, k0_pay4, k0_pay3, k0_pay2]
  rw [ofBits_ninf]; rfl

theorem step_l (n : ℕ) : (stepU q (kb x1 n) (kb x2 n) s).2.1 (ix3 0 r 0)
    = Ideal.exp (s.1 (ix3 0 r 0) - (stepU q (kb x1 n) (kb x2 n) s).1 (ix3 0 r 0)) * s.2.1 (ix3 0 r 0)
      + ∑ k : Fin 256, Ideal.exp (score q x1 r (256 * n + k.val) - (stepU q (kb x1 n) (kb x2 n) s).1 (ix3 0 r 0)) := by
  pointwise [stepU, k0_pay12, k0_pay9, k0_pay8, k0_pay7, k0_pay6, k0_pay5, k0_pay4, k0_pay3, k0_pay2]
  rfl

theorem step_a (n : ℕ) : (stepU q (kb x1 n) (kb x2 n) s).2.2 (ix3 0 r d)
    = Ideal.exp (s.1 (ix3 0 r 0) - (stepU q (kb x1 n) (kb x2 n) s).1 (ix3 0 r 0)) * s.2.2 (ix3 0 r d)
      + ∑ k : Fin 256, Ideal.exp (score q x1 r (256 * n + k.val) - (stepU q (kb x1 n) (kb x2 n) s).1 (ix3 0 r 0))
          * value x2 d (256 * n + k.val) := by
  pointwise [stepU, k0_pay12, k0_pay11, k0_pay10, k0_pay8, k0_pay7, k0_pay6, k0_pay5, k0_pay4, k0_pay3, k0_pay2]
  rfl

/-- The masked scores of the diagonal block, as the kernel selects them. -/
theorem mscore_block (n : ℕ) (k : Fin 256) : mscore q x1 n r (256 * n + k.val)
    = Scalar.select (IntOp.cmpi CmpIPredicate.sle (chunkW (BitVec.ofNat 32 k.val)) (chunkW (BitVec.ofNat 32 r.val)))
        (score q x1 r (256 * n + k.val)) ⊥ := by
  rw [mask_eq]
  have e : ((256 * n + k.val) / 64 ≤ (256 * n + r.val) / 64) ↔ (k.val / 64 ≤ r.val / 64) := by omega
  unfold mscore
  by_cases h : k.val / 64 ≤ r.val / 64
  · rw [if_pos (e.mpr h), decide_eq_true h]; rfl
  · rw [if_neg (fun h' => h (e.mp h')), decide_eq_false h]; rfl

theorem stepM_m (n : ℕ) : (stepM q (kb x1 n) (kb x2 n) s).1 (ix3 0 r 0)
    = max (s.1 (ix3 0 r 0)) (Finset.univ.fold max ⊥ fun k : Fin 256 => mscore q x1 n r (256 * n + k.val)) := by
  simp only [mscore_block]
  pointwise [stepM, k0_pay71, k0_pay65, k0_pay63, k0_pay64, maskD, k0_pay53, k0_pay52, k0_pay51, k0_pay50, k0_pay49, k0_pay48]
  rw [ofBits_ninf]; rfl

theorem stepM_l (n : ℕ) : (stepM q (kb x1 n) (kb x2 n) s).2.1 (ix3 0 r 0)
    = Ideal.exp (s.1 (ix3 0 r 0) - (stepM q (kb x1 n) (kb x2 n) s).1 (ix3 0 r 0)) * s.2.1 (ix3 0 r 0)
      + ∑ k : Fin 256, Ideal.exp (mscore q x1 n r (256 * n + k.val) - (stepM q (kb x1 n) (kb x2 n) s).1 (ix3 0 r 0)) := by
  simp only [mscore_block]
  pointwise [stepM, k0_pay71, k0_pay69, k0_pay68, k0_pay67, k0_pay66, k0_pay65, k0_pay63, k0_pay64, maskD, k0_pay53, k0_pay52, k0_pay51, k0_pay50, k0_pay49, k0_pay48]
  rw [ofBits_ninf]; rfl

theorem stepM_a (n : ℕ) : (stepM q (kb x1 n) (kb x2 n) s).2.2 (ix3 0 r d)
    = Ideal.exp (s.1 (ix3 0 r 0) - (stepM q (kb x1 n) (kb x2 n) s).1 (ix3 0 r 0)) * s.2.2 (ix3 0 r d)
      + ∑ k : Fin 256, Ideal.exp (mscore q x1 n r (256 * n + k.val) - (stepM q (kb x1 n) (kb x2 n) s).1 (ix3 0 r 0))
          * value x2 d (256 * n + k.val) := by
  simp only [mscore_block]
  pointwise [stepM, k0_pay71, k0_pay70, k0_pay67, k0_pay66, k0_pay65, k0_pay63, k0_pay64, maskD, k0_pay53, k0_pay52, k0_pay51, k0_pay50, k0_pay49, k0_pay48]
  rw [ofBits_ninf]; rfl

/-- A state before the first key block. -/
def Start (s : St Ideal) : Prop := ∀ (r : Fin 256) (d : Fin 128), s.1 (ix3 0 r 0) = ⊥ ∧ s.2.1 (ix3 0 r 0) = 0 ∧ s.2.2 (ix3 0 r d) = 0

theorem start0 : Start st00 := by
  intro r d
  refine ⟨?_, ?_, ?_⟩
  · show k0_pay41 (F := Ideal) (r0.idx (ix3 0 r 0)) = _
    pointwise [k0_pay41]
    exact ofBits_ninf
  · show k0_pay42 (F := Ideal) (r0.idx (ix3 0 r 0)) = _
    pointwise [k0_pay42]
  · show k0_pay43 (F := Ideal) (a0.idx (ix3 0 r d)) = _
    pointwise [k0_pay43]

theorem start1 : Start st01 := by
  intro r d
  refine ⟨?_, ?_, ?_⟩
  · show k0_pay41 (F := Ideal) (r1.idx (ix3 0 r 0)) = _
    pointwise [k0_pay41]
    exact ofBits_ninf
  · show k0_pay42 (F := Ideal) (r1.idx (ix3 0 r 0)) = _
    pointwise [k0_pay42]
  · show k0_pay43 (F := Ideal) (a1.idx (ix3 0 r d)) = _
    pointwise [k0_pay43]

theorem mscore_ne_top (hs : ∀ j, score q x1 r j ≠ ⊤) (i j : ℕ) : mscore q x1 i r j ≠ ⊤ := by
  unfold mscore; split
  · exact hs j
  · exact bot_ne_top

theorem mscore_before (i n : ℕ) (h : n < i) (k : Fin 256) :
    score q x1 r (256 * n + k.val) = mscore q x1 i r (256 * n + k.val) := by
  unfold mscore
  rw [if_pos (by have := k.isLt; omega)]

/-- The state after the first `n` key blocks, all of them before the query block `i`. -/
theorem iter_row (h0 : Start s) (hs : ∀ j, score q x1 r j ≠ ⊤) (i : ℕ) : ∀ n, n ≤ i →
    (iter q x1 x2 s n).1 (ix3 0 r 0) = mx (mscore q x1 i r) (Finset.range (256 * n))
    ∧ (iter q x1 x2 s n).2.1 (ix3 0 r 0) = den (mscore q x1 i r) (mx (mscore q x1 i r) (Finset.range (256 * n))) (Finset.range (256 * n))
    ∧ (iter q x1 x2 s n).2.2 (ix3 0 r d)
        = num (mscore q x1 i r) (value x2 d) (mx (mscore q x1 i r) (Finset.range (256 * n))) (Finset.range (256 * n))
  | 0, _ => by
    refine ⟨((h0 r d).1).trans ?_, ((h0 r d).2.1).trans ?_, ((h0 r d).2.2).trans ?_⟩
    · simp [mx]
    · simp [den]
    · simp [num]
  | n + 1, hn => by
    obtain ⟨em, el, ea⟩ := iter_row h0 hs i n (Nat.le_of_succ_le hn)
    have hm : (iter q x1 x2 s (n + 1)).1 (ix3 0 r 0) = mx (mscore q x1 i r) (Finset.range (256 * (n + 1))) := by
      refine (step_m q x1 x2 _ r n).trans ?_
      rw [em, mx_block]
      simp only [mscore_before q x1 r i n hn]
    refine ⟨hm, (step_l q x1 x2 _ r n).trans ?_, (step_a q x1 x2 _ r d n).trans ?_⟩
    · rw [show (stepU q (kb x1 n) (kb x2 n) (iter q x1 x2 s n)).1 (ix3 0 r 0) = _ from hm, em, el]
      simp only [mscore_before q x1 r i n hn]
      exact den_block _ (mscore_ne_top q x1 r hs i) n _ rfl
    · rw [show (stepU q (kb x1 n) (kb x2 n) (iter q x1 x2 s n)).1 (ix3 0 r 0) = _ from hm, em, ea]
      simp only [mscore_before q x1 r i n hn]
      exact num_block _ _ (mscore_ne_top q x1 r hs i) n _ rfl

/-- The keys of the blocks after the diagonal one are masked out. -/
theorem mscore_after (i : ℕ) (hi : i < 8) : ∀ j ∈ Finset.range 2048, j ∉ Finset.range (256 * (i + 1)) → mscore q x1 i r j = ⊥ := by
  intro j _ h
  rw [Finset.mem_range] at h
  unfold mscore
  rw [if_neg (by have := r.isLt; omega)]

/-- One map's number: the weighted sum of values over the sum of weights, all 2048 keys counted. -/
theorem out_row (h0 : Start s) (hs : ∀ j, score q x1 r j ≠ ⊤) (i : ℕ) (hi : i < 8) :
    Ideal.div ((stepM q (kb x1 i) (kb x2 i) (iter q x1 x2 s i)).2.2 (ix3 0 r d)) ((stepM q (kb x1 i) (kb x2 i) (iter q x1 x2 s i)).2.1 (ix3 0 r 0))
      = Ideal.div
          (num (mscore q x1 i r) (value x2 d) (mx (mscore q x1 i r) (Finset.range 2048)) (Finset.range 2048))
          (den (mscore q x1 i r) (mx (mscore q x1 i r) (Finset.range 2048)) (Finset.range 2048)) := by
  obtain ⟨em, el, ea⟩ := iter_row q x1 x2 s r d h0 hs i i le_rfl
  have hm : (stepM q (kb x1 i) (kb x2 i) (iter q x1 x2 s i)).1 (ix3 0 r 0) = mx (mscore q x1 i r) (Finset.range (256 * (i + 1))) := by
    refine (stepM_m q x1 x2 _ r i).trans ?_
    rw [em, mx_block]
  have hl : (stepM q (kb x1 i) (kb x2 i) (iter q x1 x2 s i)).2.1 (ix3 0 r 0)
      = den (mscore q x1 i r) (mx (mscore q x1 i r) (Finset.range (256 * (i + 1)))) (Finset.range (256 * (i + 1))) := by
    refine (stepM_l q x1 x2 (iter q x1 x2 s i) r i).trans ?_
    rw [hm, em, el]
    exact den_block _ (mscore_ne_top q x1 r hs i) i _ rfl
  have ha : (stepM q (kb x1 i) (kb x2 i) (iter q x1 x2 s i)).2.2 (ix3 0 r d)
      = num (mscore q x1 i r) (value x2 d) (mx (mscore q x1 i r) (Finset.range (256 * (i + 1)))) (Finset.range (256 * (i + 1))) := by
    refine (stepM_a q x1 x2 (iter q x1 x2 s i) r d i).trans ?_
    rw [hm, em, ea]
    exact num_block _ _ (mscore_ne_top q x1 r hs i) i _ rfl
  have hsub : Finset.range (256 * (i + 1)) ⊆ Finset.range 2048 := Finset.range_subset_range.mpr (by omega)
  have hafter := mscore_after q x1 r i hi
  rw [hl, ha, mx_masked _ hsub hafter, den_masked _ _ hsub hafter, num_masked _ _ _ hsub hafter]

end Row

end Cert.Kernel5Ideal.Diff
end
-- ==== Proof.OnlinePair.lean ====
/-
  Two softmaxes over the same keys, subtracted: with real values and a real factor, the difference of the two
  weighted sums is the sum weighted by the difference of the weights.
-/
module

public import proofs.«01_k».proof.Proof.Online

@[expose] public section

noncomputable section

open Idealize.ShloMosaic

namespace Cert.Online

/-- A normalised weight is a real number. -/
theorem ratio_real (s : ℕ → EReal) (hs : ∀ j, s j ≠ ⊤) {T : Finset ℕ} {i j : ℕ} (hi : i ∈ T) (h : s i ≠ ⊥) (hj : j ∈ T) :
    ∃ w : ℝ, Ideal.div (Ideal.exp (s j - mx s T)) (den s (mx s T) T) = w := by
  obtain ⟨r, hr, e⟩ := den_pos s hs hi h
  obtain ⟨a, _, ea⟩ := weight_real (le_mx s hj) (mx_ne_top s hs T)
  have hne : (r : EReal) ≠ 0 := by exact_mod_cast hr.ne'
  refine ⟨a * r⁻¹, ?_⟩
  rw [e, ea]
  unfold Ideal.div
  rw [if_neg hne, ← EReal.coe_inv, EReal.coe_mul]

/-- The difference of two softmaxes, each divided once or weight by weight. -/
theorem num_div_sub (s s' v : ℕ → EReal) (hs : ∀ j, s j ≠ ⊤) (hs' : ∀ j, s' j ≠ ⊤) {T : Finset ℕ} {i : ℕ} (hi : i ∈ T)
    (h : s i ≠ ⊥) (h' : s' i ≠ ⊥) (hv : ∀ j, ∃ y : ℝ, v j = y) (lam : EReal) (hl : ∃ y : ℝ, lam = y) :
    Ideal.div (num s v (mx s T) T) (den s (mx s T) T) - lam * Ideal.div (num s' v (mx s' T) T) (den s' (mx s' T) T)
      = ∑ j ∈ T, v j * (Ideal.div (Ideal.exp (s j - mx s T)) (den s (mx s T) T)
          - lam * Ideal.div (Ideal.exp (s' j - mx s' T)) (den s' (mx s' T) T)) := by
  rw [num_div s v hs hi h, num_div s' v hs' hi h']
  choose y hy using hv
  obtain ⟨l, rfl⟩ := hl
  have hw : ∀ j, j ∈ T → ∃ w : ℝ, Ideal.div (Ideal.exp (s j - mx s T)) (den s (mx s T) T) = w := fun j hj => ratio_real s hs hi h hj
  have hw' : ∀ j, j ∈ T → ∃ w : ℝ, Ideal.div (Ideal.exp (s' j - mx s' T)) (den s' (mx s' T) T) = w := fun j hj => ratio_real s' hs' hi h' hj
  choose! w hw using hw
  choose! w' hw' using hw'
  have e1 : ∑ j ∈ T, v j * Ideal.div (Ideal.exp (s j - mx s T)) (den s (mx s T) T) = ((∑ j ∈ T, y j * w j : ℝ) : EReal) := by
    rw [← coe_sum]
    exact Finset.sum_congr rfl fun j hj => by rw [hy j, hw j hj, EReal.coe_mul]
  have e2 : ∑ j ∈ T, v j * Ideal.div (Ideal.exp (s' j - mx s' T)) (den s' (mx s' T) T) = ((∑ j ∈ T, y j * w' j : ℝ) : EReal) := by
    rw [← coe_sum]
    exact Finset.sum_congr rfl fun j hj => by rw [hy j, hw' j hj, EReal.coe_mul]
  have e3 : ∑ j ∈ T, v j * (Ideal.div (Ideal.exp (s j - mx s T)) (den s (mx s T) T)
          - (l : EReal) * Ideal.div (Ideal.exp (s' j - mx s' T)) (den s' (mx s' T) T))
      = ((∑ j ∈ T, y j * (w j - l * w' j) : ℝ) : EReal) := by
    rw [← coe_sum]
    exact Finset.sum_congr rfl fun j hj => by rw [hy j, hw j hj, hw' j hj, EReal.coe_mul, EReal.coe_sub, EReal.coe_mul]
  rw [e1, e2, e3, ← EReal.coe_mul, ← EReal.coe_sub, Finset.mul_sum, ← Finset.sum_sub_distrib]
  congr 1
  exact Finset.sum_congr rfl fun j _ => by ring

end Cert.Online

end
-- ==== Proof.DiffRef.lean ====
/-
  The differential attention reference at one number of its result: the two softmaxes over all 2048 keys of one head's
  two score maps, their difference met with one coordinate of the values (`diff`), and the normed result (`ref_row`).
-/
module

public import proofs.«01_k».proof.Proof.Gen.Reference5Ideal.Read
public import proofs.«01_k».proof.Proof.OnlinePair
public import proofs.«01_k».proof.Proof.AttnStep

@[expose] public section

set_option maxRecDepth 16384

noncomputable section

open Idealize.ShloMosaic Idealize.ShloMosaic.TcCoe Idealize.SL.Sem
open Cert.Online

namespace Cert.Reference5Ideal.Diff
open Cert.Reference5Ideal Cert.Reference5Ideal.Gen Cert.Reference5Ideal.Read

theorem lt2048 (n : ℕ) : n % 2048 < 2048 := Nat.mod_lt _ (by decide)

/-- A position's chunk as the host computes it: division towards minus infinity by 64. -/
theorem chunk0 (k : Fin 2048) : val_main_v16 (F := Ideal) (ix1 k) = BitVec.ofNat 32 (k.val / 64) := by
  pointwise [val_main_v16, val_main_call0_v11, val_main_call0_v13, val_main_call0_v2, val_main_call0_v12, val_main_call0_c_0, val_main_call0_v10, val_main_call0_v9, val_main_call0_c, val_main_call0_v8, val_main_call0_v7, val_main_call0_v6, val_main_call0_v5, val_main_call0_v4, val_main_call0_v3, val_main_call0_v1, val_main_call0_v0, val_main_c, val_main_v15]
  revert k
  decide +kernel

theorem chunk1 (k : Fin 2048) : val_main_v18 (F := Ideal) (ix1 k) = BitVec.ofNat 32 (k.val / 64) := by
  pointwise [val_main_v18, val_main_call1_v11, val_main_call1_v13, val_main_call1_v2, val_main_call1_v12, val_main_call1_c_0, val_main_call1_v10, val_main_call1_v9, val_main_call1_c, val_main_call1_v8, val_main_call1_v7, val_main_call1_v6, val_main_call1_v5, val_main_call1_v4, val_main_call1_v3, val_main_call1_v1, val_main_call1_v0, val_main_c_2, val_main_v15]
  revert k
  decide +kernel

theorem sle_eq : ∀ a b : Fin 32, IntOp.cmpi CmpIPredicate.sle (BitVec.ofNat 32 a.val) (BitVec.ofNat 32 b.val)
    = BitVec.ofBool (decide (a.val ≤ b.val)) := by decide +kernel

theorem mask_eq (q k : Fin 2048) : val_main_v22 (F := Ideal) (ix2 q k) = BitVec.ofBool (decide (k.val / 64 ≤ q.val / 64)) := by
  have e : val_main_v22 (F := Ideal) (ix2 q k)
      = IntOp.cmpi CmpIPredicate.sle (val_main_v16 (F := Ideal) (ix1 k)) (val_main_v18 (F := Ideal) (ix1 q)) := by
    pointwise [val_main_v22, val_main_v20, val_main_v21, val_main_v19, val_main_v17]
  rw [e, chunk0, chunk1]
  exact sle_eq ⟨k.val / 64, by have := k.isLt; omega⟩ ⟨q.val / 64, by have := q.isLt; omega⟩

variable (x0 : (⟨S8x2048x2560, .bf16⟩ : BufTy).Contents (Elt Ideal)) (x1 x2 x3 x4 : (⟨S64, .f32⟩ : BufTy).Contents (Elt Ideal))
  (x5 : (⟨S128, .f32⟩ : BufTy).Contents (Elt Ideal))

/-- The score of key `j` against query `q` in map `c` of head `h`. -/
def rscore (b : Fin 8) (h : Fin 4) (c : Fin 2) (q : Fin 2048) (j : ℕ) : EReal :=
  ∑ x : Fin 64, x0 (ix3 b q ⟨h.val * 128 + c.val * 64 + x.val, by omega⟩)
    * x0 (ix3 b ⟨j % 2048, lt2048 _⟩ ⟨512 + (h.val * 128 + c.val * 64 + x.val), by omega⟩)

/-- The score with the keys of later chunks masked out. -/
def rmscore (b : Fin 8) (h : Fin 4) (c : Fin 2) (q : Fin 2048) (j : ℕ) : EReal :=
  if j / 64 ≤ q.val / 64 then rscore x0 b h c q j else ⊥

theorem v2_eq (b : Fin 8) (h : Fin 4) (c : Fin 2) (q : Fin 2048) (x : Fin 64) :
    val_main_v2 x0 (ix5 b q h c x) = x0 (ix3 b q ⟨h.val * 128 + c.val * 64 + x.val, by omega⟩) := by
  pointwise [val_main_v2, val_main_v1, val_main_v0]

theorem v4_eq (b : Fin 8) (h : Fin 4) (c : Fin 2) (q : Fin 2048) (x : Fin 64) :
    val_main_v4 x0 (ix5 b q h c x) = x0 (ix3 b q ⟨512 + (h.val * 128 + c.val * 64 + x.val), by omega⟩) := by
  pointwise [val_main_v4, val_main_v3, val_main_v0]

theorem v6_eq (b : Fin 8) (h : Fin 4) (q : Fin 2048) (e : Fin 128) :
    val_main_v6 x0 (ix4 b q h e) = x0 (ix3 b q ⟨1024 + (h.val * 128 + e.val), by omega⟩) := by
  pointwise [val_main_v6, val_main_v5, val_main_v0]

theorem v23_eq (b : Fin 8) (h : Fin 4) (c : Fin 2) (q k : Fin 2048) : val_main_v23 x0 (ix5 b h c q k) = rscore x0 b h c q k.val := by
  rw [val_main_v23_apply]
  unfold rscore
  refine Finset.sum_congr rfl fun x _ => ?_
  have hk : (⟨k.val % 2048, lt2048 _⟩ : Fin 2048) = k := Fin.ext (Nat.mod_eq_of_lt k.isLt)
  rw [hk, ← v2_eq x0, ← v4_eq x0]
  generalize val_main_v2 x0 = y
  generalize val_main_v4 x0 = z
  exact congrArg₂ (fun s t => y s * z t)
    (funext fun a => by match a with | ⟨0, _⟩ => rfl | ⟨1, _⟩ => rfl | ⟨2, _⟩ => rfl | ⟨3, _⟩ => rfl | ⟨4, _⟩ => rfl)
    (funext fun a => by match a with | ⟨0, _⟩ => rfl | ⟨1, _⟩ => rfl | ⟨2, _⟩ => rfl | ⟨3, _⟩ => rfl | ⟨4, _⟩ => rfl)

theorem v24_eq (b : Fin 8) (h : Fin 4) (c : Fin 2) (q k : Fin 2048) : val_main_v24 x0 (ix5 b h c q k) = rmscore x0 b h c q k.val := by
  have e : val_main_v24 x0 (ix5 b h c q k) = Scalar.select (val_main_v22 (F := Ideal) (ix2 q k)) (val_main_v23 x0 (ix5 b h c q k)) ⊥ := by
    pointwise [val_main_v24, val_main_call2_v1, val_main_call2_v2, val_main_call2_v0, val_main_cst_3]
    exact congrArg (Scalar.select _ _) Cert.KernelIdeal.Attn.ofBits_ninf
  rw [e, mask_eq, v23_eq]
  unfold rmscore
  by_cases hc : k.val / 64 ≤ q.val / 64
  · rw [if_pos hc, decide_eq_true hc]; rfl
  · rw [if_neg hc, decide_eq_false hc]; rfl

/-- The greatest masked score of a row, over the keys in order. -/
theorem v25_eq (b : Fin 8) (h : Fin 4) (c : Fin 2) (q : Fin 2048) : val_main_v25 x0 (ix4 b h c q)
    = Finset.univ.fold max ⊥ fun k : Fin 2048 => val_main_v24 x0 (ix5 b h c q k) := by
  pointwise [val_main_v25]
  exact congrArg (fun t => Finset.univ.fold max t fun k : Fin 2048 => val_main_v24 x0 (ix5 b h c q k)) Cert.KernelIdeal.Attn.ofBits_ninf

theorem fold_eq (b : Fin 8) (h : Fin 4) (c : Fin 2) (q : Fin 2048) : (Finset.univ.fold max ⊥ fun k : Fin 2048 => val_main_v24 x0 (ix5 b h c q k))
    = mx (rmscore x0 b h c q) (Finset.range 2048) := by
  rw [← mx_range]
  exact congrArg (Finset.univ.fold max ⊥) (funext fun k => v24_eq x0 b h c q k)

/-- The greatest masked score of a row. -/
theorem v27_eq (b : Fin 8) (h : Fin 4) (c : Fin 2) (q : Fin 2048) : val_main_v27 x0 (ix4 b h c q) = mx (rmscore x0 b h c q) (Finset.range 2048) := by
  have e : FloatOps.maximumf (F := Ideal) (φ := .f32) (Ideal.ofBits .f32 4286578688#32) (val_main_v25 x0 (ix4 b h c q))
      = mx (rmscore x0 b h c q) (Finset.range 2048) := by
    rw [v25_eq, fold_eq, Cert.KernelIdeal.Attn.ofBits_ninf]
    exact max_eq_right bot_le
  rw [val_main_v27_apply, val_main_v26_apply, val_main_cst_5_apply]
  exact e

/-- One unnormalised weight. -/
theorem v31_eq (b : Fin 8) (h : Fin 4) (c : Fin 2) (q k : Fin 2048) : val_main_v31 x0 (ix5 b h c q k)
    = Ideal.exp (rmscore x0 b h c q k.val - mx (rmscore x0 b h c q) (Finset.range 2048)) := by
  have e : val_main_v31 x0 (ix5 b h c q k) = Ideal.exp (val_main_v24 x0 (ix5 b h c q k) - val_main_v27 x0 (ix4 b h c q)) := by
    rw [val_main_v31_apply, val_main_v30_apply, val_main_v29_apply, val_main_v28_apply]
    generalize val_main_v24 x0 = y
    generalize val_main_v27 x0 = z
    exact congrArg (fun t => Ideal.exp (y (ix5 b h c q k) - z t))
      (funext fun a => by match a with | ⟨0, _⟩ => rfl | ⟨1, _⟩ => rfl | ⟨2, _⟩ => rfl | ⟨3, _⟩ => rfl)
  rw [e, v24_eq, v27_eq]

/-- The sum of a row's weights. -/
theorem v32_eq (b : Fin 8) (h : Fin 4) (c : Fin 2) (q : Fin 2048) : val_main_v32 x0 (ix4 b h c q)
    = den (rmscore x0 b h c q) (mx (rmscore x0 b h c q) (Finset.range 2048)) (Finset.range 2048) := by
  pointwise [val_main_v32, val_main_cst_6]
  simp only [v31_eq]
  unfold den
  exact Fin.sum_univ_eq_sum_range (fun j => Ideal.exp (rmscore x0 b h c q j - mx (rmscore x0 b h c q) (Finset.range 2048))) 2048

/-- The softmax weight of key `j` in map `c`. -/
def wt (b : Fin 8) (h : Fin 4) (c : Fin 2) (q : Fin 2048) (j : ℕ) : EReal :=
  Ideal.div (Ideal.exp (rmscore x0 b h c q j - mx (rmscore x0 b h c q) (Finset.range 2048)))
    (den (rmscore x0 b h c q) (mx (rmscore x0 b h c q) (Finset.range 2048)) (Finset.range 2048))

theorem v35_eq (b : Fin 8) (h : Fin 4) (c : Fin 2) (q k : Fin 2048) : val_main_v35 x0 (ix5 b h c q k) = wt x0 b h c q k.val := by
  have e : val_main_v35 x0 (ix5 b h c q k) = Ideal.div (val_main_v31 x0 (ix5 b h c q k)) (val_main_v32 x0 (ix4 b h c q)) := by
    rw [val_main_v35_apply, val_main_v34_apply, val_main_v33_apply]
    generalize val_main_v31 x0 = y
    generalize val_main_v32 x0 = z
    exact congrArg (fun t => Ideal.div (y (ix5 b h c q k)) (z t))
      (funext fun a => by match a with | ⟨0, _⟩ => rfl | ⟨1, _⟩ => rfl | ⟨2, _⟩ => rfl | ⟨3, _⟩ => rfl)
  rw [e, v31_eq, v32_eq]
  rfl

/-- The factor of the second map. -/
def lam : EReal := Ideal.exp (∑ k : Fin 64, x1 (ix1 k) * x2 (ix1 k)) - Ideal.exp (∑ k : Fin 64, x3 (ix1 k) * x4 (ix1 k)) + Ideal.ofBits .f32 0x3E4CCCCD#32

theorem v14_eq : val_main_v14 x1 x2 x3 x4 ix0 = lam x1 x2 x3 x4 := by
  unfold lam
  pointwise [val_main_v14, val_main_v13, val_main_v12, val_main_v11, val_main_v10, val_main_v9, val_main_v8, val_main_v7, val_main_cst_1, val_main_cst, val_main_cst_0]

/-- A reshape that drops a dimension of extent one reads the same place. -/
theorem squeeze (y : (⟨S8x4x1x2048x2048, .f32⟩ : BufTy).Contents (Elt Ideal)) (b : Fin 8) (h : Fin 4) (q k : Fin 2048) :
    shapeCast S8x4x2048x2048 y shapeCasts_S8x4x1x2048x2048_S8x4x2048x2048 (ix4 b h q k) = y (ix5 b h 0 q k) :=
  shapeCast_apply y shapeCasts_S8x4x1x2048x2048_S8x4x2048x2048 _ _ (by
    rewrite [Shape.rowMajor_val_five, Shape.rowMajor_val_four]
    show (((b.val * 4 + h.val) * 1 + 0) * 2048 + q.val) * 2048 + k.val = ((b.val * 4 + h.val) * 2048 + q.val) * 2048 + k.val
    omega)

theorem v37_eq (b : Fin 8) (h : Fin 4) (q k : Fin 2048) : val_main_v37 x0 (ix4 b h q k) = val_main_v35 x0 (ix5 b h 0 q k) := by
  unfold val_main_v37
  rw [squeeze, val_main_v36_apply]
  exact congrArg _ (funext fun a => by match a with | ⟨0, _⟩ => rfl | ⟨1, _⟩ => rfl | ⟨2, _⟩ => rfl | ⟨3, _⟩ => rfl | ⟨4, _⟩ => rfl)

theorem v39_eq (b : Fin 8) (h : Fin 4) (q k : Fin 2048) : val_main_v39 x0 (ix4 b h q k) = val_main_v35 x0 (ix5 b h 1 q k) := by
  unfold val_main_v39
  rw [squeeze, val_main_v38_apply]
  exact congrArg _ (funext fun a => by match a with | ⟨0, _⟩ => rfl | ⟨1, _⟩ => rfl | ⟨2, _⟩ => rfl | ⟨3, _⟩ => rfl | ⟨4, _⟩ => rfl)

/-- The difference of the two maps' weights. -/
theorem v42_eq (b : Fin 8) (h : Fin 4) (q k : Fin 2048) : val_main_v42 x0 x1 x2 x3 x4 (ix4 b h q k)
    = wt x0 b h 0 q k.val - lam x1 x2 x3 x4 * wt x0 b h 1 q k.val := by
  have e : val_main_v42 x0 x1 x2 x3 x4 (ix4 b h q k) = val_main_v35 x0 (ix5 b h 0 q k) - val_main_v14 x1 x2 x3 x4 ix0 * val_main_v35 x0 (ix5 b h 1 q k) := by
    rw [val_main_v42_apply, val_main_v41_apply, val_main_v40_apply, v37_eq, v39_eq]
    exact congrArg (fun t => val_main_v35 x0 (ix5 b h 0 q k) - val_main_v14 x1 x2 x3 x4 t * val_main_v35 x0 (ix5 b h 1 q k)) (funext fun a => a.elim0)
  rw [e, v35_eq, v35_eq, v14_eq]

/-- One coordinate of the difference of the two attentions. -/
def diff (b : Fin 8) (h : Fin 4) (q : Fin 2048) (e : Fin 128) : EReal :=
  ∑ j ∈ Finset.range 2048, x0 (ix3 b ⟨j % 2048, lt2048 _⟩ ⟨1024 + (h.val * 128 + e.val), by omega⟩)
    * (wt x0 b h 0 q j - lam x1 x2 x3 x4 * wt x0 b h 1 q j)

theorem v44_eq (b : Fin 8) (h : Fin 4) (q : Fin 2048) (e : Fin 128) : val_main_v44 x0 x1 x2 x3 x4 (ix4 b q h e) = diff x0 x1 x2 x3 x4 b h q e := by
  have e1 : val_main_v44 x0 x1 x2 x3 x4 (ix4 b q h e) = ∑ k : Fin 2048, val_main_v6 x0 (ix4 b k h e) * val_main_v42 x0 x1 x2 x3 x4 (ix4 b h q k) := by
    rw [val_main_v44_apply, val_main_v43_apply]
    refine Finset.sum_congr rfl fun k _ => ?_
    generalize val_main_v6 x0 = y
    generalize val_main_v42 x0 x1 x2 x3 x4 = z
    exact congrArg₂ (fun s t => y s * z t)
      (funext fun a => by match a with | ⟨0, _⟩ => rfl | ⟨1, _⟩ => rfl | ⟨2, _⟩ => rfl | ⟨3, _⟩ => rfl)
      (funext fun a => by match a with | ⟨0, _⟩ => rfl | ⟨1, _⟩ => rfl | ⟨2, _⟩ => rfl | ⟨3, _⟩ => rfl)
  rw [e1]
  simp only [v42_eq, v6_eq]
  refine Eq.trans (Finset.sum_congr rfl fun k _ => ?_) (Fin.sum_univ_eq_sum_range (fun j => x0 (ix3 b ⟨j % 2048, lt2048 _⟩ ⟨1024 + (h.val * 128 + e.val), by omega⟩)
    * (wt x0 b h 0 q j - lam x1 x2 x3 x4 * wt x0 b h 1 q j)) 2048)
  have hk : (⟨k.val % 2048, lt2048 _⟩ : Fin 2048) = k := Fin.ext (Nat.mod_eq_of_lt k.isLt)
  rw [hk]

/-- The root-mean-square norm of one head's 128 coordinates, with its weight and the factor 0.8. -/
def normed (w : Fin 128 → EReal) (g : EReal) (e : Fin 128) : EReal :=
  w e * Ideal.rsqrt (Ideal.div (∑ d : Fin 128, w d * w d) (Ideal.ofBits .f32 0x43000000#32) + Ideal.ofBits .f32 0x358637BD#32) * g
    * Ideal.ofBits .f32 0x3F4CCCCD#32

/-- One number of the reference's result. -/
theorem ref_row (b : Fin 8) (h : Fin 4) (q : Fin 2048) (e : Fin 128) : val_main_v61 x0 x1 x2 x3 x4 x5 (ix3 b q ⟨128 * h.val + e.val, by omega⟩)
    = normed (diff x0 x1 x2 x3 x4 b h q) (x5 (ix1 e)) e := by
  have e1 : val_main_v61 x0 x1 x2 x3 x4 x5 (ix3 b q ⟨128 * h.val + e.val, by omega⟩)
      = normed (fun d => val_main_v44 x0 x1 x2 x3 x4 (ix4 b q h d)) (x5 (ix1 e)) e := by
    unfold normed
    pointwise [val_main_v61, val_main_v60, val_main_v59, val_main_v58, val_main_v57, val_main_v56, val_main_v55, val_main_v54, val_main_v53,
      val_main_v52, val_main_v51, val_main_v50, val_main_v49, val_main_v48, val_main_v47, val_main_v46, val_main_v45, val_main_cst_7,
      val_main_cst_8, val_main_cst_9, val_main_cst_10]
  rw [e1]
  exact congrArg (fun w => normed w (x5 (ix1 e)) e) (funext fun d => v44_eq x0 x1 x2 x3 x4 b h q d)

end Cert.Reference5Ideal.Diff
end
-- ==== Proof.DiffBlock.lean ====
/-
  The differential attention kernel's payloads around its loop, over the extended reals: the queries of one map are the
  block's queries with the other map's 64 lanes set to 0 (`lane0`, `lane1`), the second map's factor (`lam_block`), and
  the block written at the end (`close_eq`).
-/
module

public import proofs.«01_k».proof.Proof.DiffStep
public import proofs.«01_k».proof.Proof.DiffRef

@[expose] public section

set_option maxRecDepth 16384

noncomputable section

open Idealize.ShloMosaic Idealize.ShloMosaic.TcCoe Idealize.SL.Sem
open Cert.Online

namespace Cert.Kernel5Ideal.Diff
open Cert.Kernel5Ideal Cert.Kernel5Ideal.Gen
open Cert.Reference5Ideal.Diff (normed)

theorem keep0 : ∀ x : Fin 128, IntOp.andi (IntOp.cmpi .sge (BitVec.ofNat 32 x.val) 0#32) (IntOp.cmpi .slt (BitVec.ofNat 32 x.val) 64#32)
    = BitVec.ofBool (decide (x.val < 64)) := by decide +kernel

theorem keep1 : ∀ x : Fin 128, IntOp.andi (IntOp.cmpi .sge (BitVec.ofNat 32 x.val) 64#32) (IntOp.cmpi .slt (BitVec.ofNat 32 x.val) 128#32)
    = BitVec.ofBool (decide (64 ≤ x.val)) := by decide +kernel

theorem lanes0 (q : Vec Ideal S1x256x128 .bf16) (r : Fin 256) (x : Fin 128) :
    k0_pay39 (F := Ideal) q (ix2 r x) = if x.val < 64 then q (ix3 0 r x) else 0 := by
  have e : k0_pay39 (F := Ideal) q (ix2 r x)
      = Scalar.select (IntOp.andi (IntOp.cmpi .sge (BitVec.ofNat 32 x.val) 0#32) (IntOp.cmpi .slt (BitVec.ofNat 32 x.val) 64#32)) (q (ix3 0 r x)) (0 : EReal) := by
    pointwise [k0_pay39, k0_pay38]
  rw [e, keep0]
  by_cases h : x.val < 64
  · rw [if_pos h, decide_eq_true h]; rfl
  · rw [if_neg h, decide_eq_false h]; rfl

theorem lanes1 (q : Vec Ideal S1x256x128 .bf16) (r : Fin 256) (x : Fin 128) :
    k0_pay40 (F := Ideal) q (ix2 r x) = if 64 ≤ x.val then q (ix3 0 r x) else 0 := by
  have e : k0_pay40 (F := Ideal) q (ix2 r x)
      = Scalar.select (IntOp.andi (IntOp.cmpi .sge (BitVec.ofNat 32 x.val) 64#32) (IntOp.cmpi .slt (BitVec.ofNat 32 x.val) 128#32)) (q (ix3 0 r x)) (0 : EReal) := by
    pointwise [k0_pay40, k0_pay38]
  rw [e, keep1]
  by_cases h : 64 ≤ x.val
  · rw [if_pos h, decide_eq_true h]; rfl
  · rw [if_neg h, decide_eq_false h]; rfl

/-- The score of the first map's queries: the other lanes add nothing. -/
theorem lane0 (q : Vec Ideal S1x256x128 .bf16) (x1 : Vec Ideal S1x2048x128 .bf16) (r : Fin 256) (j : ℕ) :
    score (k0_pay39 q) x1 r j = ∑ x : Fin 64, q (ix3 0 r ⟨x.val, by omega⟩) * x1 (ix3 0 ⟨j % 2048, lt2048 _⟩ ⟨x.val, by omega⟩) := by
  unfold score
  refine (Fin.sum_univ_add (a := 64) (b := 64) _).trans ?_
  have z : ∀ x : Fin 64, k0_pay39 (F := Ideal) q (ix2 r (Fin.natAdd 64 x)) * x1 (ix3 0 ⟨j % 2048, lt2048 _⟩ (Fin.natAdd 64 x)) = 0 := by
    intro x
    rw [lanes0, if_neg (by show ¬ 64 + x.val < 64; omega), zero_mul]
  rw [Finset.sum_congr rfl fun x _ => z x, Finset.sum_const_zero, add_zero]
  refine Finset.sum_congr rfl fun x _ => ?_
  rw [lanes0, if_pos (by show x.val < 64; omega)]
  rfl

/-- The score of the second map's queries. -/
theorem lane1 (q : Vec Ideal S1x256x128 .bf16) (x1 : Vec Ideal S1x2048x128 .bf16) (r : Fin 256) (j : ℕ) :
    score (k0_pay40 q) x1 r j = ∑ x : Fin 64, q (ix3 0 r ⟨64 + x.val, by omega⟩) * x1 (ix3 0 ⟨j % 2048, lt2048 _⟩ ⟨64 + x.val, by omega⟩) := by
  unfold score
  refine (Fin.sum_univ_add (a := 64) (b := 64) _).trans ?_
  have z : ∀ x : Fin 64, k0_pay40 (F := Ideal) q (ix2 r (Fin.castAdd 64 x)) * x1 (ix3 0 ⟨j % 2048, lt2048 _⟩ (Fin.castAdd 64 x)) = 0 := by
    intro x
    rw [lanes1, if_neg (by show ¬ 64 ≤ x.val; omega), zero_mul]
  rw [Finset.sum_congr rfl fun x _ => z x, Finset.sum_const_zero, zero_add]
  refine Finset.sum_congr rfl fun x _ => ?_
  rw [lanes1, if_pos (by show 64 ≤ 64 + x.val; omega)]
  rfl

/-- The second map's factor, from the four stacked vectors. -/
theorem lam_block (L : Vec Ideal S4x64 .f32) : k0_pay72 (F := Ideal) L (ix2 0 0)
    = Ideal.exp (∑ k : Fin 64, L (ix2 0 k) * L (ix2 1 k)) - Ideal.exp (∑ k : Fin 64, L (ix2 2 k) * L (ix2 3 k)) + Ideal.ofBits .f32 0x3E4CCCCD#32 := by
  pointwise [k0_pay72]

/-- One number of the output block, from the two maps' sums. -/
theorem close_eq (L : Vec Ideal S4x64 .f32) (a a' : Vec Ideal S1x256x128 .f32) (l l' : Vec Ideal S1x256x1 .f32) (g : Vec Ideal S1x128 .f32)
    (r : Fin 256) (d : Fin 128) :
    k0_pay1 (F := Ideal) (k0_pay72 L) (k0_pay73 a) (k0_pay74 l) a' l' g (ix3 0 r d)
      = normed (fun e => Ideal.div (a (ix3 0 r e)) (l (ix3 0 r 0)) - k0_pay72 (F := Ideal) L (ix2 0 0) * Ideal.div (a' (ix3 0 r e)) (l' (ix3 0 r 0)))
          (g (ix2 0 d)) d := by
  unfold normed
  generalize k0_pay72 (F := Ideal) L = P
  pointwise [k0_pay1, k0_pay73, k0_pay74]

end Cert.Kernel5Ideal.Diff
end
-- ==== Proof.DiffValue.lean ====
/-
  The differential attention kernel's result array is the reference's: every grid point's output block, at every row
  and column, is the reference's number there (`point`), and the blocks tile the array (`final`). The queries, keys,
  values and the factor's four vectors are taken finite (`finite_of_pre`): the scores, the weights and the factor are
  then real numbers, and the difference of the two quotients is the sum of the differences.
-/
module

public import proofs.«01_k».proof.Proof.DiffBlock
public import proofs.«01_k».proof.Proof.AttnValue
public import proofs.«01_k».proof.Pre_finite_p0
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Online

namespace Cert.Kernel5Ideal.Diff
open Cert.Kernel5Ideal Cert.Kernel5Ideal.Gen
open Cert.Reference5Ideal.Diff (normed rscore rmscore wt lam diff ref_row)
open Cert.KernelIdeal.Attn (finite_of_lt)

/-- A finite extended real is a real number. -/
theorem real_of {a : EReal} (h : a ≠ ⊤ ∧ a ≠ ⊥) : ∃ y : ℝ, a = y := ⟨a.toReal, (EReal.coe_toReal h.1 h.2).symm⟩

theorem real_mul {a b : EReal} (ha : ∃ y : ℝ, a = y) (hb : ∃ y : ℝ, b = y) : ∃ y : ℝ, a * b = y := by
  obtain ⟨x, rfl⟩ := ha
  obtain ⟨y, rfl⟩ := hb
  exact ⟨x * y, (EReal.coe_mul x y).symm⟩

theorem real_sum {n : ℕ} (f : Fin n → EReal) (h : ∀ x, ∃ y : ℝ, f x = y) : ∃ y : ℝ, ∑ x, f x = y := by
  choose y hy using h
  rw [Finset.sum_congr rfl fun x _ => hy x]
  exact ⟨_, coe_sum _ _⟩

/-- The projections' first 1536 columns, which the call reads, are finite. -/
def FiniteP (X : FVec Ideal S8x2048x2560 .bf16) : Prop := ∀ (b : Fin 8) (q : Fin 2048) (c : Fin 2560), c.val < 1536 → ∃ y : ℝ, X (ix3 b q c) = y

/-- A vector of finite numbers. -/
def FiniteV (X : FVec Ideal S64 .f32) : Prop := ∀ k : Fin 64, ∃ y : ℝ, X (ix1 k) = y

/-- What the precondition says. -/
theorem finite_of_pre [Cert.Pre_finite_p0.Facts] (x0 : FVec Ideal S8x2048x2560 .bf16) (x1 x2 x3 x4 : FVec Ideal S64 .f32) (x5 : FVec Ideal S128 .f32)
    (h : Cert.Pre_finite_p0.fn (F := Ideal) x0 x1 x2 x3 x4 x5 = fun _ => 1#1) :
    FiniteP x0 ∧ FiniteV x1 ∧ FiniteV x2 ∧ FiniteV x3 ∧ FiniteV x4 := by
  have hs : Subsingleton (⟨0, ![]⟩ : Shape).Idx := ⟨fun a b => funext fun k => k.elim0⟩
  have h0 := congrFun h ix0
  unfold Cert.Pre_finite_p0.fn Cert.Pre_finite_p0.fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun b q c hc => ?_, fun k => real_of (finite_of_lt _ (Host.reduce_andi_all _ _ _ _ _ h1 (ix1 k))),
    fun k => real_of (finite_of_lt _ (Host.reduce_andi_all _ _ _ _ _ h2 (ix1 k))),
    fun k => real_of (finite_of_lt _ (Host.reduce_andi_all _ _ _ _ _ h3 (ix1 k))),
    fun k => real_of (finite_of_lt _ (Host.reduce_andi_all _ _ _ _ _ h4 (ix1 k)))⟩
  have t := real_of (finite_of_lt _ (Host.reduce_andi_all _ _ _ _ _ h0 (ix3 b q ⟨c.val, hc⟩)))
  have e : extractStridedSlice Cert.Pre_finite_p0.S8x2048x1536 ![0, 0, 0] x0 Cert.Pre_finite_p0.Facts.slices_S8x2048x2560_S8x2048x1536_0_0_0
      (ix3 b q ⟨c.val, hc⟩) = x0 (ix3 b q c) := by
    pointwise
  exact e ▸ t

/-- A score of finite queries and keys is a real number. -/
theorem real_rscore (x0 : FVec Ideal S8x2048x2560 .bf16) (hx : FiniteP x0) (b : Fin 8) (h : Fin 4) (c : Fin 2) (q : Fin 2048) (j : ℕ) :
    ∃ y : ℝ, rscore x0 b h c q j = y := by
  unfold rscore
  refine real_sum _ fun x => real_mul (hx _ _ _ ?_) (hx _ _ _ ?_)
  · show h.val * 128 + c.val * 64 + x.val < 1536
    omega
  · show 512 + (h.val * 128 + c.val * 64 + x.val) < 1536
    omega

theorem rmscore_ne_top (x0 : FVec Ideal S8x2048x2560 .bf16) (hx : FiniteP x0) (b : Fin 8) (h : Fin 4) (c : Fin 2) (q : Fin 2048) (j : ℕ) :
    rmscore x0 b h c q j ≠ ⊤ := by
  unfold rmscore
  split
  · obtain ⟨y, e⟩ := real_rscore x0 hx b h c q j
    rw [e]
    exact EReal.coe_ne_top y
  · exact bot_ne_top

theorem rmscore_first (x0 : FVec Ideal S8x2048x2560 .bf16) (hx : FiniteP x0) (b : Fin 8) (h : Fin 4) (c : Fin 2) (q : Fin 2048) :
    rmscore x0 b h c q 0 ≠ ⊥ := by
  unfold rmscore
  rw [if_pos (by simp)]
  obtain ⟨y, e⟩ := real_rscore x0 hx b h c q 0
  rw [e]
  exact EReal.coe_ne_bot y

/-- The second map's factor is a real number. -/
theorem real_lam (x1 x2 x3 x4 : FVec Ideal S64 .f32) (h1 : FiniteV x1) (h2 : FiniteV x2) (h3 : FiniteV x3) (h4 : FiniteV x4) :
    ∃ y : ℝ, lam x1 x2 x3 x4 = y := by
  obtain ⟨a, ea⟩ := real_sum (fun k : Fin 64 => x1 (ix1 k) * x2 (ix1 k)) fun k => real_mul (h1 k) (h2 k)
  obtain ⟨b, eb⟩ := real_sum (fun k : Fin 64 => x3 (ix1 k) * x4 (ix1 k)) fun k => real_mul (h3 k) (h4 k)
  have ec : ∃ c : ℝ, Ideal.ofBits .f32 0x3E4CCCCD#32 = c := ⟨_, by simp [Ideal.ofBits, Ideal.ieee]; rfl⟩
  obtain ⟨c, ec⟩ := ec
  unfold lam
  rw [show ∑ k : Fin 64, x1 (ix1 k) * x2 (ix1 k) = (a : EReal) from ea, show ∑ k : Fin 64, x3 (ix1 k) * x4 (ix1 k) = (b : EReal) from eb, ec]
  exact ⟨Real.exp a - Real.exp b + c, by rw [EReal.coe_add, EReal.coe_sub]; rfl⟩

/-- The reference's result over the kernel's argument arrays. -/
abbrev REF (x0 : FVec Ideal S8x2048x2560 .bf16) (x1 x2 x3 x4 : FVec Ideal S64 .f32) (x5 : FVec Ideal S128 .f32) : FVec Ideal S8x2048x512 .bf16 :=
  Cert.Reference5Ideal.Read.val_main_v61 (F := Ideal) x0 x1 x2 x3 x4 x5

/-- Where each window's block lies, as functions of the grid point. -/
theorem idx : ∀ t : Fin cfg0.N, win0_0.index t = ![(grid0.coords t 0).val, (grid0.coords t 2).val, (grid0.coords t 1).val]
    ∧ win0_1.index t = ![(grid0.coords t 0).val, 0, 4 + (grid0.coords t 1).val]
    ∧ win0_2.index t = ![(grid0.coords t 0).val, 0, 8 + (grid0.coords t 1).val]
    ∧ win0_3.index t = ![0, 0]
    ∧ win0_4.index t = ![0, 0]
    ∧ win0_5.index t = ![(grid0.coords t 0).val, (grid0.coords t 2).val, (grid0.coords t 1).val] :=
  (by decide +kernel : ∀ t : Fin grid0.N, _)

/-- The four vectors stacked. -/
def stack (x1 x2 x3 x4 : FVec Ideal S64 .f32) : FVec Ideal S4x64 .f32 :=
  concatenate S4x64 0 [⟨S1x64, broadcastInDim S1x64 ![1] bcast_S64_S1x64_1 x1⟩, ⟨S1x64, broadcastInDim S1x64 ![1] bcast_S64_S1x64_1 x2⟩,
    ⟨S1x64, broadcastInDim S1x64 ![1] bcast_S64_S1x64_1 x3⟩, ⟨S1x64, broadcastInDim S1x64 ![1] bcast_S64_S1x64_1 x4⟩]
    concatenates_S1x64_S1x64_S1x64_S1x64_S4x64_d0

theorem stack0 (x1 x2 x3 x4 : FVec Ideal S64 .f32) (k : Fin 64) : stack x1 x2 x3 x4 (ix2 0 k) = x1 (ix1 k) := by
  pointwise [stack]

theorem stack1 (x1 x2 x3 x4 : FVec Ideal S64 .f32) (k : Fin 64) : stack x1 x2 x3 x4 (ix2 1 k) = x2 (ix1 k) := by
  pointwise [stack]

theorem stack2 (x1 x2 x3 x4 : FVec Ideal S64 .f32) (k : Fin 64) : stack x1 x2 x3 x4 (ix2 2 k) = x3 (ix1 k) := by
  pointwise [stack]

theorem stack3 (x1 x2 x3 x4 : FVec Ideal S64 .f32) (k : Fin 64) : stack x1 x2 x3 x4 (ix2 3 k) = x4 (ix1 k) := by
  pointwise [stack]

theorem row_at (x5 : FVec Ideal S128 .f32) (d : Fin 128) : shapeCast S1x128 x5 shapeCasts_S128_S1x128 (ix2 0 d) = x5 (ix1 d) := by
  pointwise

variable (m : (ℓ : Loc nD τ sig) → Buf (Elt Ideal) ℓ)

theorem V_v4 (c : Dev nD) : V m c main_v4 = stack (m ((c : Thread nD τ).loc main_arg1)) (m ((c : Thread nD τ).loc main_arg2))
    (m ((c : Thread nD τ).loc main_arg3)) (m ((c : Thread nD τ).loc main_arg4)) := by
  unfold V
  rfl

theorem V_v5 (c : Dev nD) : V m c main_v5 = shapeCast S1x128 (m ((c : Thread nD τ).loc main_arg5)) shapeCasts_S128_S1x128 := by
  unfold V
  rfl

theorem lam_at (c : Dev nD) (t : Fin cfg0.N) (g : Fin 4) (k : Fin 64) :
    iblk m c 3 t (ix2 g k) = stack (m ((c : Thread nD τ).loc main_arg1)) (m ((c : Thread nD τ).loc main_arg2))
      (m ((c : Thread nD τ).loc main_arg3)) (m ((c : Thread nD τ).loc main_arg4)) (ix2 g k) := by
  have e : (win0_3.blk t).view.emb (ix2 g k) = ix2 g k := by blk_ext [idx t]
  show V m c main_v4 ((win0_3.blk t).view.emb (ix2 g k)) = _
  rw [e, V_v4]

theorem subln_at (c : Dev nD) (t : Fin cfg0.N) (d : Fin 128) :
    iblk m c 4 t (ix2 0 d) = m ((c : Thread nD τ).loc main_arg5) (ix1 d) := by
  have e : (win0_4.blk t).view.emb (ix2 0 d) = ix2 0 d := by blk_ext [idx t]
  show V m c main_v5 ((win0_4.blk t).view.emb (ix2 0 d)) = _
  rw [e, V_v5]
  exact row_at _ d

theorem lam_eq (c : Dev nD) (t : Fin cfg0.N) : k0_pay72 (F := Ideal) (iblk m c 3 t) (ix2 0 0)
    = lam (m ((c : Thread nD τ).loc main_arg1)) (m ((c : Thread nD τ).loc main_arg2))
      (m ((c : Thread nD τ).loc main_arg3)) (m ((c : Thread nD τ).loc main_arg4)) := by
  rw [lam_block]
  simp only [lam_at, stack0, stack1, stack2, stack3]
  rfl

theorem score0_eq (c : Dev nD) (t : Fin cfg0.N) (b : Fin 8) (h : Fin 4) (i : Fin 8) (hb : b.val = (grid0.coords t 0).val)
    (hh : h.val = (grid0.coords t 1).val) (hi : i.val = (grid0.coords t 2).val) (r : Fin 256) (j : ℕ) :
    score (k0_pay39 (iblk m c 0 t)) (iblk m c 1 t) r j
      = rscore (m ((c : Thread nD τ).loc main_arg0)) b h 0 ⟨256 * i.val + r.val, by omega⟩ j := by
  rw [lane0]
  unfold rscore
  refine Finset.sum_congr rfl fun x _ => ?_
  blk_point [iblk, V, idx t]

theorem score1_eq (c : Dev nD) (t : Fin cfg0.N) (b : Fin 8) (h : Fin 4) (i : Fin 8) (hb : b.val = (grid0.coords t 0).val)
    (hh : h.val = (grid0.coords t 1).val) (hi : i.val = (grid0.coords t 2).val) (r : Fin 256) (j : ℕ) :
    score (k0_pay40 (iblk m c 0 t)) (iblk m c 1 t) r j
      = rscore (m ((c : Thread nD τ).loc main_arg0)) b h 1 ⟨256 * i.val + r.val, by omega⟩ j := by
  rw [lane1]
  unfold rscore
  refine Finset.sum_congr rfl fun x _ => ?_
  blk_point [iblk, V, idx t]

theorem value_eq (c : Dev nD) (t : Fin cfg0.N) (b : Fin 8) (h : Fin 4) (hb : b.val = (grid0.coords t 0).val)
    (hh : h.val = (grid0.coords t 1).val) (d : Fin 128) (j : ℕ) :
    value (iblk m c 2 t) d j = m ((c : Thread nD τ).loc main_arg0) (ix3 b ⟨j % 2048, lt2048 _⟩ ⟨1024 + (h.val * 128 + d.val), by omega⟩) := by
  unfold value
  blk_ext [iblk, V, idx t]

/-- One coordinate of the difference of the two attentions, before the norm. -/
theorem diff_eq (hp : ∀ c : Dev nD, FiniteP (m ((c : Thread nD τ).loc main_arg0))) (h1 : ∀ c : Dev nD, FiniteV (m ((c : Thread nD τ).loc main_arg1)))
    (h2 : ∀ c : Dev nD, FiniteV (m ((c : Thread nD τ).loc main_arg2))) (h3 : ∀ c : Dev nD, FiniteV (m ((c : Thread nD τ).loc main_arg3)))
    (h4 : ∀ c : Dev nD, FiniteV (m ((c : Thread nD τ).loc main_arg4)))
    (c : Dev nD) (t : Fin cfg0.N) (b : Fin 8) (h : Fin 4) (i : Fin 8) (hb : b.val = (grid0.coords t 0).val)
    (hh : h.val = (grid0.coords t 1).val) (hi : i.val = (grid0.coords t 2).val) (r : Fin 256) (d : Fin 128) :
    Ideal.div ((stepM (k0_pay39 (iblk m c 0 t)) (kb (iblk m c 1 t) i.val) (kb (iblk m c 2 t) i.val) (iter (k0_pay39 (iblk m c 0 t)) (iblk m c 1 t) (iblk m c 2 t) st00 i.val)).2.2 (ix3 0 r d))
        ((stepM (k0_pay39 (iblk m c 0 t)) (kb (iblk m c 1 t) i.val) (kb (iblk m c 2 t) i.val) (iter (k0_pay39 (iblk m c 0 t)) (iblk m c 1 t) (iblk m c 2 t) st00 i.val)).2.1 (ix3 0 r 0))
      - k0_pay72 (F := Ideal) (iblk m c 3 t) (ix2 0 0)
        * Ideal.div ((stepM (k0_pay40 (iblk m c 0 t)) (kb (iblk m c 1 t) i.val) (kb (iblk m c 2 t) i.val) (iter (k0_pay40 (iblk m c 0 t)) (iblk m c 1 t) (iblk m c 2 t) st01 i.val)).2.2 (ix3 0 r d))
          ((stepM (k0_pay40 (iblk m c 0 t)) (kb (iblk m c 1 t) i.val) (kb (iblk m c 2 t) i.val) (iter (k0_pay40 (iblk m c 0 t)) (iblk m c 1 t) (iblk m c 2 t) st01 i.val)).2.1 (ix3 0 r 0))
      = diff (m ((c : Thread nD τ).loc main_arg0)) (m ((c : Thread nD τ).loc main_arg1)) (m ((c : Thread nD τ).loc main_arg2))
          (m ((c : Thread nD τ).loc main_arg3)) (m ((c : Thread nD τ).loc main_arg4)) b h ⟨256 * i.val + r.val, by omega⟩ d := by
  have hs0 : score (k0_pay39 (iblk m c 0 t)) (iblk m c 1 t) r
      = rscore (m ((c : Thread nD τ).loc main_arg0)) b h 0 ⟨256 * i.val + r.val, by omega⟩ := funext fun j => score0_eq m c t b h i hb hh hi r j
  have hs1 : score (k0_pay40 (iblk m c 0 t)) (iblk m c 1 t) r
      = rscore (m ((c : Thread nD τ).loc main_arg0)) b h 1 ⟨256 * i.val + r.val, by omega⟩ := funext fun j => score1_eq m c t b h i hb hh hi r j
  have hm0 : mscore (k0_pay39 (iblk m c 0 t)) (iblk m c 1 t) i.val r
      = rmscore (m ((c : Thread nD τ).loc main_arg0)) b h 0 ⟨256 * i.val + r.val, by omega⟩ := by
    funext j
    unfold mscore rmscore
    rw [hs0]
  have hm1 : mscore (k0_pay40 (iblk m c 0 t)) (iblk m c 1 t) i.val r
      = rmscore (m ((c : Thread nD τ).loc main_arg0)) b h 1 ⟨256 * i.val + r.val, by omega⟩ := by
    funext j
    unfold mscore rmscore
    rw [hs1]
  have nt : ∀ (k : Fin 2) (j : ℕ), rscore (m ((c : Thread nD τ).loc main_arg0)) b h k ⟨256 * i.val + r.val, by omega⟩ j ≠ ⊤ := by
    intro k j
    obtain ⟨y, e⟩ := real_rscore _ (hp c) b h k ⟨256 * i.val + r.val, by omega⟩ j
    rw [e]
    exact EReal.coe_ne_top y
  have hv : value (iblk m c 2 t) d = fun j => m ((c : Thread nD τ).loc main_arg0) (ix3 b ⟨j % 2048, lt2048 _⟩ ⟨1024 + (h.val * 128 + d.val), by omega⟩) :=
    funext fun j => value_eq m c t b h hb hh d j
  rw [out_row _ _ _ _ r d start0 (fun j => by rw [hs0]; exact nt 0 j) i.val i.isLt,
    out_row _ _ _ _ r d start1 (fun j => by rw [hs1]; exact nt 1 j) i.val i.isLt, hm0, hm1, hv, lam_eq]
  exact num_div_sub _ _ _ (rmscore_ne_top _ (hp c) b h 0 _) (rmscore_ne_top _ (hp c) b h 1 _) (Finset.mem_range.mpr (by decide : 0 < 2048))
    (rmscore_first _ (hp c) b h 0 _) (rmscore_first _ (hp c) b h 1 _)
    (fun j => hp c _ _ _ (by show 1024 + (h.val * 128 + d.val) < 1536; omega)) _ (real_lam _ _ _ _ (h1 c) (h2 c) (h3 c) (h4 c))

/-- One number of one output block is the reference's number at its place in the array. -/
theorem point (hp : ∀ c : Dev nD, FiniteP (m ((c : Thread nD τ).loc main_arg0))) (h1 : ∀ c : Dev nD, FiniteV (m ((c : Thread nD τ).loc main_arg1)))
    (h2 : ∀ c : Dev nD, FiniteV (m ((c : Thread nD τ).loc main_arg2))) (h3 : ∀ c : Dev nD, FiniteV (m ((c : Thread nD τ).loc main_arg3)))
    (h4 : ∀ c : Dev nD, FiniteV (m ((c : Thread nD τ).loc main_arg4)))
    (c : Dev nD) (t : Fin cfg0.N) (b : Fin 8) (h : Fin 4) (i : Fin 8) (hb : b.val = (grid0.coords t 0).val)
    (hh : h.val = (grid0.coords t 1).val) (hi : i.val = (grid0.coords t 2).val) (r : Fin 256) (d : Fin 128) :
    outsAt0 m c t (ix3 0 r d)
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 b ⟨256 * i.val + r.val, by omega⟩ ⟨128 * h.val + d.val, by omega⟩) := by
  unfold outsAt0 REF
  rw [out_eq, ← hi, ref_row]
  refine (close_eq (iblk m c 3 t) _ _ _ _ (iblk m c 4 t) r d).trans ?_
  rw [subln_at]
  exact congrArg (fun w => normed w (m ((c : Thread nD τ).loc main_arg5) (ix1 d)) d)
    (funext fun e => diff_eq m hp h1 h2 h3 h4 c t b h i hb hh hi r e)

/-- The kernel's result array after the run is the reference's result of the same arguments. -/
theorem final (hp : ∀ c : Dev nD, FiniteP (m ((c : Thread nD τ).loc main_arg0))) (h1 : ∀ c : Dev nD, FiniteV (m ((c : Thread nD τ).loc main_arg1)))
    (h2 : ∀ c : Dev nD, FiniteV (m ((c : Thread nD τ).loc main_arg2))) (h3 : ∀ c : Dev nD, FiniteV (m ((c : Thread nD τ).loc main_arg3)))
    (h4 : ∀ c : Dev nD, FiniteV (m ((c : Thread nD τ).loc main_arg4))) (c : Dev nD) :
    (dats m 0 c).arrAt 5 (cfgs 0).N
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 5 _ (by decide +kernel) fun t _ y => ?_
  blk_simp
  rw [after0_5]
  have g0 : (grid0.coords t 0).val < 8 := (grid0.coords t 0).isLt
  have g1 : (grid0.coords t 1).val < 4 := (grid0.coords t 1).isLt
  have g2 : (grid0.coords t 2).val < 8 := (grid0.coords t 2).isLt
  have hy : y = ix3 0 (y 1) (y 2) := by
    funext a
    match a with
    | ⟨0, _⟩ => exact Fin.ext (by have := (y 0).isLt; change (y 0).val < 1 at this; show (y 0).val = 0; omega)
    | ⟨1, _⟩ => rfl
    | ⟨2, _⟩ => rfl
  rw [hy]
  refine (point m hp h1 h2 h3 h4 c t ⟨_, g0⟩ ⟨_, g1⟩ ⟨_, g2⟩ rfl rfl rfl (y 1) (y 2)).trans ?_
  blk_ext [idx t]

end Cert.Kernel5Ideal.Diff
end
-- ==== Proof.DiffClaim.lean ====
/-
  The claims about the differential attention call: the kernel and its idealization run and leave their arguments
  alone (generated), so does the reference, and at finite queries, keys, values and factor vectors both end with the
  same result.
-/
module

public import proofs.«01_k».proof.Defs
public import proofs.«01_k».proof.Proof.DiffValue
public import proofs.«01_k».proof.Proof.Gen.Kernel5.Frame
public import proofs.«01_k».proof.Proof.Gen.Reference5Ideal.Run
public import Idealize.ShloMosaic.Lib.Quiescent

@[expose] public section

noncomputable section

open Idealize.ShloMosaic Idealize.ShloMosaic.TcCoe Idealize.SL.Sem

namespace Cert.Proof.Diff

/-- The side conditions of the precondition's printed operations. -/
theorem preFacts : Cert.Pre_finite_p0.Facts where
  slices_S8x2048x2560_S8x2048x1536_0_0_0 := by decide
  bitsLt_bf16_f32 := by decide
  bcast_S_S8x2048x1536 := by decide
  reducesTo_S8x2048x1536_S_d0_1_2 := by decide
  h_S_ := by decide
  bcast_S_S64 := by decide
  reducesTo_S64_S_d0 := by decide

theorem frameKernel : Cert.quiescent_Kernel5 := fun m ρ _ => Cert.Kernel5.Gen.frame m ρ

theorem frameKernelIdeal : Cert.quiescent_Kernel5Ideal := fun m ρ _ => Cert.Kernel5Ideal.Gen.frame m ρ

theorem frameReferenceIdeal : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic [Cert.Pre_finite_p0.Facts] : Cert.algebraic_Kernel5Ideal_Reference5Ideal_pre_finite_p0 := by
  intro m g m' g' hpre hagree
  have hf := fun c : Dev Cert.Kernel5Ideal.nD => Cert.Kernel5Ideal.Diff.finite_of_pre _ _ _ _ _ _ (hpre c)
  refine ⟨fun c => (Cert.Kernel5Ideal.Gen.dats m 0 c).arrAt 5 (Cert.Kernel5Ideal.cfgs 0).N, Cert.Kernel5Ideal.Value.run_blocks m g, ?_⟩
  refine (θ_run _ _ _).mono (fun r h c => ⟨?_, (h c).2⟩) (Cert.Reference5Ideal.Value.run (F := Ideal) m' g')
  refine (h c).1.trans ?_
  rw [Cert.Reference5Ideal.Read.val_main_v61_eq m' c, (hagree c).1, (hagree c).2.1, (hagree c).2.2.1, (hagree c).2.2.2.1, (hagree c).2.2.2.2.1, (hagree c).2.2.2.2.2]
  exact (Cert.Kernel5Ideal.Diff.final m (fun c => (hf c).1) (fun c => (hf c).2.1) (fun c => (hf c).2.2.1) (fun c => (hf c).2.2.2.1)
    (fun c => (hf c).2.2.2.2) c).symm

end Cert.Proof.Diff

end
-- ==== Proof.PrepLayer.lean ====
/-
  The preparation of the latent attention, row by row: the rotary embedding of 64 lanes inside a block of 128, and the rows of
  queries, keys and values over heads of 256, 256 and 128 columns.
-/
module

public import proofs.«01_k».proof.Proof.Layer
public import Idealize.ShloMosaic.Lib.Pipeline.ValueKit

@[expose] public section

noncomputable section

open Idealize.ShloMosaic

namespace Cert.Layer

/-- The means over 256 and over 128 numbers divide by these words; the queries are multiplied by the third. -/
abbrev w256 : EReal := Ideal.ofBits .f32 0x43800000#32
abbrev w128 : EReal := Ideal.ofBits .f32 0x43000000#32
abbrev qscale : EReal := Ideal.ofBits .f32 0x3D93CD3A#32

/-- Lane `l` of 64 after the turn by the 32 angles whose cosines and sines are `cs` and `sn`. -/
def turn64 (cs sn : Fin 32 → EReal) (x : Fin 64 → EReal) (l : Fin 64) : EReal :=
  if h : l.val < 32 then x l * cs ⟨l.val, h⟩ - x ⟨32 + l.val, by omega⟩ * sn ⟨l.val, h⟩
  else x l * cs ⟨l.val - 32, by omega⟩ + x ⟨l.val - 32, by omega⟩ * sn ⟨l.val - 32, by omega⟩

/-- A block times a table, plus the block rotated one way times another, plus the block rotated the other way times a third. -/
def lanes32 (C A B x : Fin 128 → EReal) (l : Fin 128) : EReal :=
  x l * C l + x ⟨(l.val + 128 - 96) % 128, Nat.mod_lt _ (by omega)⟩ * A l + x ⟨(l.val + 128 - 32) % 128, Nat.mod_lt _ (by omega)⟩ * B l

/-- Against the tables `[cos, cos, 1, …]`, `[-sin, 0, 0, …]`, `[0, sin, 0, …]` the rotations turn the first 64 lanes and leave the rest. -/
theorem lanes32_eq (cs sn : Fin 32 → EReal) (C A B x : Fin 128 → EReal)
    (hC : ∀ l, C l = if h : l.val < 32 then cs ⟨l.val, h⟩ else if h : l.val - 32 < 32 then cs ⟨l.val - 32, h⟩ else 1)
    (hA : ∀ l, A l = if h : l.val < 32 then -sn ⟨l.val, h⟩ else 0)
    (hB : ∀ l, B l = if h : l.val < 32 then 0 else if h : l.val - 32 < 32 then sn ⟨l.val - 32, h⟩ else 0) (l : Fin 128) :
    lanes32 C A B x l = if h : l.val < 64 then turn64 cs sn (fun k => x ⟨k.val, by omega⟩) ⟨l.val, h⟩ else x l := by
  have hl := l.isLt
  unfold lanes32 turn64
  rw [hC, hA, hB]
  by_cases h : l.val < 32
  · rw [dif_pos h, dif_pos h, dif_pos h, dif_pos (by omega), dif_pos h, mul_zero, add_zero, mul_neg, ← sub_eq_add_neg]
    congr 3
    exact Fin.ext (by show (l.val + 128 - 96) % 128 = 32 + l.val; omega)
  · rw [dif_neg h, dif_neg h, dif_neg h]
    by_cases h' : l.val < 64
    · rw [dif_pos (by omega), dif_pos (by omega), dif_pos h', dif_neg h, mul_zero, add_zero]
      congr 3
      exact Fin.ext (by show (l.val + 128 - 32) % 128 = l.val - 32; omega)
    · rw [dif_neg (by omega), dif_neg (by omega), dif_neg h', mul_zero, mul_zero, add_zero, add_zero, mul_one]

/-- The queries of a row: of every head of 192 columns of `Q` the first 128 scaled, the last 64 turned and scaled, then 64 zeros. -/
def qrow (cs sn : Fin 32 → EReal) (Q : Fin 1152 → EReal) (c : Fin 1536) : EReal :=
  if h : c.val % 256 < 128 then Q ⟨c.val / 256 * 192 + c.val % 256, by omega⟩ * qscale
  else if h : c.val % 256 - 128 < 64 then turn64 cs sn (fun k => Q ⟨c.val / 256 * 192 + (128 + k.val), by omega⟩) ⟨c.val % 256 - 128, h⟩ * qscale
  else 0

/-- The keys of a row: of every head the first 128 columns of `K`, then the 64 turned lanes all heads share, then 64 zeros. -/
def krow (cs sn : Fin 32 → EReal) (K : Fin 1536 → EReal) (x : Fin 64 → EReal) (c : Fin 1536) : EReal :=
  if h : c.val % 256 < 128 then K c
  else if h : c.val % 256 - 128 < 64 then turn64 cs sn x ⟨c.val % 256 - 128, h⟩
  else 0

end Cert.Layer

end
-- ==== Proof.PrepRef.lean ====
/-
  The reference of the preparation of the latent attention, row by row: the two normalised parts of a token projected, the rotary
  lanes of the queries and of the shared key turned, the heads laid out.
-/
module

public import proofs.«01_k».proof.Proof.Gen.Reference6Ideal.Read
public import proofs.«01_k».proof.Proof.PrepLayer

@[expose] public section

set_option maxRecDepth 16384

noncomputable section

open Idealize.ShloMosaic Idealize.ShloMosaic.TcCoe Idealize.SL.Sem
open Cert.Layer

namespace Cert.Reference6Ideal.Prep
open Cert.Reference6Ideal Cert.Reference6Ideal.Gen Cert.Reference6Ideal.Read

variable (x0 : FVec Ideal S16384x768 .f32) (x1 : FVec Ideal S256 .f32) (x2 : FVec Ideal S256x1152 .f32) (x3 : FVec Ideal S128 .f32) (x4 : FVec Ideal S128x1536 .f32)

/-- Number `j` of token `s` of sequence `b`. -/
def tok (b : Fin 8) (s : Fin 2048) (j : Fin 768) : EReal := x0 (ix2 ⟨b.val * 2048 + s.val, by omega⟩ j)

theorem tok_at (b : Fin 8) (s : Fin 2048) (j : Fin 768) : val_main_v0 (F := Ideal) x0 (ix3 b s j) = tok x0 b s j := by
  unfold tok
  pointwise [val_main_v0]

/-- The queries' columns of a token, and the columns of its keys and values. -/
def qcol (b : Fin 8) (s : Fin 2048) (c : Fin 1152) : EReal :=
  dot (rms w256 (fun j : Fin 256 => tok x0 b s ⟨256 + j.val, by omega⟩) (fun j => x1 (ix1 j))) (fun j => x2 (ix2 j c))

def kvcol (b : Fin 8) (s : Fin 2048) (c : Fin 1536) : EReal :=
  dot (rms w128 (fun j : Fin 128 => tok x0 b s ⟨512 + j.val, by omega⟩) (fun j => x3 (ix1 j))) (fun j => x4 (ix2 j c))

theorem qcol_at (b : Fin 8) (s : Fin 2048) (c : Fin 1152) : val_main_v33 (F := Ideal) x0 x1 x2 (ix3 b s c) = qcol x0 x1 x2 b s c := by
  unfold qcol
  simp only [← tok_at x0]
  pointwise [val_main_v33, val_main_v32, val_main_v31, val_main_v30, val_main_v29, val_main_v28, val_main_v27, val_main_v26, val_main_v25, val_main_v24, val_main_v23, val_main_v22, val_main_v21, val_main_v20, val_main_v19, val_main_cst_3, val_main_cst_4, val_main_cst_5]
  rfl

theorem kvcol_at (b : Fin 8) (s : Fin 2048) (c : Fin 1536) : val_main_v70 (F := Ideal) x0 x3 x4 (ix3 b s c) = kvcol x0 x3 x4 b s c := by
  unfold kvcol
  simp only [← tok_at x0]
  pointwise [val_main_v70, val_main_v69, val_main_v68, val_main_v67, val_main_v66, val_main_v65, val_main_v64, val_main_v63, val_main_v62, val_main_v61, val_main_v60, val_main_v59, val_main_v58, val_main_v57, val_main_v56, val_main_cst_7, val_main_cst_8, val_main_cst_9]
  rfl

/-- The cosines and sines of token `s`. -/
abbrev cs (s : Fin 2048) (l : Fin 32) : EReal := val_main_v17 (F := Ideal) (ix2 s l)
abbrev sn (s : Fin 2048) (l : Fin 32) : EReal := val_main_v18 (F := Ideal) (ix2 s l)

theorem q36_at (b : Fin 8) (s : Fin 2048) (h : Fin 6) (e : Fin 64) :
    val_main_v52 (F := Ideal) x0 x1 x2 (ix4 b s h e)
      = turn64 (cs s) (sn s) (fun k => val_main_v33 (F := Ideal) x0 x1 x2 (ix3 b s ⟨h.val * 192 + (128 + k.val), by omega⟩)) e := by
  unfold turn64
  pointwise [val_main_v52, val_main_v50, val_main_v51, val_main_v49, val_main_v48, val_main_v47, val_main_v46, val_main_v45, val_main_v44, val_main_v43, val_main_v42, val_main_v41, val_main_v40, val_main_v39, val_main_v38, val_main_v37, val_main_v36, val_main_v34]
  by_cases h1 : e.val < 32
  · rw [dif_pos h1, dif_pos h1]
  · have e1 : 32 + (e.val - 32) = e.val := by omega
    rw [dif_neg h1, dif_neg h1, dif_pos (by omega)]
    simp only [e1]

theorem q53_at (b : Fin 8) (s : Fin 2048) (h : Fin 6) (e : Fin 192) :
    val_main_v55 (F := Ideal) x0 x1 x2 (ix4 b s h e)
      = (if h' : e.val < 128 then val_main_v33 (F := Ideal) x0 x1 x2 (ix3 b s ⟨h.val * 192 + e.val, by omega⟩)
        else val_main_v52 (F := Ideal) x0 x1 x2 (ix4 b s h ⟨e.val - 128, by omega⟩)) * qscale := by
  pointwise [val_main_v55, val_main_v54, val_main_v53, val_main_cst_6, val_main_v35, val_main_v34]

theorem k88_at (b : Fin 8) (s : Fin 2048) (e : Fin 64) :
    val_main_v88 (F := Ideal) x0 (ix3 b s e) = turn64 (cs s) (sn s) (fun k => tok x0 b s ⟨640 + k.val, by omega⟩) e := by
  unfold turn64
  simp only [← tok_at x0]
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72]
  by_cases h1 : e.val < 32
  · rw [dif_pos h1, dif_pos h1]
  · have e1 : 32 + (e.val - 32) = e.val := by omega
    rw [dif_neg h1, dif_neg h1, dif_pos (by omega)]
    simp only [e1]

theorem k92_at (b : Fin 8) (s : Fin 2048) (h : Fin 6) (e : Fin 192) :
    val_main_v92 (F := Ideal) x0 x3 x4 (ix4 b s h e)
      = if h' : e.val < 128 then val_main_v70 (F := Ideal) x0 x3 x4 (ix3 b s ⟨h.val * 256 + e.val, by omega⟩)
        else val_main_v88 (F := Ideal) x0 (ix3 b s ⟨e.val - 128, by omega⟩) := by
  pointwise [val_main_v92, val_main_v91, val_main_v90, val_main_v89, val_main_v71]

theorem v99_at (r : Fin 16384) (c : Fin 768) :
    val_main_v101 (F := Ideal) x0 x3 x4 (ix2 r c)
      = val_main_v70 (F := Ideal) x0 x3 x4 (ix3 ⟨r.val / 2048, by omega⟩ ⟨r.val % 2048, by omega⟩ ⟨c.val / 128 * 256 + (128 + c.val % 128), by omega⟩) := by
  pointwise [val_main_v101, val_main_v100, val_main_v99, val_main_v71]

/-- The heads of a row, each of 192 columns followed by 64 zeros. -/
theorem heads (X : FVec Ideal S8x2048x6x192 .f32) (r : Fin 16384) (c : Fin 1536) :
    shapeCast S16384x1536 (pad S8x2048x6x256 ![0, 0, 0, 0] ![0, 0, 0, 64] ![0, 0, 0, 0] X (sitofp (F := Ideal) .f32 (constantI S_ 32 0#32)) pads_S8x2048x6x192_S8x2048x6x256_000_000_000_0640 h_S_)
      shapeCasts_S8x2048x6x256_S16384x1536 (ix2 r c)
      = if h : c.val % 256 < 192 then X (ix4 ⟨r.val / 2048, by omega⟩ ⟨r.val % 2048, by omega⟩ ⟨c.val / 256, by omega⟩ ⟨c.val % 256, h⟩) else (0 : EReal) := by
  pointwise
  have h0 : r.val / 2048 < 8 ∧ r.val % 2048 < 2048 ∧ c.val / 256 < 6 := ⟨by omega, by omega, by omega⟩
  simp [FloatOps.sitofp, h0]

/-- The reference's row of queries. -/
theorem q_at (r : Fin 16384) (c : Fin 1536) :
    val_main_v95 (F := Ideal) x0 x1 x2 (ix2 r c)
      = qrow (cs ⟨r.val % 2048, by omega⟩) (sn ⟨r.val % 2048, by omega⟩) (qcol x0 x1 x2 ⟨r.val / 2048, by omega⟩ ⟨r.val % 2048, by omega⟩) c := by
  have hc := c.isLt
  refine (heads (val_main_v55 (F := Ideal) x0 x1 x2) r c).trans ?_
  unfold qrow
  by_cases h : c.val % 256 < 192
  · rw [dif_pos h, q53_at]
    by_cases h' : c.val % 256 < 128
    · rw [dif_pos h', dif_pos h', qcol_at]
    · rw [dif_neg h', dif_neg h', dif_pos (by omega), q36_at]
      simp only [qcol_at]
  · rw [dif_neg h, dif_neg (by omega), dif_neg (by omega)]

/-- The reference's row of keys. -/
theorem k_at (r : Fin 16384) (c : Fin 1536) :
    val_main_v98 (F := Ideal) x0 x3 x4 (ix2 r c)
      = krow (cs ⟨r.val % 2048, by omega⟩) (sn ⟨r.val % 2048, by omega⟩) (kvcol x0 x3 x4 ⟨r.val / 2048, by omega⟩ ⟨r.val % 2048, by omega⟩)
        (fun k => tok x0 ⟨r.val / 2048, by omega⟩ ⟨r.val % 2048, by omega⟩ ⟨640 + k.val, by omega⟩) c := by
  have hc := c.isLt
  have e1 : c.val / 256 * 256 + c.val % 256 = c.val := by omega
  refine (heads (val_main_v92 (F := Ideal) x0 x3 x4) r c).trans ?_
  unfold krow
  by_cases h : c.val % 256 < 192
  · rw [dif_pos h, k92_at]
    by_cases h' : c.val % 256 < 128
    · rw [dif_pos h', dif_pos h', kvcol_at]
      simp only [e1]
    · rw [dif_neg h', dif_neg h', dif_pos (by omega), k88_at]
  · rw [dif_neg h, dif_neg (by omega), dif_neg (by omega)]

/-- The reference's row of values. -/
theorem v_at (r : Fin 16384) (c : Fin 768) :
    val_main_v101 (F := Ideal) x0 x3 x4 (ix2 r c)
      = kvcol x0 x3 x4 ⟨r.val / 2048, by omega⟩ ⟨r.val % 2048, by omega⟩ ⟨c.val / 128 * 256 + (128 + c.val % 128), by omega⟩ :=
  (v99_at x0 x3 x4 r c).trans (kvcol_at x0 x3 x4 _ _ _)

end Cert.Reference6Ideal.Prep

end
-- ==== Proof.PrepValue.lean ====
/-
  What one block of the preparation of the latent attention leaves: every row normalised and projected, the rotary columns of each
  head of the queries turned by whole-block rotations, the key's lanes carried to every head by a product.
-/
module

public import proofs.«01_k».proof.Proof.PrepLayer
public import proofs.«01_k».proof.Proof.Gen.Kernel6Ideal.Frame
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Layer

namespace Cert.Layer

/-- The columns of the projected queries `P`: of every 256 the first 128 scaled, the next 128 turned by `f` and scaled. -/
def qblk (f : (Fin 128 → EReal) → Fin 128 → EReal) (P : Fin 1536 → EReal) (c : Fin 1536) : EReal :=
  if h : c.val % 256 < 128 then P c * qscale
  else f (fun l => P ⟨c.val / 128 * 128 + l.val, by omega⟩) ⟨c.val % 128, by omega⟩ * qscale

theorem qblk_plain (f : (Fin 128 → EReal) → Fin 128 → EReal) (P : Fin 1536 → EReal) (o : ℕ) (ho : o % 256 = 0) (ho' : o + 128 ≤ 1536) (l : Fin 128) :
    qblk f P ⟨o + l.val, by omega⟩ = P ⟨o + l.val, by omega⟩ * qscale := by
  have hl := l.isLt
  unfold qblk
  rw [dif_pos (by dsimp only; omega)]

theorem qblk_turned (f : (Fin 128 → EReal) → Fin 128 → EReal) (P : Fin 1536 → EReal) (o : ℕ) (ho : o % 256 = 128) (ho' : o + 128 ≤ 1536) (l : Fin 128) :
    qblk f P ⟨o + l.val, by omega⟩ = f (fun l => P ⟨o + l.val, by omega⟩) l * qscale := by
  have hl := l.isLt
  unfold qblk
  rw [dif_neg (by dsimp only; omega)]
  have e1 : (o + l.val) / 128 * 128 = o := by omega
  have e2 : (⟨(o + l.val) % 128, by omega⟩ : Fin 128) = l := Fin.ext (by dsimp only; omega)
  dsimp only
  simp only [e1, e2]

end Cert.Layer

namespace Cert.Kernel6Ideal.Prep
open Cert.Kernel6Ideal Cert.Kernel6Ideal.Gen

/-- The projected queries of a row. -/
theorem q_at (v6 : Vec Ideal S512x256 .f32) (v7 : Vec Ideal S1x256 .f32) (v22 : Vec Ideal S256x1536 .bf16) (r : Fin 512) (c : Fin 1536) :
    k0_pay6 v6 v7 v22 (ix2 r c) = dot (rms w256 (fun j => v6 (ix2 r j)) (fun j => v7 (ix2 0 j))) (fun j => v22 (ix2 j c)) := by
  pointwise [k0_pay6]
  rfl

/-- The normalised latent row. -/
theorem ckv_at (v127 : Vec Ideal S512x128 .f32) (v128 : Vec Ideal S1x128 .f32) (r : Fin 512) (c : Fin 128) :
    k0_pay24 v127 v128 (ix2 r c) = rms w128 (fun j => v127 (ix2 r j)) (fun j => v128 (ix2 0 j)) c := by
  pointwise [k0_pay24]
  rfl

theorem kr_at (C A B : FVec Ideal S512x128 .f32) (x : Vec Ideal S512x128 .f32) (r : Fin 512) (l : Fin 128) :
    k0_pay25 C A B x (ix2 r l) = lanes32 (fun l => C (ix2 r l)) (fun l => A (ix2 r l)) (fun l => B (ix2 r l)) (fun l => x (ix2 r l)) l := by
  unfold lanes32
  pointwise [k0_pay25]

theorem k_at (X Y : FVec Ideal S512x128 .bf16) (W : Vec Ideal S256x1536 .bf16) (r : Fin 512) (c : Fin 1536) :
    k0_pay1 X Y W (ix2 r c) = ∑ j : Fin 256, (if h : j.val < 128 then X (ix2 r ⟨j.val, h⟩) else Y (ix2 r ⟨j.val - 128, by omega⟩) : EReal) * W (ix2 j c) := by
  pointwise [k0_pay1]

theorem v_at (X : FVec Ideal S512x128 .bf16) (W : Vec Ideal S128x768 .bf16) (r : Fin 512) (c : Fin 768) :
    k0_pay2 X W (ix2 r c) = dot (fun j => X (ix2 r j)) (fun j => W (ix2 j c)) := by
  pointwise [k0_pay2]
  rfl

theorem pay_table (T : Vec Ideal S512x128 .f32) : k0_pay3 T = T ∧ k0_pay4 T = T ∧ k0_pay5 T = T := by
  refine ⟨?_, ?_, ?_⟩ <;> exact shapeCast_self _ _

/-! The scaled columns. -/

theorem pay7_at (v6 : Vec Ideal S512x256 .f32) (v7 : Vec Ideal S1x256 .f32) (v22 : Vec Ideal S256x1536 .bf16) (r : Fin 512) (l : Fin 128) :
    k0_pay7 v6 v7 v22 (ix2 r l) = k0_pay6 v6 v7 v22 (ix2 r ⟨0 + l.val, by omega⟩) * qscale := by
  simp only [Nat.zero_add]
  pointwise [k0_pay7]

theorem pay12_at (P : FVec Ideal S512x1536 .f32) (r : Fin 512) (l : Fin 128) : k0_pay12 P (ix2 r l) = P (ix2 r ⟨256 + l.val, by omega⟩) * qscale := by
  pointwise [k0_pay12]

theorem pay14_at (P : FVec Ideal S512x1536 .f32) (r : Fin 512) (l : Fin 128) : k0_pay14 P (ix2 r l) = P (ix2 r ⟨512 + l.val, by omega⟩) * qscale := by
  pointwise [k0_pay14]

theorem pay16_at (P : FVec Ideal S512x1536 .f32) (r : Fin 512) (l : Fin 128) : k0_pay16 P (ix2 r l) = P (ix2 r ⟨768 + l.val, by omega⟩) * qscale := by
  pointwise [k0_pay16]

theorem pay18_at (P : FVec Ideal S512x1536 .f32) (r : Fin 512) (l : Fin 128) : k0_pay18 P (ix2 r l) = P (ix2 r ⟨1024 + l.val, by omega⟩) * qscale := by
  pointwise [k0_pay18]

theorem pay22_at (P : FVec Ideal S512x1536 .f32) (r : Fin 512) (l : Fin 128) :
    k0_pay22 (k0_pay20 P) k0_pay21 (ix2 r l) = P (ix2 r ⟨1280 + l.val, by omega⟩) * qscale := by
  pointwise [k0_pay22, k0_pay20, k0_pay21]

/-! The turned columns. -/

theorem pay11_at (v6 : Vec Ideal S512x256 .f32) (v7 : Vec Ideal S1x256 .f32) (v22 : Vec Ideal S256x1536 .bf16) (C A B : Vec Ideal S512x128 .f32) (r : Fin 512) (l : Fin 128) :
    k0_pay11 (k0_pay9 C A v6 v7 v22) (k0_pay10 B v6 v7 v22) (ix2 r l)
      = lanes32 (fun l => C (ix2 r l)) (fun l => A (ix2 r l)) (fun l => B (ix2 r l)) (fun l => k0_pay6 v6 v7 v22 (ix2 r ⟨128 + l.val, by omega⟩)) l * qscale := by
  unfold lanes32
  pointwise [k0_pay11, k0_pay9, k0_pay10, k0_pay8, k0_pay3, k0_pay4, k0_pay5]

theorem pay13_at (P : FVec Ideal S512x1536 .f32) (C A B : FVec Ideal S512x128 .f32) (r : Fin 512) (l : Fin 128) :
    k0_pay13 C A B P (ix2 r l) = lanes32 (fun l => C (ix2 r l)) (fun l => A (ix2 r l)) (fun l => B (ix2 r l)) (fun l => P (ix2 r ⟨384 + l.val, by omega⟩)) l * qscale := by
  unfold lanes32
  pointwise [k0_pay13]

theorem pay15_at (P : FVec Ideal S512x1536 .f32) (C A B : FVec Ideal S512x128 .f32) (r : Fin 512) (l : Fin 128) :
    k0_pay15 C A B P (ix2 r l) = lanes32 (fun l => C (ix2 r l)) (fun l => A (ix2 r l)) (fun l => B (ix2 r l)) (fun l => P (ix2 r ⟨640 + l.val, by omega⟩)) l * qscale := by
  unfold lanes32
  pointwise [k0_pay15]

theorem pay17_at (P : FVec Ideal S512x1536 .f32) (C A B : FVec Ideal S512x128 .f32) (r : Fin 512) (l : Fin 128) :
    k0_pay17 C A B P (ix2 r l) = lanes32 (fun l => C (ix2 r l)) (fun l => A (ix2 r l)) (fun l => B (ix2 r l)) (fun l => P (ix2 r ⟨896 + l.val, by omega⟩)) l * qscale := by
  unfold lanes32
  pointwise [k0_pay17]

theorem pay19_at (P : FVec Ideal S512x1536 .f32) (C A B : FVec Ideal S512x128 .f32) (r : Fin 512) (l : Fin 128) :
    k0_pay19 C A B P (ix2 r l) = lanes32 (fun l => C (ix2 r l)) (fun l => A (ix2 r l)) (fun l => B (ix2 r l)) (fun l => P (ix2 r ⟨1152 + l.val, by omega⟩)) l * qscale := by
  unfold lanes32
  pointwise [k0_pay19]

theorem pay23_at (P : FVec Ideal S512x1536 .f32) (C A B : FVec Ideal S512x128 .f32) (r : Fin 512) (l : Fin 128) :
    k0_pay23 C A B P (ix2 r l) = lanes32 (fun l => C (ix2 r l)) (fun l => A (ix2 r l)) (fun l => B (ix2 r l)) (fun l => P (ix2 r ⟨1408 + l.val, by omega⟩)) l * qscale := by
  unfold lanes32
  pointwise [k0_pay23]

/-- A block of the queries, from its projected rows and its tables. -/
def block (P : FVec Ideal S512x1536 .f32) (C A B : FVec Ideal S512x128 .f32) : Vec Ideal S512x1536 .bf16 :=
  fun y => qblk (lanes32 (fun l => C (ix2 (y 0) l)) (fun l => A (ix2 (y 0) l)) (fun l => B (ix2 (y 0) l))) (fun j => P (ix2 (y 0) j)) (y 1)

theorem block_at (P : FVec Ideal S512x1536 .f32) (C A B : FVec Ideal S512x128 .f32) (r : Fin 512) (c : Fin 1536) :
    block P C A B (ix2 r c) = qblk (lanes32 (fun l => C (ix2 r l)) (fun l => A (ix2 r l)) (fun l => B (ix2 r l))) (fun j => P (ix2 r j)) c := rfl

/-- A piece of whole rows holds what `G` says when it does so number by number. -/
theorem tile {n o : ℕ} (inb : ∀ a, (![0, o] : Fin 2 → ℕ) a + (![512, n] : Fin 2 → ℕ) a ≤ S512x1536.size a)
    (G : Vec Ideal S512x1536 .bf16) (P : (Rect.unit (s := S512x1536) ![0, o] ![512, n] inb).shape.Idx → EReal)
    (hP : ∀ (a : Fin 512) (b : Fin n), P (ix2 a b) = G (ix2 a (⟨o + b.val, Nat.lt_of_lt_of_le (Nat.add_lt_add_left b.isLt o) (inb 1)⟩ : Fin 1536)))
    (x : (Rect.unit (s := S512x1536) ![0, o] ![512, n] inb).shape.Idx) :
    P x = G ((Rect.unit (s := S512x1536) ![0, o] ![512, n] inb).emb x) := by
  have ho : o + n ≤ 1536 := inb 1
  have h0 : (x 0).val < 512 := (x 0).isLt
  have h1 : (x 1).val < n := (x 1).isLt
  have hx : x = ix2 (⟨(x 0).val, h0⟩ : Fin 512) (⟨(x 1).val, h1⟩ : Fin n) := funext fun a => Fin.ext (by match a with | ⟨0, _⟩ => rfl | ⟨1, _⟩ => rfl)
  have e : (Rect.unit (s := S512x1536) ![0, o] ![512, n] inb).emb x = ix2 (⟨(x 0).val, h0⟩ : Fin 512) (⟨o + (x 1).val, by omega⟩ : Fin 1536) :=
    funext fun a => Fin.ext (by
      match a with
      | ⟨0, _⟩ => show 0 + 1 * (x 0).val = (x 0).val; omega
      | ⟨1, _⟩ => show o + 1 * (x 1).val = o + (x 1).val; omega)
  have := hP ⟨(x 0).val, h0⟩ ⟨(x 1).val, h1⟩
  rw [← hx] at this
  rw [e]
  exact this

variable (X0 : Vec Ideal S512x256 .f32) (X1 X2 : Vec Ideal S512x128 .f32) (X3 : Vec Ideal S1x256 .f32) (X4 : Vec Ideal S1x128 .f32) (X5 X6 : Vec Ideal S256x1536 .bf16)
  (X7 : Vec Ideal S128x768 .bf16) (C A B : Vec Ideal S512x128 .f32)

/-- The queries the body leaves at row `r` of its block, over the block's inputs. -/
theorem out_q (r : Fin 512) (e : Fin 1536) : out0_11 X0 X1 X2 X3 X4 X5 X6 X7 C A B (ix2 r e)
    = qblk (lanes32 (fun l => C (ix2 r l)) (fun l => A (ix2 r l)) (fun l => B (ix2 r l)))
      (fun k => dot (rms w256 (fun j => X0 (ix2 r j)) (fun j => X3 (ix2 0 j))) (fun j => X5 (ix2 j k))) e := by
  unfold_out out0_11
  frame_out
  rw [(pay_table C).1, (pay_table A).2.1, (pay_table B).2.2]
  refine (View.canon_apply_of_pieces (block (k0_pay6 X0 X3 X5) C A B) _ ?_ _ (View.cover_of_tiledBy _ ![512, 128] (by sl_kernel_rfl) _)).trans ?_
  · refine List.forall_mem_cons.2 ⟨tile inb_S512x1536_S512x128_0_1408 _ _ fun r l => (pay23_at _ C A B r l).trans (qblk_turned _ (fun j => k0_pay6 X0 X3 X5 (ix2 r j)) 1408 (by omega) (by omega) l).symm,
      List.forall_mem_cons.2 ⟨tile inb_S512x1536_S512x128_0_1280 _ _ fun r l => (pay22_at _ r l).trans (qblk_plain _ (fun j => k0_pay6 X0 X3 X5 (ix2 r j)) 1280 (by omega) (by omega) l).symm,
      List.forall_mem_cons.2 ⟨tile inb_S512x1536_S512x128_0_1152 _ _ fun r l => (pay19_at _ C A B r l).trans (qblk_turned _ (fun j => k0_pay6 X0 X3 X5 (ix2 r j)) 1152 (by omega) (by omega) l).symm,
      List.forall_mem_cons.2 ⟨tile inb_S512x1536_S512x128_0_1024 _ _ fun r l => (pay18_at _ r l).trans (qblk_plain _ (fun j => k0_pay6 X0 X3 X5 (ix2 r j)) 1024 (by omega) (by omega) l).symm,
      List.forall_mem_cons.2 ⟨tile inb_S512x1536_S512x128_0_896 _ _ fun r l => (pay17_at _ C A B r l).trans (qblk_turned _ (fun j => k0_pay6 X0 X3 X5 (ix2 r j)) 896 (by omega) (by omega) l).symm,
      List.forall_mem_cons.2 ⟨tile inb_S512x1536_S512x128_0_768 _ _ fun r l => (pay16_at _ r l).trans (qblk_plain _ (fun j => k0_pay6 X0 X3 X5 (ix2 r j)) 768 (by omega) (by omega) l).symm,
      List.forall_mem_cons.2 ⟨tile inb_S512x1536_S512x128_0_640 _ _ fun r l => (pay15_at _ C A B r l).trans (qblk_turned _ (fun j => k0_pay6 X0 X3 X5 (ix2 r j)) 640 (by omega) (by omega) l).symm,
      List.forall_mem_cons.2 ⟨tile inb_S512x1536_S512x128_0_512 _ _ fun r l => (pay14_at _ r l).trans (qblk_plain _ (fun j => k0_pay6 X0 X3 X5 (ix2 r j)) 512 (by omega) (by omega) l).symm,
      List.forall_mem_cons.2 ⟨tile inb_S512x1536_S512x128_0_384 _ _ fun r l => (pay13_at _ C A B r l).trans (qblk_turned _ (fun j => k0_pay6 X0 X3 X5 (ix2 r j)) 384 (by omega) (by omega) l).symm,
      List.forall_mem_cons.2 ⟨tile inb_S512x1536_S512x128_0_256 _ _ fun r l => (pay12_at _ r l).trans (qblk_plain _ (fun j => k0_pay6 X0 X3 X5 (ix2 r j)) 256 (by omega) (by omega) l).symm,
      List.forall_mem_cons.2 ⟨tile inb_S512x1536_S512x128_0_128 _ _ fun r l => (pay11_at _ _ _ C A B r l).trans (qblk_turned _ (fun j => k0_pay6 X0 X3 X5 (ix2 r j)) 128 (by omega) (by omega) l).symm,
      List.forall_mem_cons.2 ⟨tile inb_S512x1536_S512x128_0_0 _ _ fun r l => (pay7_at _ _ _ r l).trans (qblk_plain _ (fun j => k0_pay6 X0 X3 X5 (ix2 r j)) 0 (by omega) (by omega) l).symm,
      fun p hp => absurd hp List.not_mem_nil⟩⟩⟩⟩⟩⟩⟩⟩⟩⟩⟩⟩
  · rw [block_at]
    simp only [q_at]

/-- The keys. -/
theorem out_k (r : Fin 512) (e : Fin 1536) : out0_12 X0 X1 X2 X3 X4 X5 X6 X7 C A B (ix2 r e)
    = ∑ j : Fin 256, (if h : j.val < 128 then rms w128 (fun j => X1 (ix2 r j)) (fun j => X4 (ix2 0 j)) ⟨j.val, h⟩
        else lanes32 (fun l => C (ix2 r l)) (fun l => A (ix2 r l)) (fun l => B (ix2 r l)) (fun l => X2 (ix2 r l)) ⟨j.val - 128, by omega⟩ : EReal)
      * X6 (ix2 j e) := by
  unfold_out out0_12
  frame_out
  rw [(pay_table C).1, (pay_table A).2.1, (pay_table B).2.2]
  refine (k_at _ _ _ r e).trans ?_
  simp only [ckv_at, kr_at]

/-- The values. -/
theorem out_v (r : Fin 512) (e : Fin 768) : out0_13 X0 X1 X2 X3 X4 X5 X6 X7 C A B (ix2 r e)
    = dot (rms w128 (fun j => X1 (ix2 r j)) (fun j => X4 (ix2 0 j))) (fun j => X7 (ix2 j e)) := by
  unfold_out out0_13
  frame_out
  refine (v_at _ _ r e).trans ?_
  simp only [ckv_at]

end Cert.Kernel6Ideal.Prep

end
-- ==== Proof.PrepHost.lean ====
/-
  The arrays the host code lays out for the preparation of the latent attention: the rotary tables over a block of 128 lanes, the
  weights of the queries with 64 columns of zeros after every head, the weights of the keys above a matrix of ones and zeros that
  carries the key's lanes to every head, and the weights of the values.
-/
module

public import proofs.«01_k».proof.Proof.PrepLayer
public import proofs.«01_k».proof.Proof.Gen.Kernel6Ideal.Frame

@[expose] public section

set_option maxRecDepth 16384

noncomputable section

open Idealize.ShloMosaic Idealize.ShloMosaic.TcCoe Idealize.SL.Sem
open Cert.Layer

namespace Cert.Kernel6Ideal.Prep
open Cert.Kernel6Ideal Cert.Kernel6Ideal.Gen

/-! The tables. -/

abbrev flat (T : FVec Ideal S2048x128 .f32) : FVec Ideal S2048x128 .f32 :=
  shapeCast S2048x128 (broadcastInDim S1x2048x1x128 ![0, 1, 2, 3] bcast_S1x2048x1x128_S1x2048x1x128_0_1_2_3 (shapeCast S1x2048x1x128 T shapeCasts_S2048x128_S1x2048x1x128))
    shapeCasts_S1x2048x1x128_S2048x128

abbrev three (X Y : FVec Ideal S2048x32 .f32) (Z : FVec Ideal S2048x64 .f32) : FVec Ideal S2048x128 .f32 :=
  concatenate S2048x128 1 [⟨S2048x32, X⟩, ⟨S2048x32, Y⟩, ⟨S2048x64, Z⟩] concatenates_S2048x32_S2048x32_S2048x64_S2048x128_d1

abbrev full32 (w : BitVec 32) : FVec Ideal S2048x32 .f32 := broadcastInDim S2048x32 ![] bcast_S_S2048x32 (constant (F := Ideal) S_ .f32 w)
abbrev full64 (w : BitVec 32) : FVec Ideal S2048x64 .f32 := broadcastInDim S2048x64 ![] bcast_S_S2048x64 (constant (F := Ideal) S_ .f32 w)

theorem one : Ideal.ofBits .f32 0x3F800000#32 = 1 := by
  simp [Ideal.ofBits, Ideal.ieee]
  rw [← EReal.coe_mul]
  norm_num

theorem table_cos (X : FVec Ideal S2048x32 .f32) (s : Fin 2048) (l : Fin 128) : flat (three X X (full64 0x3F800000#32)) (ix2 s l)
    = if h : l.val < 32 then X (ix2 s ⟨l.val, h⟩) else if h : l.val - 32 < 32 then X (ix2 s ⟨l.val - 32, h⟩) else (1 : EReal) := by
  rw [← one]
  pointwise

theorem table_sub (X : FVec Ideal S2048x32 .f32) (s : Fin 2048) (l : Fin 128) :
    flat (three (Host.negf (F := Ideal) X) (full32 0x00000000#32) (full64 0x00000000#32)) (ix2 s l)
      = if h : l.val < 32 then -(X (ix2 s ⟨l.val, h⟩) : EReal) else (0 : EReal) := by
  pointwise
  simp

theorem table_add (X : FVec Ideal S2048x32 .f32) (s : Fin 2048) (l : Fin 128) :
    flat (three (full32 0x00000000#32) X (full64 0x00000000#32)) (ix2 s l)
      = if h : l.val < 32 then (0 : EReal) else if h : l.val - 32 < 32 then X (ix2 s ⟨l.val - 32, h⟩) else (0 : EReal) := by
  pointwise

/-! The weights. -/

abbrev zero : FVec Ideal S_ .f32 := sitofp (F := Ideal) .f32 (constantI S_ 32 0#32)

abbrev wq (X : FVec Ideal S256x1152 .f32) : FVec Ideal S256x1536 .bf16 :=
  truncf (F := Ideal) .bf16 (shapeCast S256x1536 (pad S256x6x256 ![0, 0, 0] ![0, 0, 64] ![0, 0, 0] (shapeCast S256x6x192 X shapeCasts_S256x1152_S256x6x192)
    zero pads_S256x6x192_S256x6x256_000_000_0640 h_S_) shapeCasts_S256x6x256_S256x1536) bitsLt_bf16_f32

theorem wq_at (X : FVec Ideal S256x1152 .f32) (j : Fin 256) (k : Fin 1536) :
    wq X (ix2 j k) = if h : k.val % 256 < 192 then X (ix2 j ⟨k.val / 256 * 192 + k.val % 256, by omega⟩) else (0 : EReal) := by
  pointwise
  have h6 : k.val / 256 < 6 := by omega
  simp [FloatOps.sitofp, h6]

abbrev wv (X : FVec Ideal S128x1536 .f32) : FVec Ideal S128x768 .bf16 :=
  truncf (F := Ideal) .bf16 (shapeCast S128x768 (extractStridedSlice S128x6x128 ![0, 0, 128] (shapeCast S128x6x256 X shapeCasts_S128x1536_S128x6x256)
    slices_S128x6x256_S128x6x128_0_0_128) shapeCasts_S128x6x128_S128x768) bitsLt_bf16_f32

theorem wv_at (X : FVec Ideal S128x1536 .f32) (j : Fin 128) (k : Fin 768) :
    wv X (ix2 j k) = X (ix2 j ⟨k.val / 128 * 256 + (128 + k.val % 128), by omega⟩) := by
  pointwise

/-- Ones on the diagonal of 64 lanes. -/
abbrev eye : FVec Ideal S64x64 .f32 :=
  uitofp (F := Ideal) .f32 (cmpi .eq (addi (iotaInDim S64x64 32 0) (broadcastInDim S64x64 ![] bcast_S_S64x64 (constantI S_ 32 0#32))) (iotaInDim S64x64 32 1))

theorem eye_at (i j : Fin 64) : eye (ix2 i j) = if i = j then (1 : EReal) else 0 := by
  pointwise
  by_cases h : i = j
  · subst h
    simp [FloatOps.uitofp, IntOp.cmpi, IntOp.addi]
  · have hv : BitVec.ofNat 32 i.val ≠ BitVec.ofNat 32 j.val := fun e => h (Fin.ext (by
      have := congrArg BitVec.toNat e
      simp only [BitVec.toNat_ofNat] at this
      omega))
    simp [FloatOps.uitofp, IntOp.cmpi, IntOp.addi, h, hv]

/-- The lanes' way to the columns of a head: lane `i` to column `128 + i`. -/
abbrev route : FVec Ideal S128x256 .f32 := pad S128x256 ![0, 128] ![64, 64] ![0, 0] eye zero pads_S64x64_S128x256_0640_128640 h_S_

theorem route_at (i : Fin 128) (e : Fin 256) :
    route (ix2 i e) = if h : i.val < 64 ∧ 128 ≤ e.val ∧ e.val - 128 < 64 then eye (ix2 ⟨i.val, h.1⟩ ⟨e.val - 128, h.2.2⟩) else (0 : EReal) := by
  unfold route
  generalize eye = E
  pointwise
  simp [FloatOps.sitofp]

/-- The key's columns of the weights, 128 zeros after every head's. -/
abbrev nope (X : FVec Ideal S128x1536 .f32) : FVec Ideal S128x6x256 .f32 :=
  pad S128x6x256 ![0, 0, 0] ![0, 0, 128] ![0, 0, 0] (extractStridedSlice S128x6x128 ![0, 0, 0] (shapeCast S128x6x256 X shapeCasts_S128x1536_S128x6x256)
    slices_S128x6x256_S128x6x128_0_0_0) zero pads_S128x6x128_S128x6x256_000_000_01280 h_S_

theorem nope_at (X : FVec Ideal S128x1536 .f32) (j : Fin 128) (h : Fin 6) (e : Fin 256) :
    nope X (ix3 j h e) = if e.val < 128 then X (ix2 j ⟨h.val * 256 + e.val, by omega⟩) else (0 : EReal) := by
  pointwise
  simp [FloatOps.sitofp]

abbrev stacked (N : FVec Ideal S128x6x256 .f32) (R : FVec Ideal S128x256 .f32) : FVec Ideal S256x1536 .bf16 :=
  truncf (F := Ideal) .bf16 (shapeCast S256x1536 (concatenate S256x6x256 0 [⟨S128x6x256, N⟩, ⟨S128x6x256,
    broadcastInDim S128x6x256 ![0, 1, 2] bcast_S128x1x256_S128x6x256_0_1_2 (broadcastInDim S128x1x256 ![0, 2] bcast_S128x256_S128x1x256_0_2 R)⟩]
    concatenates_S128x6x256_S128x6x256_S256x6x256_d0) shapeCasts_S256x6x256_S256x1536) bitsLt_bf16_f32

theorem stacked_at (N : FVec Ideal S128x6x256 .f32) (R : FVec Ideal S128x256 .f32) (j : Fin 256) (k : Fin 1536) :
    stacked N R (ix2 j k) = if h : j.val < 128 then N (ix3 ⟨j.val, h⟩ ⟨k.val / 256, by omega⟩ ⟨k.val % 256, by omega⟩)
      else R (ix2 ⟨j.val - 128, by omega⟩ ⟨k.val % 256, by omega⟩) := by
  pointwise

/-- A row of 256 numbers times a column of the keys' weights: of the first 128 columns of a head the product of the latent half with
    the weights, of the next 64 one lane of the other half, of the rest zero. -/
theorem key_sum (X : FVec Ideal S128x1536 .f32) (a b : Fin 128 → EReal) (k : Fin 1536) :
    (∑ j : Fin 256, (if h : j.val < 128 then a ⟨j.val, h⟩ else b ⟨j.val - 128, by omega⟩ : EReal) * stacked (nope X) route (ix2 j k))
      = if h : k.val % 256 < 128 then dot a (fun j => X (ix2 j k))
        else if h : k.val % 256 - 128 < 64 then b ⟨k.val % 256 - 128, by omega⟩
        else 0 := by
  have hk := k.isLt
  have e1 : k.val / 256 * 256 + k.val % 256 = k.val := by omega
  rw [show (∑ j : Fin 256, (if h : j.val < 128 then a ⟨j.val, h⟩ else b ⟨j.val - 128, by omega⟩ : EReal) * stacked (nope X) route (ix2 j k))
    = (∑ j : Fin 128, a j * nope X (ix3 j ⟨k.val / 256, by omega⟩ ⟨k.val % 256, by omega⟩)) + ∑ j : Fin 128, b j * route (ix2 j ⟨k.val % 256, by omega⟩) from by
      refine (Fin.sum_univ_add (a := 128) (b := 128) _).trans (congrArg₂ _ (Finset.sum_congr rfl fun j _ => ?_) (Finset.sum_congr rfl fun j _ => ?_))
      · rw [stacked_at, dif_pos (by simp), dif_pos (by simp)]
        rfl
      · rw [stacked_at, dif_neg (by simp), dif_neg (by simp)]
        have ej : (⟨(Fin.natAdd 128 j).val - 128, by simp⟩ : Fin 128) = j := Fin.ext (by simp)
        rw [ej]]
  simp only [nope_at, route_at]
  by_cases h : k.val % 256 < 128
  · rw [dif_pos h, Finset.sum_eq_zero (s := Finset.univ) (f := fun j : Fin 128 => b j * _) fun j _ => by rw [dif_neg (by omega), mul_zero], add_zero]
    simp only [h, if_true, e1]
    rfl
  · rw [dif_neg h, Finset.sum_eq_zero (s := Finset.univ) (f := fun j : Fin 128 => a j * _) fun j _ => by rw [if_neg h, mul_zero], zero_add]
    by_cases h' : k.val % 256 - 128 < 64
    · rw [dif_pos h', Finset.sum_eq_single (⟨k.val % 256 - 128, by omega⟩ : Fin 128)]
      · rw [dif_pos ⟨h', by omega, h'⟩, eye_at, if_pos rfl, mul_one]
      · intro j _ hj
        by_cases hj' : j.val < 64
        · rw [dif_pos ⟨hj', by omega, h'⟩, eye_at, if_neg fun e => hj (Fin.ext (by have := congrArg Fin.val e; exact this)), mul_zero]
        · rw [dif_neg (by omega), mul_zero]
      · exact fun hn => absurd (Finset.mem_univ _) hn
    · rw [dif_neg h']
      exact Finset.sum_eq_zero fun j _ => by rw [dif_neg (by omega), mul_zero]

end Cert.Kernel6Ideal.Prep

end
-- ==== Proof.PrepClaim.lean ====
/-
  The preparation of the latent attention over all its blocks: the arrays it leaves are the reference's (Proof/PrepRef.lean), and the
  claims about it.
-/
module

public import proofs.«01_k».proof.Defs
public import proofs.«01_k».proof.Proof.PrepRef
public import proofs.«01_k».proof.Proof.PrepValue
public import proofs.«01_k».proof.Proof.PrepHost
public import proofs.«01_k».proof.Proof.Gen.Kernel6.Frame
public import proofs.«01_k».proof.Proof.Gen.Reference6Ideal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Layer

namespace Cert.Kernel6Ideal.Prep
open Cert.Kernel6Ideal Cert.Kernel6Ideal.Gen

variable (m : (ℓ : Loc nD τ sig) → Buf (Elt Ideal) ℓ)

/-- Where each window's block lies: tokens by rows of 512 at three groups of columns, the tables by the row within the sequence, the
    weights whole. -/
theorem idx : ∀ t : Fin cfg0.N, win0_0.index t = ![t.val, 1] ∧ win0_1.index t = ![t.val, 4] ∧ win0_2.index t = ![t.val, 5]
    ∧ win0_3.index t = ![0, 0] ∧ win0_4.index t = ![0, 0] ∧ win0_5.index t = ![0, 0] ∧ win0_6.index t = ![0, 0] ∧ win0_7.index t = ![0, 0]
    ∧ win0_8.index t = ![t.val % 4, 0] ∧ win0_9.index t = ![t.val % 4, 0] ∧ win0_10.index t = ![t.val % 4, 0]
    ∧ win0_11.index t = ![t.val, 0] ∧ win0_12.index t = ![t.val, 0] ∧ win0_13.index t = ![t.val, 0] :=
  (by decide +kernel : ∀ t : Fin grid0.N, _)

/-- The reference's arrays from the call's arguments. -/
abbrev REFQ (c : Dev nD) : FVec Ideal S16384x1536 .bf16 :=
  Cert.Reference6Ideal.Read.val_main_v95 (F := Ideal) (m ((c : Thread nD τ).loc main_arg0)) (m ((c : Thread nD τ).loc main_arg1)) (m ((c : Thread nD τ).loc main_arg2))
abbrev REFK (c : Dev nD) : FVec Ideal S16384x1536 .bf16 :=
  Cert.Reference6Ideal.Read.val_main_v98 (F := Ideal) (m ((c : Thread nD τ).loc main_arg0)) (m ((c : Thread nD τ).loc main_arg3)) (m ((c : Thread nD τ).loc main_arg4))
abbrev REFV (c : Dev nD) : FVec Ideal S16384x768 .bf16 :=
  Cert.Reference6Ideal.Read.val_main_v101 (F := Ideal) (m ((c : Thread nD τ).loc main_arg0)) (m ((c : Thread nD τ).loc main_arg3)) (m ((c : Thread nD τ).loc main_arg4))

abbrev COS : FVec Ideal S2048x32 .f32 := Cert.Reference6Ideal.Read.val_main_v17 (F := Ideal)
abbrev SIN : FVec Ideal S2048x32 .f32 := Cert.Reference6Ideal.Read.val_main_v18 (F := Ideal)

/-! What the host code hands the call. -/

theorem V_v43 (c : Dev nD) : V m c main_v43 = flat (three COS COS (full64 0x3F800000#32)) := by
  unfold V
  rfl

theorem V_v48 (c : Dev nD) : V m c main_v48 = flat (three (Host.negf (F := Ideal) SIN) (full32 0x00000000#32) (full64 0x00000000#32)) := by
  unfold V
  rfl

theorem V_v52 (c : Dev nD) : V m c main_v52 = flat (three (full32 0x00000000#32) SIN (full64 0x00000000#32)) := by
  unfold V
  rfl

theorem V_v53 (c : Dev nD) : V m c main_v53 = shapeCast S1x256 (m ((c : Thread nD τ).loc main_arg1)) shapeCasts_S256_S1x256 := by
  unfold V
  rfl

theorem V_v54 (c : Dev nD) : V m c main_v54 = shapeCast S1x128 (m ((c : Thread nD τ).loc main_arg3)) shapeCasts_S128_S1x128 := by
  unfold V
  rfl

theorem V_v55 (c : Dev nD) : V m c main_v55 = wq (m ((c : Thread nD τ).loc main_arg2)) := by
  unfold V
  rfl

theorem V_v56 (c : Dev nD) : V m c main_v56 = stacked (nope (m ((c : Thread nD τ).loc main_arg4))) route := by
  unfold V
  rfl

theorem V_v57 (c : Dev nD) : V m c main_v57 = wv (m ((c : Thread nD τ).loc main_arg4)) := by
  unfold V
  rfl

/-- A row of the token array, by sequence and place. -/
theorem tok_eq (X : FVec Ideal S16384x768 .f32) (g : Fin 16384) (j : Fin 768) :
    Cert.Reference6Ideal.Prep.tok X ⟨g.val / 2048, by omega⟩ ⟨g.val % 2048, by omega⟩ j = X (ix2 g j) := by
  unfold Cert.Reference6Ideal.Prep.tok
  have e : (⟨g.val / 2048 * 2048 + g.val % 2048, by omega⟩ : Fin 16384) = g := Fin.ext (by dsimp only; omega)
  dsimp only
  rw [e]

theorem cq_eq (c : Dev nD) (t : Fin cfg0.N) (r : Fin 512) (g : Fin 16384) (hg : g.val = 512 * t.val + r.val) (j : Fin 256) :
    iblk m c 0 t (ix2 r j) = Cert.Reference6Ideal.Prep.tok (m ((c : Thread nD τ).loc main_arg0)) ⟨g.val / 2048, by omega⟩ ⟨g.val % 2048, by omega⟩ ⟨256 + j.val, by omega⟩ := by
  rw [tok_eq]
  have e : (win0_0.blk t).view.emb (ix2 r j) = ix2 g (⟨256 + j.val, by omega⟩ : Fin 768) := by
    blk_ext [idx t]
  show V m c main_arg0 ((win0_0.blk t).view.emb (ix2 r j)) = _
  rw [e, V_main_arg0]

theorem ckv_eq (c : Dev nD) (t : Fin cfg0.N) (r : Fin 512) (g : Fin 16384) (hg : g.val = 512 * t.val + r.val) (j : Fin 128) :
    iblk m c 1 t (ix2 r j) = Cert.Reference6Ideal.Prep.tok (m ((c : Thread nD τ).loc main_arg0)) ⟨g.val / 2048, by omega⟩ ⟨g.val % 2048, by omega⟩ ⟨512 + j.val, by omega⟩ := by
  rw [tok_eq]
  have e : (win0_1.blk t).view.emb (ix2 r j) = ix2 g (⟨512 + j.val, by omega⟩ : Fin 768) := by
    blk_ext [idx t]
  show V m c main_arg0 ((win0_1.blk t).view.emb (ix2 r j)) = _
  rw [e, V_main_arg0]

theorem kr_eq (c : Dev nD) (t : Fin cfg0.N) (r : Fin 512) (g : Fin 16384) (hg : g.val = 512 * t.val + r.val) (j : Fin 128) :
    iblk m c 2 t (ix2 r j) = Cert.Reference6Ideal.Prep.tok (m ((c : Thread nD τ).loc main_arg0)) ⟨g.val / 2048, by omega⟩ ⟨g.val % 2048, by omega⟩ ⟨640 + j.val, by omega⟩ := by
  rw [tok_eq]
  have e : (win0_2.blk t).view.emb (ix2 r j) = ix2 g (⟨640 + j.val, by omega⟩ : Fin 768) := by
    blk_ext [idx t]
  show V m c main_arg0 ((win0_2.blk t).view.emb (ix2 r j)) = _
  rw [e, V_main_arg0]

theorem gq_eq (c : Dev nD) (t : Fin cfg0.N) (j : Fin 256) : iblk m c 3 t (ix2 0 j) = m ((c : Thread nD τ).loc main_arg1) (ix1 j) := by
  blk_simp [iblk, idx t]
  rw [V_v53]
  pointwise
  blk_ext [idx t]

theorem gkv_eq (c : Dev nD) (t : Fin cfg0.N) (j : Fin 128) : iblk m c 4 t (ix2 0 j) = m ((c : Thread nD τ).loc main_arg3) (ix1 j) := by
  blk_simp [iblk, idx t]
  rw [V_v54]
  pointwise
  blk_ext [idx t]

theorem wq_eq (c : Dev nD) (t : Fin cfg0.N) (j : Fin 256) (k : Fin 1536) : iblk m c 5 t (ix2 j k) = wq (m ((c : Thread nD τ).loc main_arg2)) (ix2 j k) := by
  have e : (win0_5.blk t).view.emb (ix2 j k) = ix2 j k := by
    blk_ext [idx t]
  show V m c main_v55 ((win0_5.blk t).view.emb (ix2 j k)) = _
  rw [e, V_v55]

theorem wk_eq (c : Dev nD) (t : Fin cfg0.N) (j : Fin 256) (k : Fin 1536) :
    iblk m c 6 t (ix2 j k) = stacked (nope (m ((c : Thread nD τ).loc main_arg4))) route (ix2 j k) := by
  have e : (win0_6.blk t).view.emb (ix2 j k) = ix2 j k := by
    blk_ext [idx t]
  show V m c main_v56 ((win0_6.blk t).view.emb (ix2 j k)) = _
  rw [e, V_v56]

theorem wv_eq (c : Dev nD) (t : Fin cfg0.N) (j : Fin 128) (k : Fin 768) : iblk m c 7 t (ix2 j k) = wv (m ((c : Thread nD τ).loc main_arg4)) (ix2 j k) := by
  have e : (win0_7.blk t).view.emb (ix2 j k) = ix2 j k := by
    blk_ext [idx t]
  show V m c main_v57 ((win0_7.blk t).view.emb (ix2 j k)) = _
  rw [e, V_v57]

theorem c_eq (c : Dev nD) (t : Fin cfg0.N) (r : Fin 512) (g : Fin 16384) (hg : g.val = 512 * t.val + r.val) (l : Fin 128) :
    iblk m c 8 t (ix2 r l) = flat (three COS COS (full64 0x3F800000#32)) (ix2 ⟨g.val % 2048, by omega⟩ l) := by
  have e : (win0_8.blk t).view.emb (ix2 r l) = ix2 (⟨g.val % 2048, by omega⟩ : Fin 2048) l := by
    blk_ext [idx t]
  show V m c main_v43 ((win0_8.blk t).view.emb (ix2 r l)) = _
  rw [e, V_v43]

theorem a_eq (c : Dev nD) (t : Fin cfg0.N) (r : Fin 512) (g : Fin 16384) (hg : g.val = 512 * t.val + r.val) (l : Fin 128) :
    iblk m c 9 t (ix2 r l) = flat (three (Host.negf (F := Ideal) SIN) (full32 0x00000000#32) (full64 0x00000000#32)) (ix2 ⟨g.val % 2048, by omega⟩ l) := by
  have e : (win0_9.blk t).view.emb (ix2 r l) = ix2 (⟨g.val % 2048, by omega⟩ : Fin 2048) l := by
    blk_ext [idx t]
  show V m c main_v48 ((win0_9.blk t).view.emb (ix2 r l)) = _
  rw [e, V_v48]

theorem b_eq (c : Dev nD) (t : Fin cfg0.N) (r : Fin 512) (g : Fin 16384) (hg : g.val = 512 * t.val + r.val) (l : Fin 128) :
    iblk m c 10 t (ix2 r l) = flat (three (full32 0x00000000#32) SIN (full64 0x00000000#32)) (ix2 ⟨g.val % 2048, by omega⟩ l) := by
  have e : (win0_10.blk t).view.emb (ix2 r l) = ix2 (⟨g.val % 2048, by omega⟩ : Fin 2048) l := by
    blk_ext [idx t]
  show V m c main_v52 ((win0_10.blk t).view.emb (ix2 r l)) = _
  rw [e, V_v52]

/-- The rotations against the block's tables: the first 64 lanes turned, the rest as they are. -/
theorem lanes_at (c : Dev nD) (t : Fin cfg0.N) (r : Fin 512) (g : Fin 16384) (hg : g.val = 512 * t.val + r.val) (x : Fin 128 → EReal) (l : Fin 128) :
    lanes32 (fun l => iblk m c 8 t (ix2 r l)) (fun l => iblk m c 9 t (ix2 r l)) (fun l => iblk m c 10 t (ix2 r l)) x l
      = if h : l.val < 64 then turn64 (Cert.Reference6Ideal.Prep.cs ⟨g.val % 2048, by omega⟩) (Cert.Reference6Ideal.Prep.sn ⟨g.val % 2048, by omega⟩)
          (fun k => x ⟨k.val, by omega⟩) ⟨l.val, h⟩
        else x l :=
  lanes32_eq _ _ _ _ _ x (fun l => (c_eq m c t r g hg l).trans (table_cos _ _ l))
    (fun l => (a_eq m c t r g hg l).trans (table_sub _ _ l)) (fun l => (b_eq m c t r g hg l).trans (table_add _ _ l)) l

/-- A row times a column of the queries' weights: a column of its head, or zero. -/
theorem dot_wq (a : Fin 256 → EReal) (X : FVec Ideal S256x1152 .f32) (k : Fin 1536) :
    dot a (fun j => wq X (ix2 j k)) = if h : k.val % 256 < 192 then dot a (fun j => X (ix2 j ⟨k.val / 256 * 192 + k.val % 256, by omega⟩)) else 0 := by
  unfold dot
  simp only [wq_at]
  by_cases h : k.val % 256 < 192
  · simp only [dif_pos h]
  · simp only [dif_neg h, mul_zero, Finset.sum_const_zero]

/-- The block's columns are the reference's when the projected columns are, with zeros after every head. -/
theorem qblk_eq (cs sn : Fin 32 → EReal) (f : (Fin 128 → EReal) → Fin 128 → EReal) (P : Fin 1536 → EReal) (Q : Fin 1152 → EReal)
    (hf : ∀ x l, f x l = if h : l.val < 64 then turn64 cs sn (fun k => x ⟨k.val, by omega⟩) ⟨l.val, h⟩ else x l)
    (hP : ∀ k : Fin 1536, P k = if h : k.val % 256 < 192 then Q ⟨k.val / 256 * 192 + k.val % 256, by omega⟩ else 0) (c : Fin 1536) :
    qblk f P c = qrow cs sn Q c := by
  have hc := c.isLt
  unfold qblk qrow
  by_cases h : c.val % 256 < 128
  · rw [dif_pos h, dif_pos h, hP, dif_pos (by omega)]
  · rw [dif_neg h, dif_neg h, hf]
    by_cases h' : c.val % 256 - 128 < 64
    · rw [dif_pos (by dsimp only; omega), dif_pos h']
      have e : (⟨c.val % 128, by omega⟩ : Fin 64) = ⟨c.val % 256 - 128, h'⟩ := Fin.ext (by dsimp only; omega)
      refine congrArg (· * qscale) ?_
      refine (congrArg (turn64 cs sn _) e).trans (congrArg (fun x => turn64 cs sn x _) (funext fun k => ?_))
      rw [hP, dif_pos (by dsimp only; omega)]
      exact congrArg Q (Fin.ext (by dsimp only; omega))
    · rw [dif_neg (by dsimp only; omega), dif_neg h', hP, dif_neg (by dsimp only; omega), zero_mul]

theorem point_q (c : Dev nD) (t : Fin cfg0.N) (r : Fin 512) (e : Fin 1536) (g : Fin 16384) (hg : g.val = 512 * t.val + r.val) :
    (dats m 0 c).after 11 t (ix2 r e) = REFQ m c (ix2 g e) := by
  rw [after0_11]
  refine (out_q _ _ _ _ _ _ _ _ _ _ _ r e).trans (Eq.trans ?_ (Cert.Reference6Ideal.Prep.q_at _ _ _ g e).symm)
  refine qblk_eq _ _ _ _ _ (lanes_at m c t r g hg) (fun k => ?_) e
  simp only [wq_eq]
  refine (dot_wq _ _ k).trans ?_
  unfold Cert.Reference6Ideal.Prep.qcol
  simp only [cq_eq m c t r g hg, gq_eq]

theorem point_k (c : Dev nD) (t : Fin cfg0.N) (r : Fin 512) (e : Fin 1536) (g : Fin 16384) (hg : g.val = 512 * t.val + r.val) :
    (dats m 0 c).after 12 t (ix2 r e) = REFK m c (ix2 g e) := by
  rw [after0_12]
  refine (out_k _ _ _ _ _ _ _ _ _ _ _ r e).trans (Eq.trans ?_ (Cert.Reference6Ideal.Prep.k_at _ _ _ g e).symm)
  simp only [wk_eq]
  refine (key_sum _ (rms w128 (fun j => iblk m c 1 t (ix2 r j)) (fun j => iblk m c 4 t (ix2 0 j)))
    (lanes32 (fun l => iblk m c 8 t (ix2 r l)) (fun l => iblk m c 9 t (ix2 r l)) (fun l => iblk m c 10 t (ix2 r l)) (fun l => iblk m c 2 t (ix2 r l))) e).trans ?_
  unfold krow
  by_cases h : e.val % 256 < 128
  · rw [dif_pos h, dif_pos h]
    unfold Cert.Reference6Ideal.Prep.kvcol
    simp only [ckv_eq m c t r g hg, gkv_eq]
  · rw [dif_neg h, dif_neg h]
    by_cases h' : e.val % 256 - 128 < 64
    · rw [dif_pos h', dif_pos h', lanes_at m c t r g hg, dif_pos h']
      simp only [kr_eq m c t r g hg]
    · rw [dif_neg h', dif_neg h']

theorem point_v (c : Dev nD) (t : Fin cfg0.N) (r : Fin 512) (e : Fin 768) (g : Fin 16384) (hg : g.val = 512 * t.val + r.val) :
    (dats m 0 c).after 13 t (ix2 r e) = REFV m c (ix2 g e) := by
  rw [after0_13]
  refine (out_v _ _ _ _ _ _ _ _ _ _ _ r e).trans (Eq.trans ?_ (Cert.Reference6Ideal.Prep.v_at _ _ _ g e).symm)
  unfold Cert.Reference6Ideal.Prep.kvcol
  simp only [ckv_eq m c t r g hg, gkv_eq, wv_eq, wv_at]

/-- The call's queries are the reference's. -/
theorem final_q (c : Dev nD) : (dats m 0 c).arrAt 11 (cfgs 0).N = REFQ m c := by
  refine (dats m 0 c).arrAt_eq_of_covers 11 _ (by decide +kernel) fun t _ y => ?_
  blk_simp
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point_q m c t ⟨_, h0⟩ (y 1) ⟨512 * t.val + (y 0).val, by omega⟩ rfl).trans ?_
  blk_ext [idx t]

/-- The call's keys are the reference's. -/
theorem final_k (c : Dev nD) : (dats m 0 c).arrAt 12 (cfgs 0).N = REFK m c := by
  refine (dats m 0 c).arrAt_eq_of_covers 12 _ (by decide +kernel) fun t _ y => ?_
  blk_simp
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point_k m c t ⟨_, h0⟩ (y 1) ⟨512 * t.val + (y 0).val, by omega⟩ rfl).trans ?_
  blk_ext [idx t]

/-- The call's values are the reference's. -/
theorem final_v (c : Dev nD) : (dats m 0 c).arrAt 13 (cfgs 0).N = REFV m c := by
  refine (dats m 0 c).arrAt_eq_of_covers 13 _ (by decide +kernel) fun t _ y => ?_
  blk_simp
  have ht : t.val < 32 := t.isLt
  have h0 : (y 0).val < 512 := (y 0).isLt
  have hy : y = ix2 (⟨(y 0).val, h0⟩ : Fin 512) (y 1) := funext fun a => by
    match a with
    | ⟨0, _⟩ => rfl
    | ⟨1, _⟩ => rfl
  rw [hy]
  refine (point_v m c t ⟨_, h0⟩ (y 1) ⟨512 * t.val + (y 0).val, by omega⟩ rfl).trans ?_
  blk_ext [idx t]

end Cert.Kernel6Ideal.Prep

namespace Cert.Proof.Prep

theorem frameKernel : Cert.quiescent_Kernel6 := fun m ρ _ => Cert.Kernel6.Gen.frame m ρ

theorem frameKernelIdeal : Cert.quiescent_Kernel6Ideal := fun m ρ _ => Cert.Kernel6Ideal.Gen.frame m ρ

theorem frameReferenceIdeal : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem algebraic : Cert.algebraic_Kernel6Ideal_Reference6Ideal := by
  intro m g m' g' _ hagree
  refine ⟨fun c => (Cert.Kernel6Ideal.Gen.dats m 0 c).arrAt 11 (Cert.Kernel6Ideal.cfgs 0).N,
    fun c => (Cert.Kernel6Ideal.Gen.dats m 0 c).arrAt 12 (Cert.Kernel6Ideal.cfgs 0).N,
    fun c => (Cert.Kernel6Ideal.Gen.dats m 0 c).arrAt 13 (Cert.Kernel6Ideal.cfgs 0).N, Cert.Kernel6Ideal.Value.run_blocks m g, ?_⟩
  refine (θ_run _ _ _).mono (fun r h c => ⟨?_, ?_, ?_, (h c).2.2.2⟩) (Cert.Reference6Ideal.Value.run (F := Ideal) m' g')
  · refine (h c).1.trans ?_
    obtain ⟨e0, e1, e2, e3, e4⟩ := hagree c
    rw [Cert.Reference6Ideal.Read.val_main_v95_eq m' c, e0, e1, e2]
    exact (Cert.Kernel6Ideal.Prep.final_q m c).symm
  · refine (h c).2.1.trans ?_
    obtain ⟨e0, e1, e2, e3, e4⟩ := hagree c
    rw [Cert.Reference6Ideal.Read.val_main_v98_eq m' c, e0, e3, e4]
    exact (Cert.Kernel6Ideal.Prep.final_k m c).symm
  · refine (h c).2.2.1.trans ?_
    obtain ⟨e0, e1, e2, e3, e4⟩ := hagree c
    refine (Cert.Reference6Ideal.Read.val_main_v101_eq _ _ _).trans ?_
    rw [e0, e3, e4]
    exact (Cert.Kernel6Ideal.Prep.final_v m c).symm

end Cert.Proof.Prep

end
-- ==== Proof.ConvLayer.lean ====
/-
  One row of the convolution module, over the extended reals: 31 taps over the gated rows up to the token's own (nothing
  before the sequence's start), the bias, the layer norm over the channels and the final gate.
-/
module

public import proofs.«01_k».proof.Proof.Layer

@[expose] public section

noncomputable section

open Idealize.ShloMosaic

namespace Cert.Layer

/-- The mean over the 512 channels divides by this word. -/
abbrev w512 : EReal := Ideal.ofBits .f32 0x44000000#32

/-- A number times the logistic of its gate. -/
def glu (a g : EReal) : EReal := a * Ideal.div 1 (1 + Ideal.exp (-g))

/-- The row that tap `k` of token `s` reads: `30 - k` rows back, zero before the first row. -/
def past (u : Fin 2048 → EReal) (s : Fin 2048) (k : Fin 31) : EReal :=
  if h : 30 ≤ k.val + s.val then u ⟨k.val + s.val - 30, by omega⟩ else 0

/-- The convolution at a token and a channel, with its bias. -/
def conv (u : Fin 2048 → EReal) (w : Fin 31 → EReal) (b : EReal) (s : Fin 2048) : EReal := ∑ k, past u s k * w k + b

/-- A row minus its mean. -/
def centred (y : Fin 512 → EReal) (c : Fin 512) : EReal := y c - Ideal.div (∑ j, y j) w512

/-- The rest of the layer norm of a centred row, with gains and offsets, and the gate after it. -/
def lnGate (z g b : Fin 512 → EReal) (c : Fin 512) : EReal :=
  silu (z c * Ideal.rsqrt (Ideal.div (∑ j, z j * z j) w512 + Ideal.ofBits .f32 0x3727C5AC#32) * g c + b c)

/-- A sum over 31 taps written out from the first tap on. -/
theorem taps (f : Fin 31 → EReal) : ∑ k, f k
    = 0 + f 0 + f 1 + f 2 + f 3 + f 4 + f 5 + f 6 + f 7 + f 8 + f 9 + f 10 + f 11 + f 12 + f 13 + f 14 + f 15 + f 16 + f 17 + f 18 + f 19
      + f 20 + f 21 + f 22 + f 23 + f 24 + f 25 + f 26 + f 27 + f 28 + f 29 + f 30 := by
  simp only [Fin.sum_univ_castSucc, Fin.sum_univ_zero]
  rfl

end Cert.Layer

end
-- ==== Proof.ConvRef.lean ====
/-
  The reference of the convolution module, row by row: the gated rows, the 31 shifted products summed, the layer norm and
  the final gate.
-/
module

public import proofs.«01_k».proof.Proof.Gen.Reference7Ideal.Read
public import proofs.«01_k».proof.Proof.ConvLayer
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem
open Cert.Layer

namespace Cert.Reference7Ideal.Conv
open Cert.Reference7Ideal Cert.Reference7Ideal.Gen Cert.Reference7Ideal.Read

variable (x0 : FVec Ideal S8x2048x2560 .bf16) (x1 : FVec Ideal S31x512 .f32) (x2 x3 x4 : FVec Ideal S512 .f32)

/-- The gated number of channel `c` at token `s` of sequence `b`. -/
def gated (b : Fin 8) (c : Fin 512) (s : Fin 2048) : EReal :=
  glu (x0 (ix3 b s ⟨1536 + c.val, by omega⟩)) (x0 (ix3 b s ⟨2048 + c.val, by omega⟩))

theorem gated_at (b : Fin 8) (s : Fin 2048) (c : Fin 512) : val_main_v10 (F := Ideal) x0 (ix3 b s c) = gated x0 b c s := by
  unfold gated glu
  pointwise [val_main_v10, val_main_v9, val_main_v8, val_main_v7, val_main_v6, val_main_v5, val_main_v4, val_main_v3, val_main_v2, val_main_v1, val_main_v0, val_main_cst, val_main_cst_0]
  simp only [show 1536 + (512 + c.val) = 2048 + c.val by omega]

/-- The padded rows: 30 rows of zeros, then the gated rows. -/
theorem padded_at (b : Fin 8) (q : Fin 2078) (c : Fin 512) : val_main_v11 (F := Ideal) x0 (ix3 b q c)
    = if h : 30 ≤ q.val then val_main_v10 (F := Ideal) x0 (ix3 b ⟨q.val - 30, by omega⟩ c) else 0 := by
  by_cases h : 30 ≤ q.val
  · rw [dif_pos h]
    pointwise [val_main_v11, val_main_call0_v0, val_main_c]
    exact dif_pos ⟨h, by omega⟩
  · rw [dif_neg h]
    pointwise [val_main_v11, val_main_call0_v0, val_main_c]
    refine (dif_neg fun hh => h hh.1).trans ?_
    simp [FloatOps.sitofp]

theorem conv_at (b : Fin 8) (s : Fin 2048) (c : Fin 512) :
    val_main_v232 (F := Ideal) x0 x1 x2 (ix3 b s c) = conv (gated x0 b c) (fun k => x1 (ix2 k c)) (x2 (ix1 c)) s := by
  have hp : ∀ k : Fin 31, past (gated x0 b c) s k = val_main_v11 (F := Ideal) x0 (ix3 b ⟨k.val + s.val, by omega⟩ c) := by
    intro k
    rw [padded_at]
    unfold past
    split
    · exact (gated_at x0 _ _ _).symm
    · rfl
  unfold conv
  simp only [hp]
  rw [taps]
  pointwise [val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1]

theorem centred_at (b : Fin 8) (s : Fin 2048) (c : Fin 512) :
    val_main_v238 (F := Ideal) x0 x1 x2 (ix3 b s c) = centred (fun j => val_main_v232 (F := Ideal) x0 x1 x2 (ix3 b s j)) c := by
  unfold centred
  pointwise [val_main_v238, val_main_v237, val_main_v236, val_main_v235, val_main_v234, val_main_v233, val_main_cst_2, val_main_cst_3]

theorem out_at (b : Fin 8) (s : Fin 2048) (c : Fin 512) :
    val_main_v256 (F := Ideal) x0 x1 x2 x3 x4 (ix3 b s c)
      = lnGate (fun j => val_main_v238 (F := Ideal) x0 x1 x2 (ix3 b s j)) (fun j => x3 (ix1 j)) (fun j => x4 (ix1 j)) c := by
  unfold lnGate silu
  pointwise [val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_call1_v0, val_main_call1_v1, val_main_call1_cst, val_main_call1_v2, val_main_call1_v3, val_main_call1_cst_0, val_main_call1_v4, val_main_call1_v5, val_main_cst_4, val_main_cst_5, val_main_cst_6]

/-- The reference's result, row by row. -/
def row (b : Fin 8) (s : Fin 2048) : Fin 512 → EReal :=
  lnGate (centred fun j => conv (gated x0 b j) (fun k => x1 (ix2 k j)) (x2 (ix1 j)) s) (fun j => x3 (ix1 j)) (fun j => x4 (ix1 j))

theorem row_at (b : Fin 8) (s : Fin 2048) (c : Fin 512) : val_main_v256 (F := Ideal) x0 x1 x2 x3 x4 (ix3 b s c) = row x0 x1 x2 x3 x4 b s c := by
  rw [out_at]
  unfold row
  simp only [centred_at, conv_at]

end Cert.Reference7Ideal.Conv

end
-- ==== Proof.ConvValue.lean ====
/-
  The convolution module, block by block: the rows a grid point keeps in its buffer are the gated rows of the sequence from
  32 before the block on (zero before the sequence's start), and what it leaves is the module's row of them.
-/
module

public import proofs.«01_k».proof.Proof.Gen.Kernel7Ideal.Value
public import proofs.«01_k».proof.Proof.ConvRef
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)
open Cert.Layer

namespace Cert.Kernel7Ideal.Conv
open Cert.Kernel7Ideal Cert.Kernel7Ideal.Gen

theorem pay1_at (z : FVec Ideal S256x512 .f32) (g b : Vec Ideal S1x512 .f32) (r : Fin 256) (c : Fin 512) :
    k0_pay1 z g b (ix3 0 r c) = lnGate (fun j => z (ix2 r j)) (fun j => g (ix2 0 j)) (fun j => b (ix2 0 j)) c := by
  unfold lnGate silu
  pointwise [k0_pay1]
  rw [zero_sub]

theorem pay2_at (a g : Vec Ideal S1x256x512 .bf16) (r : Fin 256) (c : Fin 512) : k0_pay2 a g (ix2 r c) = glu (a (ix3 0 r c)) (g (ix3 0 r c)) := by
  unfold glu
  pointwise [k0_pay2]
  rw [zero_sub]

/-- The rows before the block: the gated ones, or zeros in the sequence's first block. -/
theorem pay4_at (i : grid0.Coords) (a g : Vec Ideal S1x32x512 .bf16) (r : Fin 32) (c : Fin 512) :
    k0_pay4 (k0_pay3 i a g) (ix2 r c) = if (i 1).val = 0 then 0 else glu (a (ix3 0 r c)) (g (ix3 0 r c)) := by
  unfold glu
  pointwise [k0_pay4, k0_pay3]
  rw [zero_sub]
  have hlt : (i 1).val < 8 := (i 1).isLt
  generalize (i 1).val = n at hlt ⊢
  interval_cases n <;> rfl

/-- The sum of the 31 products and the bias, centred. -/
theorem acc_at (U : Fin 31 → Vec Ideal S256x512 .f32) (W : Fin 31 → Vec Ideal S1x512 .f32) (b : Vec Ideal S1x512 .f32) (r : Fin 256) (c : Fin 512) :
    k0_pay11 (k0_pay9 (k0_pay8 (k0_pay7 (k0_pay5 (U 0) (W 0) (U 1) (W 1) (U 2) (W 2) (U 3) (W 3) (U 4) (W 4)) (k0_pay6 (U 5) (W 5))
      (U 6) (W 6) (U 7) (W 7) (U 8) (W 8) (U 9) (W 9) (U 10) (W 10) (U 11) (W 11))
      (U 12) (W 12) (U 13) (W 13) (U 14) (W 14) (U 15) (W 15) (U 16) (W 16) (U 17) (W 17) (U 18) (W 18))
      (U 19) (W 19) (U 20) (W 20) (U 21) (W 21) (U 22) (W 22) (U 23) (W 23) (U 24) (W 24)) (k0_pay10 (U 25) (W 25))
      (U 26) (W 26) (U 27) (W 27) (U 28) (W 28) (U 29) (W 29) (U 30) (W 30) b (ix2 r c)
      = centred (fun j => ∑ k, U k (ix2 r j) * W k (ix2 0 j) + b (ix2 0 j)) c := by
  unfold centred
  simp only [taps]
  pointwise [k0_pay11, k0_pay10, k0_pay9, k0_pay8, k0_pay7, k0_pay6, k0_pay5]

/-- The buffer of a block: 32 rows before it, then its own rows. -/
def rows (i : grid0.Coords) (X0 X1 : Vec Ideal S1x256x512 .bf16) (X2 X3 : Vec Ideal S1x32x512 .bf16) : Vec Ideal S288x512 .f32 := fun y =>
  if h : (y 0).val < 32 then k0_pay4 (k0_pay3 i X2 X3) (ix2 (⟨(y 0).val, h⟩ : Fin 32) (y 1))
  else k0_pay2 X0 X1 (ix2 (⟨(y 0).val - 32, by have h0 : (y 0).val < 288 := (y 0).isLt; omega⟩ : Fin 256) (y 1))

/-- 256 rows of the buffer, from row `o` on. -/
def from_ (G : Vec Ideal S288x512 .f32) (o : ℕ) (h : o ≤ 32) : Vec Ideal S256x512 .f32 := fun x =>
  G (ix2 (⟨o + (x 0).val, by have h0 : (x 0).val < 256 := (x 0).isLt; omega⟩ : Fin 288) (x 1))

/-- Two row blocks that hold the tiles of one array `G` leave its rows to be read. -/
theorem scratch {sig' : RefSig} {κ : Kind} {sp : Space} (v : View sig' κ sp S288x512 .f32) (L : List (View.Piece (Elt Ideal) S288x512 .f32))
    (o : ℕ) (inb : ∀ a, (![o, 0] : Fin 2 → ℕ) a + S256x512.size a ≤ S288x512.size a) (h : o ≤ 32) (G : Vec Ideal S288x512 .f32)
    (hL : ∀ p ∈ L, ∀ x : p.1.shape.Idx, p.2 x = G (p.1.emb x)) (hc : View.Piece.tiledBy L ![32, 512] = true) :
    v.readCov L (Rect.unit (s := S288x512) ![o, 0] S256x512.size inb).toLoadRect = from_ G o h := by
  rw [View.readCov_eq_canon']
  funext y
  refine (View.canon_apply_of_pieces G L hL _ (View.cover_of_tiledBy L _ hc _)).trans (congrArg G ?_)
  funext a
  match a with
  | ⟨0, _⟩ => exact Fin.ext (by show o + 1 * (y 0).val = o + (y 0).val; omega)
  | ⟨1, _⟩ => exact Fin.ext (by show 0 + 1 * (y 1).val = (y 1).val; omega)

theorem tile_before (i : grid0.Coords) (X0 X1 : Vec Ideal S1x256x512 .bf16) (X2 X3 : Vec Ideal S1x32x512 .bf16)
    (inb : ∀ a, (![0, 0] : Fin 2 → ℕ) a + S32x512.size a ≤ S288x512.size a) (x : (Rect.unit (s := S288x512) ![0, 0] S32x512.size inb).shape.Idx) :
    k0_pay4 (k0_pay3 i X2 X3) x = rows i X0 X1 X2 X3 ((Rect.unit (s := S288x512) ![0, 0] S32x512.size inb).emb x) := by
  have h0 : (x 0).val < 32 := (x 0).isLt
  have e : ((Rect.unit (s := S288x512) ![0, 0] S32x512.size inb).emb x 0).val = (x 0).val := by show 0 + 1 * (x 0).val = _; omega
  unfold rows
  rw [dif_pos (by rw [e]; exact h0)]
  refine congrArg _ (funext fun a => Fin.ext ?_)
  match a with
  | ⟨0, _⟩ => exact e.symm
  | ⟨1, _⟩ => show (x 1).val = 0 + 1 * (x 1).val; omega

theorem tile_own (i : grid0.Coords) (X0 X1 : Vec Ideal S1x256x512 .bf16) (X2 X3 : Vec Ideal S1x32x512 .bf16)
    (inb : ∀ a, (![32, 0] : Fin 2 → ℕ) a + S256x512.size a ≤ S288x512.size a) (x : (Rect.unit (s := S288x512) ![32, 0] S256x512.size inb).shape.Idx) :
    k0_pay2 X0 X1 x = rows i X0 X1 X2 X3 ((Rect.unit (s := S288x512) ![32, 0] S256x512.size inb).emb x) := by
  have e : ((Rect.unit (s := S288x512) ![32, 0] S256x512.size inb).emb x 0).val = 32 + (x 0).val := by show 32 + 1 * (x 0).val = _; omega
  unfold rows
  rw [dif_neg (by rw [e]; omega)]
  refine congrArg _ (funext fun a => Fin.ext ?_)
  match a with
  | ⟨0, _⟩ => show (x 0).val = ((Rect.unit (s := S288x512) ![32, 0] S256x512.size inb).emb x 0).val - 32; rw [e]; omega
  | ⟨1, _⟩ => show (x 1).val = 0 + 1 * (x 1).val; omega

variable (m : (ℓ : Loc nD τ sig) → Buf (Elt Ideal) ℓ)

/-- What the body leaves at row `r` of its block, over the block's inputs. -/
theorem out_at (c : Dev nD) (t : Fin cfg0.N) (r : Fin 256) (e : Fin 512) : outsAt0 m c t (ix3 0 r e)
    = lnGate (centred fun j => ∑ k : Fin 31, from_ (rows (grid0.coords t) (iblk m c 0 t) (iblk m c 1 t) (iblk m c 2 t) (iblk m c 3 t)) (2 + k.val) (by omega) (ix2 r j)
        * iblk m c 4 t (ix2 k j) + iblk m c 5 t (ix2 0 j)) (fun j => iblk m c 6 t (ix2 0 j)) (fun j => iblk m c 7 t (ix2 0 j)) e := by
  unfold outsAt0
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize hL : [(⟨Rect.unit ![0, 0] ![32, 512] inb_S288x512_S32x512_0_0, k0_pay4 (k0_pay3 (grid0.coords t) X2 X3)⟩ : View.Piece (Elt Ideal) S288x512 .f32),
    ⟨Rect.unit ![32, 0] ![256, 512] inb_S288x512_S256x512_32_0, k0_pay2 X0 X1⟩] = L
  have hin : ∀ (k : Fin 31) (a : Fin 2), (![2 + k.val, 0] : Fin 2 → ℕ) a + (![256, 512] : Fin 2 → ℕ) a ≤ S288x512.size a := by
    intro k a
    match a with
    | ⟨0, _⟩ => show 2 + k.val + 256 ≤ 288; omega
    | ⟨1, _⟩ => show 0 + 512 ≤ 512; omega
  have hw : ∀ (k : Fin 31) (a : Fin 2), (![k.val, 0] : Fin 2 → ℕ) a + (![1, 512] : Fin 2 → ℕ) a ≤ S31x512.size a := by
    intro k a
    match a with
    | ⟨0, _⟩ => show k.val + 1 ≤ 31; omega
    | ⟨1, _⟩ => show 0 + 512 ≤ 512; omega
  have hr : ∀ k : Fin 31, (View.whole cc0_scratch0).readCov L (Rect.unit (s := S288x512) ![2 + k.val, 0] ![256, 512] (hin k)).toLoadRect
      = from_ (rows (grid0.coords t) X0 X1 X2 X3) (2 + k.val) (by omega) := fun k => by
    subst hL
    exact scratch _ _ _ _ _ _ (List.forall_mem_cons.2 ⟨tile_before (grid0.coords t) X0 X1 X2 X3 inb_S288x512_S32x512_0_0, List.forall_mem_cons.2 ⟨tile_own (grid0.coords t) X0 X1 X2 X3 inb_S288x512_S256x512_32_0,
      fun p hp => absurd hp List.not_mem_nil⟩⟩) (by sl_kernel_rfl)
  have hl : ∀ (k : Fin 31) (d : Fin 512), View.ld X4 (Rect.unit (s := S31x512) ![k.val, 0] ![1, 512] (hw k)) (ix2 (0 : Fin 1) d) = X4 (ix2 k d) := fun k d =>
    View.ld_unit_apply_of X4 _ _ (hw k) _ _ fun a => by
      match a with
      | ⟨0, _⟩ => rfl
      | ⟨1, _⟩ => show d.val = 0 + d.val; omega
  refine (pay1_at _ _ _ r e).trans (congrArg (fun z => lnGate z (fun j => X6 (ix2 0 j)) (fun j => X7 (ix2 0 j)) e) (funext fun j => ?_))
  refine (acc_at (fun k => (View.whole cc0_scratch0).readCov L (Rect.unit (s := S288x512) ![2 + k.val, 0] ![256, 512] (hin k)).toLoadRect)
    (fun k => View.ld X4 (Rect.unit (s := S31x512) ![k.val, 0] ![1, 512] (hw k))) X5 r j).trans ?_
  refine congrArg (fun y => centred y j) (funext fun d => congrArg (· + X5 (ix2 0 d)) (Finset.sum_congr rfl fun k _ => ?_))
  exact congrArg₂ (fun p q : EReal => p * q) (congrFun (hr k) (ix2 r d)) (hl k d)

/-! ## The windows -/

/-- Where each window's block lies, as functions of the grid point. -/
theorem idx : ∀ t : Fin cfg0.N, win0_0.index t = ![(grid0.coords t 0).val, (grid0.coords t 1).val, 3]
    ∧ win0_1.index t = ![(grid0.coords t 0).val, (grid0.coords t 1).val, 4]
    ∧ win0_2.index t = ![(grid0.coords t 0).val, (grid0.coords t 1).val * 8 - 1, 3]
    ∧ win0_3.index t = ![(grid0.coords t 0).val, (grid0.coords t 1).val * 8 - 1, 4]
    ∧ win0_4.index t = ![0, 0]
    ∧ win0_5.index t = ![0, 0]
    ∧ win0_6.index t = ![0, 0]
    ∧ win0_7.index t = ![0, 0]
    ∧ win0_8.index t = ![(grid0.coords t 0).val, (grid0.coords t 1).val, 0] :=
  (by decide +kernel : ∀ t : Fin grid0.N, _)

theorem row_at (x : FVec Ideal S512 .f32) (d : Fin 512) : shapeCast S1x512 x shapeCasts_S512_S1x512 (ix2 0 d) = x (ix1 d) := by
  pointwise

theorem V_v0 (c : Dev nD) : V m c main_v0 = shapeCast S1x512 (m ((c : Thread nD τ).loc main_arg2)) shapeCasts_S512_S1x512 := by
  unfold V
  rfl

theorem V_v1 (c : Dev nD) : V m c main_v1 = shapeCast S1x512 (m ((c : Thread nD τ).loc main_arg3)) shapeCasts_S512_S1x512 := by
  unfold V
  rfl

theorem V_v2 (c : Dev nD) : V m c main_v2 = shapeCast S1x512 (m ((c : Thread nD τ).loc main_arg4)) shapeCasts_S512_S1x512 := by
  unfold V
  rfl

theorem taps_block (c : Dev nD) (t : Fin cfg0.N) (k : Fin 31) (d : Fin 512) :
    iblk m c 4 t (ix2 k d) = m ((c : Thread nD τ).loc main_arg1) (ix2 k d) := by
  blk_point [iblk, V, idx t]

theorem bias_block (c : Dev nD) (t : Fin cfg0.N) (d : Fin 512) : iblk m c 5 t (ix2 0 d) = m ((c : Thread nD τ).loc main_arg2) (ix1 d) := by
  have e : (win0_5.blk t).view.emb (ix2 0 d) = ix2 0 d := by blk_ext [idx t]
  show V m c main_v0 ((win0_5.blk t).view.emb (ix2 0 d)) = _
  rw [e, V_v0]
  exact row_at _ d

theorem gain_block (c : Dev nD) (t : Fin cfg0.N) (d : Fin 512) : iblk m c 6 t (ix2 0 d) = m ((c : Thread nD τ).loc main_arg3) (ix1 d) := by
  have e : (win0_6.blk t).view.emb (ix2 0 d) = ix2 0 d := by blk_ext [idx t]
  show V m c main_v1 ((win0_6.blk t).view.emb (ix2 0 d)) = _
  rw [e, V_v1]
  exact row_at _ d

theorem offset_block (c : Dev nD) (t : Fin cfg0.N) (d : Fin 512) : iblk m c 7 t (ix2 0 d) = m ((c : Thread nD τ).loc main_arg4) (ix1 d) := by
  have e : (win0_7.blk t).view.emb (ix2 0 d) = ix2 0 d := by blk_ext [idx t]
  show V m c main_v2 ((win0_7.blk t).view.emb (ix2 0 d)) = _
  rw [e, V_v2]
  exact row_at _ d

theorem own0 (c : Dev nD) (t : Fin cfg0.N) (b : Fin 8) (i : Fin 8) (hb : b.val = (grid0.coords t 0).val) (hi : i.val = (grid0.coords t 1).val)
    (r : Fin 256) (d : Fin 512) :
    iblk m c 0 t (ix3 0 r d) = m ((c : Thread nD τ).loc main_arg0) (ix3 b ⟨i.val * 256 + r.val, by omega⟩ ⟨1536 + d.val, by omega⟩) := by
  blk_point [iblk, V, idx t]

theorem own1 (c : Dev nD) (t : Fin cfg0.N) (b : Fin 8) (i : Fin 8) (hb : b.val = (grid0.coords t 0).val) (hi : i.val = (grid0.coords t 1).val)
    (r : Fin 256) (d : Fin 512) :
    iblk m c 1 t (ix3 0 r d) = m ((c : Thread nD τ).loc main_arg0) (ix3 b ⟨i.val * 256 + r.val, by omega⟩ ⟨2048 + d.val, by omega⟩) := by
  blk_point [iblk, V, idx t]

theorem before0 (c : Dev nD) (t : Fin cfg0.N) (b : Fin 8) (i : Fin 8) (hb : b.val = (grid0.coords t 0).val) (hi : i.val = (grid0.coords t 1).val)
    (h : i.val ≠ 0) (r : Fin 32) (d : Fin 512) :
    iblk m c 2 t (ix3 0 r d) = m ((c : Thread nD τ).loc main_arg0) (ix3 b ⟨i.val * 256 - 32 + r.val, by omega⟩ ⟨1536 + d.val, by omega⟩) := by
  blk_point [iblk, V, idx t]

theorem before1 (c : Dev nD) (t : Fin cfg0.N) (b : Fin 8) (i : Fin 8) (hb : b.val = (grid0.coords t 0).val) (hi : i.val = (grid0.coords t 1).val)
    (h : i.val ≠ 0) (r : Fin 32) (d : Fin 512) :
    iblk m c 3 t (ix3 0 r d) = m ((c : Thread nD τ).loc main_arg0) (ix3 b ⟨i.val * 256 - 32 + r.val, by omega⟩ ⟨2048 + d.val, by omega⟩) := by
  blk_point [iblk, V, idx t]

open Cert.Reference7Ideal.Conv (gated row)

/-- The buffer row that tap `k` reads for row `r` of the block is the row the reference's tap reads. -/
theorem tap_eq (c : Dev nD) (t : Fin cfg0.N) (b : Fin 8) (i : Fin 8) (hb : b.val = (grid0.coords t 0).val) (hi : i.val = (grid0.coords t 1).val)
    (r : Fin 256) (d : Fin 512) (k : Fin 31) :
    from_ (rows (grid0.coords t) (iblk m c 0 t) (iblk m c 1 t) (iblk m c 2 t) (iblk m c 3 t)) (2 + k.val) (by omega) (ix2 r d)
      = past (gated (m ((c : Thread nD τ).loc main_arg0)) b d) ⟨i.val * 256 + r.val, by omega⟩ k := by
  show rows (grid0.coords t) (iblk m c 0 t) (iblk m c 1 t) (iblk m c 2 t) (iblk m c 3 t) (ix2 ⟨2 + k.val + r.val, by omega⟩ d) = _
  unfold rows past gated
  by_cases hq : 2 + k.val + r.val < 32
  · refine (dif_pos hq).trans ((pay4_at (grid0.coords t) (iblk m c 2 t) (iblk m c 3 t) ⟨2 + k.val + r.val, hq⟩ d).trans ?_)
    rw [← hi]
    by_cases h0 : i.val = 0
    · rw [if_pos h0, dif_neg (by show ¬ 30 ≤ k.val + (i.val * 256 + r.val); omega)]
    · rw [if_neg h0, dif_pos (by show 30 ≤ k.val + (i.val * 256 + r.val); omega), before0 m c t b i hb hi h0, before1 m c t b i hb hi h0]
      simp only [show i.val * 256 - 32 + (2 + k.val + r.val) = k.val + (i.val * 256 + r.val) - 30 by omega]
  · refine (dif_neg hq).trans ((pay2_at (iblk m c 0 t) (iblk m c 1 t) ⟨2 + k.val + r.val - 32, by omega⟩ d).trans ?_)
    rw [dif_pos (by show 30 ≤ k.val + (i.val * 256 + r.val); omega), own0 m c t b i hb hi, own1 m c t b i hb hi]
    simp only [show i.val * 256 + (2 + k.val + r.val - 32) = k.val + (i.val * 256 + r.val) - 30 by omega]

/-- One number of one output block is the reference's number at its place in the array. -/
theorem point (c : Dev nD) (t : Fin cfg0.N) (b : Fin 8) (i : Fin 8) (hb : b.val = (grid0.coords t 0).val) (hi : i.val = (grid0.coords t 1).val)
    (r : Fin 256) (d : Fin 512) :
    outsAt0 m c t (ix3 0 r d)
      = row (m ((c : Thread nD τ).loc main_arg0)) (m ((c : Thread nD τ).loc main_arg1)) (m ((c : Thread nD τ).loc main_arg2))
          (m ((c : Thread nD τ).loc main_arg3)) (m ((c : Thread nD τ).loc main_arg4)) b ⟨i.val * 256 + r.val, by omega⟩ d := by
  rw [out_at]
  unfold row conv
  simp only [tap_eq m c t b i hb hi, taps_block, bias_block, gain_block, offset_block]

/-- The reference's result of the given arguments. -/
abbrev REF (x0 : FVec Ideal S8x2048x2560 .bf16) (x1 : FVec Ideal S31x512 .f32) (x2 x3 x4 : FVec Ideal S512 .f32) : FVec Ideal S8x2048x512 .bf16 :=
  Cert.Reference7Ideal.Read.val_main_v256 (F := Ideal) x0 x1 x2 x3 x4

/-- The kernel's result array after the run is the reference's result of the same arguments. -/
theorem final (c : Dev nD) : (dats m 0 c).arrAt 8 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]
  have g0 : (grid0.coords t 0).val < 8 := (grid0.coords t 0).isLt
  have g1 : (grid0.coords t 1).val < 8 := (grid0.coords t 1).isLt
  have hy : y = ix3 0 (y 1) (y 2) := by
    funext a
    match a with
    | ⟨0, _⟩ => exact Fin.ext (by have := (y 0).isLt; change (y 0).val < 1 at this; show (y 0).val = 0; omega)
    | ⟨1, _⟩ => rfl
    | ⟨2, _⟩ => rfl
  rw [hy]
  refine (point m c t ⟨_, g0⟩ ⟨_, g1⟩ rfl rfl (y 1) (y 2)).trans ((Cert.Reference7Ideal.Conv.row_at _ _ _ _ _ _ _ _).symm.trans ?_)
  blk_ext [idx t]

end Cert.Kernel7Ideal.Conv

end
-- ==== Proof.ConvClaim.lean ====
/-
  The claims about the convolution module: the kernel and its idealization run and leave their arguments alone
  (generated), so does the reference, and at all arguments both end with the same result.
-/
module

public import proofs.«01_k».proof.Defs
public import proofs.«01_k».proof.Proof.ConvValue
public import proofs.«01_k».proof.Proof.Gen.Kernel7.Frame
public import proofs.«01_k».proof.Proof.Gen.Reference7Ideal.Run
public import Idealize.ShloMosaic.Lib.Quiescent

@[expose] public section

noncomputable section

open Idealize.ShloMosaic Idealize.ShloMosaic.TcCoe Idealize.SL.Sem

namespace Cert.Proof.Conv

theorem frameKernel : Cert.quiescent_Kernel7 := fun m ρ _ => Cert.Kernel7.Gen.frame m ρ

theorem frameKernelIdeal : Cert.quiescent_Kernel7Ideal := fun m ρ _ => Cert.Kernel7Ideal.Gen.frame m ρ

theorem frameReferenceIdeal : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem algebraic : Cert.algebraic_Kernel7Ideal_Reference7Ideal := by
  intro m g m' g' _ hagree
  refine ⟨fun c => (Cert.Kernel7Ideal.Gen.dats m 0 c).arrAt 8 (Cert.Kernel7Ideal.cfgs 0).N, Cert.Kernel7Ideal.Value.run_blocks m g, ?_⟩
  refine (θ_run _ _ _).mono (fun r h c => ⟨?_, (h c).2⟩) (Cert.Reference7Ideal.Value.run (F := Ideal) m' g')
  refine (h c).1.trans ?_
  refine (Cert.Reference7Ideal.Read.val_main_v256_eq _).trans ?_
  refine Eq.trans ?_ (Cert.Kernel7Ideal.Conv.final m c).symm
  obtain ⟨e0, e1, e2, e3, e4⟩ := hagree c
  rw [← e0, ← e1, ← e2, ← e3, ← e4]

end Cert.Proof.Conv

end
-- ==== Proof.lean ====
/-
  The proof of `Cert.Claim`: the claims of the attention call (Proof/AttnClaim.lean), of the
  call between the two layers (Proof/PostNextClaim.lean) and of the last call (Proof/PostClaim.lean).
-/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.AttnClaim
public import proofs.«01_k».proof.Proof.PostNextClaim
public import proofs.«01_k».proof.Proof.PostClaim
public import proofs.«01_k».proof.Proof.L0InClaim
public import proofs.«01_k».proof.Proof.DiffClaim
public import proofs.«01_k».proof.Proof.PrepClaim
public import proofs.«01_k».proof.Proof.ConvClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Attn.preFacts, Diff.preFacts,
    Attn.frameKernel, Attn.frameKernelIdeal, fun m g _ => Attn.frameKernelIdeal m g trivial,
    Attn.frameReferenceIdeal, fun m g _ => Attn.frameReferenceIdeal m g trivial,
    PostNext.frameKernel, PostNext.frameKernelIdeal, PostNext.frameReferenceIdeal,
    Post.frameKernel, Post.frameKernelIdeal, Post.frameReferenceIdeal,
    L0In.frameKernel, L0In.frameKernelIdeal, L0In.frameReferenceIdeal,
    Diff.frameKernel, Diff.frameKernelIdeal, fun m g _ => Diff.frameKernelIdeal m g trivial,
    Diff.frameReferenceIdeal, fun m g _ => Diff.frameReferenceIdeal m g trivial,
    Prep.frameKernel, Prep.frameKernelIdeal, Prep.frameReferenceIdeal,
    Conv.frameKernel, Conv.frameKernelIdeal, Conv.frameReferenceIdeal,
    trivial, @Attn.algebraic Attn.preFacts, trivial, PostNext.algebraic, trivial, Post.algebraic,
    trivial, L0In.algebraic,
    trivial, @Diff.algebraic Diff.preFacts,
    trivial, Prep.algebraic,
    trivial, Conv.algebraic⟩

end Cert.Proof

end
